-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_GmlpIn (m : (ℓ : Loc Cert.GmlpIn.nD Cert.GmlpIn.τ Cert.GmlpIn.sig) → Buf (Elt Bits) ℓ) : Prop :=
  True

def Pre_GmlpInIdeal (m : (ℓ : Loc Cert.GmlpInIdeal.nD Cert.GmlpInIdeal.τ Cert.GmlpInIdeal.sig) → Buf (Elt Ideal) ℓ) : Prop :=
  True

def Pre_GmlpInReferenceIdeal (m : (ℓ : Loc Cert.GmlpInReferenceIdeal.nD Cert.GmlpInReferenceIdeal.τ Cert.GmlpInReferenceIdeal.sig) → Buf (Elt Ideal) ℓ) : Prop :=
  True

def Pre_NaQkv (m : (ℓ : Loc Cert.NaQkv.nD Cert.NaQkv.τ Cert.NaQkv.sig) → Buf (Elt Bits) ℓ) : Prop :=
  True

def Pre_NaQkvIdeal (m : (ℓ : Loc Cert.NaQkvIdeal.nD Cert.NaQkvIdeal.τ Cert.NaQkvIdeal.sig) → Buf (Elt Ideal) ℓ) : Prop :=
  True

def Pre_NaQkvReferenceIdeal (m : (ℓ : Loc Cert.NaQkvReferenceIdeal.nD Cert.NaQkvReferenceIdeal.τ Cert.NaQkvReferenceIdeal.sig) → Buf (Elt Ideal) ℓ) : Prop :=
  True

def Pre_GaQkv (m : (ℓ : Loc Cert.GaQkv.nD Cert.GaQkv.τ Cert.GaQkv.sig) → Buf (Elt Bits) ℓ) : Prop :=
  True

def Pre_GaQkvIdeal (m : (ℓ : Loc Cert.GaQkvIdeal.nD Cert.GaQkvIdeal.τ Cert.GaQkvIdeal.sig) → Buf (Elt Ideal) ℓ) : Prop :=
  True

def Pre_GaQkvReferenceIdeal (m : (ℓ : Loc Cert.GaQkvReferenceIdeal.nD Cert.GaQkvReferenceIdeal.τ Cert.GaQkvReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_CombineLast (m : (ℓ : Loc Cert.CombineLast.nD Cert.CombineLast.τ Cert.CombineLast.sig) → Buf (Elt Bits) ℓ) : Prop :=
  True

def Pre_CombineLastIdeal (m : (ℓ : Loc Cert.CombineLastIdeal.nD Cert.CombineLastIdeal.τ Cert.CombineLastIdeal.sig) → Buf (Elt Ideal) ℓ) : Prop :=
  True

def Pre_CombineLastReferenceIdeal (m : (ℓ : Loc Cert.CombineLastReferenceIdeal.nD Cert.CombineLastReferenceIdeal.τ Cert.CombineLastReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_GmlpIn [hGmlpIn : Cert.GmlpIn.Facts] : Prop :=
  ∀ (m : (ℓ : Loc Cert.GmlpIn.nD Cert.GmlpIn.τ Cert.GmlpIn.sig) → Buf (Elt Bits) ℓ) (g : Dev Cert.GmlpIn.nD → PrngReg), Pre_GmlpIn m →
    θ_run (Cert.GmlpIn.defs (F := Bits)) (onTc (τ := Cert.GmlpIn.τ) (Cert.GmlpIn.main (F := Bits))) ⟨m, fun _ => 0, g⟩ (fun r => (∀ c : Dev Cert.GmlpIn.nD,
      r.2.mem ((c.tc : Thread Cert.GmlpIn.nD Cert.GmlpIn.τ).loc Cert.GmlpIn.main_arg0) = m ((c.tc : Thread Cert.GmlpIn.nD Cert.GmlpIn.τ).loc Cert.GmlpIn.main_arg0)
      ∧ r.2.mem ((c.tc : Thread Cert.GmlpIn.nD Cert.GmlpIn.τ).loc Cert.GmlpIn.main_arg1) = m ((c.tc : Thread Cert.GmlpIn.nD Cert.GmlpIn.τ).loc Cert.GmlpIn.main_arg1))
      ∧ r.2.sem = fun _ => 0)

def quiescent_GmlpInIdeal [hGmlpInIdeal : Cert.GmlpInIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg), Pre_GmlpInIdeal m →
    θ_run (Cert.GmlpInIdeal.defs (F := Ideal)) (onTc (τ := Cert.GmlpInIdeal.τ) (Cert.GmlpInIdeal.main (F := Ideal))) ⟨m, fun _ => 0, g⟩ (fun r => (∀ c : Dev Cert.GmlpInIdeal.nD,
      r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
      ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1))
      ∧ r.2.sem = fun _ => 0)

def quiescent_GmlpInReferenceIdeal [hGmlpInReferenceIdeal : Cert.GmlpInReferenceIdeal.Facts] : Prop :=
  ∀ (m : (ℓ : Loc Cert.GmlpInReferenceIdeal.nD Cert.GmlpInReferenceIdeal.τ Cert.GmlpInReferenceIdeal.sig) → Buf (Elt Ideal) ℓ) (g : Dev Cert.GmlpInReferenceIdeal.nD → PrngReg), Pre_GmlpInReferenceIdeal m →
    θ_run (Cert.GmlpInReferenceIdeal.defs (F := Ideal)) (onTc (τ := Cert.GmlpInReferenceIdeal.τ) (Cert.GmlpInReferenceIdeal.main (F := Ideal))) ⟨m, fun _ => 0, g⟩ (fun r => (∀ c : Dev Cert.GmlpInReferenceIdeal.nD,
      r.2.mem ((c.tc : Thread Cert.GmlpInReferenceIdeal.nD Cert.GmlpInReferenceIdeal.τ).loc Cert.GmlpInReferenceIdeal.main_arg0) = m ((c.tc : Thread Cert.GmlpInReferenceIdeal.nD Cert.GmlpInReferenceIdeal.τ).loc Cert.GmlpInReferenceIdeal.main_arg0)
      ∧ r.2.mem ((c.tc : Thread Cert.GmlpInReferenceIdeal.nD Cert.GmlpInReferenceIdeal.τ).loc Cert.GmlpInReferenceIdeal.main_arg1) = m ((c.tc : Thread Cert.GmlpInReferenceIdeal.nD Cert.GmlpInReferenceIdeal.τ).loc Cert.GmlpInReferenceIdeal.main_arg1))
      ∧ r.2.sem = fun _ => 0)

def quiescent_NaQkv [hNaQkv : Cert.NaQkv.Facts] : Prop :=
  ∀ (m : (ℓ : Loc Cert.NaQkv.nD Cert.NaQkv.τ Cert.NaQkv.sig) → Buf (Elt Bits) ℓ) (g : Dev Cert.NaQkv.nD → PrngReg), Pre_NaQkv m →
    θ_run (Cert.NaQkv.defs (F := Bits)) (onTc (τ := Cert.NaQkv.τ) (Cert.NaQkv.main (F := Bits))) ⟨m, fun _ => 0, g⟩ (fun r => (∀ c : Dev Cert.NaQkv.nD,
      r.2.mem ((c.tc : Thread Cert.NaQkv.nD Cert.NaQkv.τ).loc Cert.NaQkv.main_arg0) = m ((c.tc : Thread Cert.NaQkv.nD Cert.NaQkv.τ).loc Cert.NaQkv.main_arg0)
      ∧ r.2.mem ((c.tc : Thread Cert.NaQkv.nD Cert.NaQkv.τ).loc Cert.NaQkv.main_arg1) = m ((c.tc : Thread Cert.NaQkv.nD Cert.NaQkv.τ).loc Cert.NaQkv.main_arg1))
      ∧ r.2.sem = fun _ => 0)

def quiescent_NaQkvIdeal [hNaQkvIdeal : Cert.NaQkvIdeal.Facts] : Prop :=
  ∀ (m : (ℓ : Loc Cert.NaQkvIdeal.nD Cert.NaQkvIdeal.τ Cert.NaQkvIdeal.sig) → Buf (Elt Ideal) ℓ) (g : Dev Cert.NaQkvIdeal.nD → PrngReg), Pre_NaQkvIdeal m →
    θ_run (Cert.NaQkvIdeal.defs (F := Ideal)) (onTc (τ := Cert.NaQkvIdeal.τ) (Cert.NaQkvIdeal.main (F := Ideal))) ⟨m, fun _ => 0, g⟩ (fun r => (∀ c : Dev Cert.NaQkvIdeal.nD,
      r.2.mem ((c.tc : Thread Cert.NaQkvIdeal.nD Cert.NaQkvIdeal.τ).loc Cert.NaQkvIdeal.main_arg0) = m ((c.tc : Thread Cert.NaQkvIdeal.nD Cert.NaQkvIdeal.τ).loc Cert.NaQkvIdeal.main_arg0)
      ∧ r.2.mem ((c.tc : Thread Cert.NaQkvIdeal.nD Cert.NaQkvIdeal.τ).loc Cert.NaQkvIdeal.main_arg1) = m ((c.tc : Thread Cert.NaQkvIdeal.nD Cert.NaQkvIdeal.τ).loc Cert.NaQkvIdeal.main_arg1))
      ∧ r.2.sem = fun _ => 0)

def quiescent_NaQkvReferenceIdeal [hNaQkvReferenceIdeal : Cert.NaQkvReferenceIdeal.Facts] : Prop :=
  ∀ (m : (ℓ : Loc Cert.NaQkvReferenceIdeal.nD Cert.NaQkvReferenceIdeal.τ Cert.NaQkvReferenceIdeal.sig) → Buf (Elt Ideal) ℓ) (g : Dev Cert.NaQkvReferenceIdeal.nD → PrngReg), Pre_NaQkvReferenceIdeal m →
    θ_run (Cert.NaQkvReferenceIdeal.defs (F := Ideal)) (onTc (τ := Cert.NaQkvReferenceIdeal.τ) (Cert.NaQkvReferenceIdeal.main (F := Ideal))) ⟨m, fun _ => 0, g⟩ (fun r => (∀ c : Dev Cert.NaQkvReferenceIdeal.nD,
      r.2.mem ((c.tc : Thread Cert.NaQkvReferenceIdeal.nD Cert.NaQkvReferenceIdeal.τ).loc Cert.NaQkvReferenceIdeal.main_arg0) = m ((c.tc : Thread Cert.NaQkvReferenceIdeal.nD Cert.NaQkvReferenceIdeal.τ).loc Cert.NaQkvReferenceIdeal.main_arg0)
      ∧ r.2.mem ((c.tc : Thread Cert.NaQkvReferenceIdeal.nD Cert.NaQkvReferenceIdeal.τ).loc Cert.NaQkvReferenceIdeal.main_arg1) = m ((c.tc : Thread Cert.NaQkvReferenceIdeal.nD Cert.NaQkvReferenceIdeal.τ).loc Cert.NaQkvReferenceIdeal.main_arg1))
      ∧ r.2.sem = fun _ => 0)

def quiescent_GaQkv [hGaQkv : Cert.GaQkv.Facts] : Prop :=
  ∀ (m : (ℓ : Loc Cert.GaQkv.nD Cert.GaQkv.τ Cert.GaQkv.sig) → Buf (Elt Bits) ℓ) (g : Dev Cert.GaQkv.nD → PrngReg), Pre_GaQkv m →
    θ_run (Cert.GaQkv.defs (F := Bits)) (onTc (τ := Cert.GaQkv.τ) (Cert.GaQkv.main (F := Bits))) ⟨m, fun _ => 0, g⟩ (fun r => (∀ c : Dev Cert.GaQkv.nD,
      r.2.mem ((c.tc : Thread Cert.GaQkv.nD Cert.GaQkv.τ).loc Cert.GaQkv.main_arg0) = m ((c.tc : Thread Cert.GaQkv.nD Cert.GaQkv.τ).loc Cert.GaQkv.main_arg0)
      ∧ r.2.mem ((c.tc : Thread Cert.GaQkv.nD Cert.GaQkv.τ).loc Cert.GaQkv.main_arg1) = m ((c.tc : Thread Cert.GaQkv.nD Cert.GaQkv.τ).loc Cert.GaQkv.main_arg1))
      ∧ r.2.sem = fun _ => 0)

def quiescent_GaQkvIdeal [hGaQkvIdeal : Cert.GaQkvIdeal.Facts] : Prop :=
  ∀ (m : (ℓ : Loc Cert.GaQkvIdeal.nD Cert.GaQkvIdeal.τ Cert.GaQkvIdeal.sig) → Buf (Elt Ideal) ℓ) (g : Dev Cert.GaQkvIdeal.nD → PrngReg), Pre_GaQkvIdeal m →
    θ_run (Cert.GaQkvIdeal.defs (F := Ideal)) (onTc (τ := Cert.GaQkvIdeal.τ) (Cert.GaQkvIdeal.main (F := Ideal))) ⟨m, fun _ => 0, g⟩ (fun r => (∀ c : Dev Cert.GaQkvIdeal.nD,
      r.2.mem ((c.tc : Thread Cert.GaQkvIdeal.nD Cert.GaQkvIdeal.τ).loc Cert.GaQkvIdeal.main_arg0) = m ((c.tc : Thread Cert.GaQkvIdeal.nD Cert.GaQkvIdeal.τ).loc Cert.GaQkvIdeal.main_arg0)
      ∧ r.2.mem ((c.tc : Thread Cert.GaQkvIdeal.nD Cert.GaQkvIdeal.τ).loc Cert.GaQkvIdeal.main_arg1) = m ((c.tc : Thread Cert.GaQkvIdeal.nD Cert.GaQkvIdeal.τ).loc Cert.GaQkvIdeal.main_arg1))
      ∧ r.2.sem = fun _ => 0)

def quiescent_GaQkvReferenceIdeal [hGaQkvReferenceIdeal : Cert.GaQkvReferenceIdeal.Facts] : Prop :=
  ∀ (m : (ℓ : Loc Cert.GaQkvReferenceIdeal.nD Cert.GaQkvReferenceIdeal.τ Cert.GaQkvReferenceIdeal.sig) → Buf (Elt Ideal) ℓ) (g : Dev Cert.GaQkvReferenceIdeal.nD → PrngReg), Pre_GaQkvReferenceIdeal m →
    θ_run (Cert.GaQkvReferenceIdeal.defs (F := Ideal)) (onTc (τ := Cert.GaQkvReferenceIdeal.τ) (Cert.GaQkvReferenceIdeal.main (F := Ideal))) ⟨m, fun _ => 0, g⟩ (fun r => (∀ c : Dev Cert.GaQkvReferenceIdeal.nD,
      r.2.mem ((c.tc : Thread Cert.GaQkvReferenceIdeal.nD Cert.GaQkvReferenceIdeal.τ).loc Cert.GaQkvReferenceIdeal.main_arg0) = m ((c.tc : Thread Cert.GaQkvReferenceIdeal.nD Cert.GaQkvReferenceIdeal.τ).loc Cert.GaQkvReferenceIdeal.main_arg0)
      ∧ r.2.mem ((c.tc : Thread Cert.GaQkvReferenceIdeal.nD Cert.GaQkvReferenceIdeal.τ).loc Cert.GaQkvReferenceIdeal.main_arg1) = m ((c.tc : Thread Cert.GaQkvReferenceIdeal.nD Cert.GaQkvReferenceIdeal.τ).loc Cert.GaQkvReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6)
      ∧ r.2.mem ((c.tc : Thread Cert.Combine.nD Cert.Combine.τ).loc Cert.Combine.main_arg7) = m ((c.tc : Thread Cert.Combine.nD Cert.Combine.τ).loc Cert.Combine.main_arg7)
      ∧ r.2.mem ((c.tc : Thread Cert.Combine.nD Cert.Combine.τ).loc Cert.Combine.main_arg8) = m ((c.tc : Thread Cert.Combine.nD Cert.Combine.τ).loc Cert.Combine.main_arg8)
      ∧ r.2.mem ((c.tc : Thread Cert.Combine.nD Cert.Combine.τ).loc Cert.Combine.main_arg9) = m ((c.tc : Thread Cert.Combine.nD Cert.Combine.τ).loc Cert.Combine.main_arg9)
      ∧ r.2.mem ((c.tc : Thread Cert.Combine.nD Cert.Combine.τ).loc Cert.Combine.main_arg10) = m ((c.tc : Thread Cert.Combine.nD Cert.Combine.τ).loc Cert.Combine.main_arg10))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
      ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8)
      ∧ r.2.mem ((c.tc : Thread Cert.CombineIdeal.nD Cert.CombineIdeal.τ).loc Cert.CombineIdeal.main_arg9) = m ((c.tc : Thread Cert.CombineIdeal.nD Cert.CombineIdeal.τ).loc Cert.CombineIdeal.main_arg9)
      ∧ r.2.mem ((c.tc : Thread Cert.CombineIdeal.nD Cert.CombineIdeal.τ).loc Cert.CombineIdeal.main_arg10) = m ((c.tc : Thread Cert.CombineIdeal.nD Cert.CombineIdeal.τ).loc Cert.CombineIdeal.main_arg10))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5)
      ∧ r.2.mem ((c.tc : Thread Cert.CombineReferenceIdeal.nD Cert.CombineReferenceIdeal.τ).loc Cert.CombineReferenceIdeal.main_arg6) = m ((c.tc : Thread Cert.CombineReferenceIdeal.nD Cert.CombineReferenceIdeal.τ).loc Cert.CombineReferenceIdeal.main_arg6)
      ∧ r.2.mem ((c.tc : Thread Cert.CombineReferenceIdeal.nD Cert.CombineReferenceIdeal.τ).loc Cert.CombineReferenceIdeal.main_arg7) = m ((c.tc : Thread Cert.CombineReferenceIdeal.nD Cert.CombineReferenceIdeal.τ).loc Cert.CombineReferenceIdeal.main_arg7)
      ∧ r.2.mem ((c.tc : Thread Cert.CombineReferenceIdeal.nD Cert.CombineReferenceIdeal.τ).loc Cert.CombineReferenceIdeal.main_arg8) = m ((c.tc : Thread Cert.CombineReferenceIdeal.nD Cert.CombineReferenceIdeal.τ).loc Cert.CombineReferenceIdeal.main_arg8)
      ∧ r.2.mem ((c.tc : Thread Cert.CombineReferenceIdeal.nD Cert.CombineReferenceIdeal.τ).loc Cert.CombineReferenceIdeal.main_arg9) = m ((c.tc : Thread Cert.CombineReferenceIdeal.nD Cert.CombineReferenceIdeal.τ).loc Cert.CombineReferenceIdeal.main_arg9)
      ∧ r.2.mem ((c.tc : Thread Cert.CombineReferenceIdeal.nD Cert.CombineReferenceIdeal.τ).loc Cert.CombineReferenceIdeal.main_arg10) = m ((c.tc : Thread Cert.CombineReferenceIdeal.nD Cert.CombineReferenceIdeal.τ).loc Cert.CombineReferenceIdeal.main_arg10))
      ∧ r.2.sem = fun _ => 0)

def quiescent_CombineLast [hCombineLast : Cert.CombineLast.Facts] : Prop :=
  ∀ (m : (ℓ : Loc Cert.CombineLast.nD Cert.CombineLast.τ Cert.CombineLast.sig) → Buf (Elt Bits) ℓ) (g : Dev Cert.CombineLast.nD → PrngReg), Pre_CombineLast m →
    θ_run (Cert.CombineLast.defs (F := Bits)) (onTc (τ := Cert.CombineLast.τ) (Cert.CombineLast.main (F := Bits))) ⟨m, fun _ => 0, g⟩ (fun r => (∀ c : Dev Cert.CombineLast.nD,
      r.2.mem ((c.tc : Thread Cert.CombineLast.nD Cert.CombineLast.τ).loc Cert.CombineLast.main_arg0) = m ((c.tc : Thread Cert.CombineLast.nD Cert.CombineLast.τ).loc Cert.CombineLast.main_arg0)
      ∧ r.2.mem ((c.tc : Thread Cert.CombineLast.nD Cert.CombineLast.τ).loc Cert.CombineLast.main_arg1) = m ((c.tc : Thread Cert.CombineLast.nD Cert.CombineLast.τ).loc Cert.CombineLast.main_arg1)
      ∧ r.2.mem ((c.tc : Thread Cert.CombineLast.nD Cert.CombineLast.τ).loc Cert.CombineLast.main_arg2) = m ((c.tc : Thread Cert.CombineLast.nD Cert.CombineLast.τ).loc Cert.CombineLast.main_arg2)
      ∧ r.2.mem ((c.tc : Thread Cert.CombineLast.nD Cert.CombineLast.τ).loc Cert.CombineLast.main_arg3) = m ((c.tc : Thread Cert.CombineLast.nD Cert.CombineLast.τ).loc Cert.CombineLast.main_arg3)
      ∧ r.2.mem ((c.tc : Thread Cert.CombineLast.nD Cert.CombineLast.τ).loc Cert.CombineLast.main_arg4) = m ((c.tc : Thread Cert.CombineLast.nD Cert.CombineLast.τ).loc Cert.CombineLast.main_arg4)
      ∧ r.2.mem ((c.tc : Thread Cert.CombineLast.nD Cert.CombineLast.τ).loc Cert.CombineLast.main_arg5) = m ((c.tc : Thread Cert.CombineLast.nD Cert.CombineLast.τ).loc Cert.CombineLast.main_arg5)
      ∧ r.2.mem ((c.tc : Thread Cert.CombineLast.nD Cert.CombineLast.τ).loc Cert.CombineLast.main_arg6) = m ((c.tc : Thread Cert.CombineLast.nD Cert.CombineLast.τ).loc Cert.CombineLast.main_arg6)
      ∧ r.2.mem ((c.tc : Thread Cert.CombineLast.nD Cert.CombineLast.τ).loc Cert.CombineLast.main_arg7) = m ((c.tc : Thread Cert.CombineLast.nD Cert.CombineLast.τ).loc Cert.CombineLast.main_arg7)
      ∧ r.2.mem ((c.tc : Thread Cert.CombineLast.nD Cert.CombineLast.τ).loc Cert.CombineLast.main_arg8) = m ((c.tc : Thread Cert.CombineLast.nD Cert.CombineLast.τ).loc Cert.CombineLast.main_arg8)
      ∧ r.2.mem ((c.tc : Thread Cert.CombineLast.nD Cert.CombineLast.τ).loc Cert.CombineLast.main_arg9) = m ((c.tc : Thread Cert.CombineLast.nD Cert.CombineLast.τ).loc Cert.CombineLast.main_arg9))
      ∧ r.2.sem = fun _ => 0)

def quiescent_CombineLastIdeal [hCombineLastIdeal : Cert.CombineLastIdeal.Facts] : Prop :=
  ∀ (m : (ℓ : Loc Cert.CombineLastIdeal.nD Cert.CombineLastIdeal.τ Cert.CombineLastIdeal.sig) → Buf (Elt Ideal) ℓ) (g : Dev Cert.CombineLastIdeal.nD → PrngReg), Pre_CombineLastIdeal m →
    θ_run (Cert.CombineLastIdeal.defs (F := Ideal)) (onTc (τ := Cert.CombineLastIdeal.τ) (Cert.CombineLastIdeal.main (F := Ideal))) ⟨m, fun _ => 0, g⟩ (fun r => (∀ c : Dev Cert.CombineLastIdeal.nD,
      r.2.mem ((c.tc : Thread Cert.CombineLastIdeal.nD Cert.CombineLastIdeal.τ).loc Cert.CombineLastIdeal.main_arg0) = m ((c.tc : Thread Cert.CombineLastIdeal.nD Cert.CombineLastIdeal.τ).loc Cert.CombineLastIdeal.main_arg0)
      ∧ r.2.mem ((c.tc : Thread Cert.CombineLastIdeal.nD Cert.CombineLastIdeal.τ).loc Cert.CombineLastIdeal.main_arg1) = m ((c.tc : Thread Cert.CombineLastIdeal.nD Cert.CombineLastIdeal.τ).loc Cert.CombineLastIdeal.main_arg1)
      ∧ r.2.mem ((c.tc : Thread Cert.CombineLastIdeal.nD Cert.CombineLastIdeal.τ).loc Cert.CombineLastIdeal.main_arg2) = m ((c.tc : Thread Cert.CombineLastIdeal.nD Cert.CombineLastIdeal.τ).loc Cert.CombineLastIdeal.main_arg2)
      ∧ r.2.mem ((c.tc : Thread Cert.CombineLastIdeal.nD Cert.CombineLastIdeal.τ).loc Cert.CombineLastIdeal.main_arg3) = m ((c.tc : Thread Cert.CombineLastIdeal.nD Cert.CombineLastIdeal.τ).loc Cert.CombineLastIdeal.main_arg3)
      ∧ r.2.mem ((c.tc : Thread Cert.CombineLastIdeal.nD Cert.CombineLastIdeal.τ).loc Cert.CombineLastIdeal.main_arg4) = m ((c.tc : Thread Cert.CombineLastIdeal.nD Cert.CombineLastIdeal.τ).loc Cert.CombineLastIdeal.main_arg4)
      ∧ r.2.mem ((c.tc : Thread Cert.CombineLastIdeal.nD Cert.CombineLastIdeal.τ).loc Cert.CombineLastIdeal.main_arg5) = m ((c.tc : Thread Cert.CombineLastIdeal.nD Cert.CombineLastIdeal.τ).loc Cert.CombineLastIdeal.main_arg5)
      ∧ r.2.mem ((c.tc : Thread Cert.CombineLastIdeal.nD Cert.CombineLastIdeal.τ).loc Cert.CombineLastIdeal.main_arg6) = m ((c.tc : Thread Cert.CombineLastIdeal.nD Cert.CombineLastIdeal.τ).loc Cert.CombineLastIdeal.main_arg6)
      ∧ r.2.mem ((c.tc : Thread Cert.CombineLastIdeal.nD Cert.CombineLastIdeal.τ).loc Cert.CombineLastIdeal.main_arg7) = m ((c.tc : Thread Cert.CombineLastIdeal.nD Cert.CombineLastIdeal.τ).loc Cert.CombineLastIdeal.main_arg7)
      ∧ r.2.mem ((c.tc : Thread Cert.CombineLastIdeal.nD Cert.CombineLastIdeal.τ).loc Cert.CombineLastIdeal.main_arg8) = m ((c.tc : Thread Cert.CombineLastIdeal.nD Cert.CombineLastIdeal.τ).loc Cert.CombineLastIdeal.main_arg8)
      ∧ r.2.mem ((c.tc : Thread Cert.CombineLastIdeal.nD Cert.CombineLastIdeal.τ).loc Cert.CombineLastIdeal.main_arg9) = m ((c.tc : Thread Cert.CombineLastIdeal.nD Cert.CombineLastIdeal.τ).loc Cert.CombineLastIdeal.main_arg9))
      ∧ r.2.sem = fun _ => 0)

def quiescent_CombineLastReferenceIdeal [hCombineLastReferenceIdeal : Cert.CombineLastReferenceIdeal.Facts] : Prop :=
  ∀ (m : (ℓ : Loc Cert.CombineLastReferenceIdeal.nD Cert.CombineLastReferenceIdeal.τ Cert.CombineLastReferenceIdeal.sig) → Buf (Elt Ideal) ℓ) (g : Dev Cert.CombineLastReferenceIdeal.nD → PrngReg), Pre_CombineLastReferenceIdeal m →
    θ_run (Cert.CombineLastReferenceIdeal.defs (F := Ideal)) (onTc (τ := Cert.CombineLastReferenceIdeal.τ) (Cert.CombineLastReferenceIdeal.main (F := Ideal))) ⟨m, fun _ => 0, g⟩ (fun r => (∀ c : Dev Cert.CombineLastReferenceIdeal.nD,
      r.2.mem ((c.tc : Thread Cert.CombineLastReferenceIdeal.nD Cert.CombineLastReferenceIdeal.τ).loc Cert.CombineLastReferenceIdeal.main_arg0) = m ((c.tc : Thread Cert.CombineLastReferenceIdeal.nD Cert.CombineLastReferenceIdeal.τ).loc Cert.CombineLastReferenceIdeal.main_arg0)
      ∧ r.2.mem ((c.tc : Thread Cert.CombineLastReferenceIdeal.nD Cert.CombineLastReferenceIdeal.τ).loc Cert.CombineLastReferenceIdeal.main_arg1) = m ((c.tc : Thread Cert.CombineLastReferenceIdeal.nD Cert.CombineLastReferenceIdeal.τ).loc Cert.CombineLastReferenceIdeal.main_arg1)
      ∧ r.2.mem ((c.tc : Thread Cert.CombineLastReferenceIdeal.nD Cert.CombineLastReferenceIdeal.τ).loc Cert.CombineLastReferenceIdeal.main_arg2) = m ((c.tc : Thread Cert.CombineLastReferenceIdeal.nD Cert.CombineLastReferenceIdeal.τ).loc Cert.CombineLastReferenceIdeal.main_arg2)
      ∧ r.2.mem ((c.tc : Thread Cert.CombineLastReferenceIdeal.nD Cert.CombineLastReferenceIdeal.τ).loc Cert.CombineLastReferenceIdeal.main_arg3) = m ((c.tc : Thread Cert.CombineLastReferenceIdeal.nD Cert.CombineLastReferenceIdeal.τ).loc Cert.CombineLastReferenceIdeal.main_arg3)
      ∧ r.2.mem ((c.tc : Thread Cert.CombineLastReferenceIdeal.nD Cert.CombineLastReferenceIdeal.τ).loc Cert.CombineLastReferenceIdeal.main_arg4) = m ((c.tc : Thread Cert.CombineLastReferenceIdeal.nD Cert.CombineLastReferenceIdeal.τ).loc Cert.CombineLastReferenceIdeal.main_arg4)
      ∧ r.2.mem ((c.tc : Thread Cert.CombineLastReferenceIdeal.nD Cert.CombineLastReferenceIdeal.τ).loc Cert.CombineLastReferenceIdeal.main_arg5) = m ((c.tc : Thread Cert.CombineLastReferenceIdeal.nD Cert.CombineLastReferenceIdeal.τ).loc Cert.CombineLastReferenceIdeal.main_arg5)
      ∧ r.2.mem ((c.tc : Thread Cert.CombineLastReferenceIdeal.nD Cert.CombineLastReferenceIdeal.τ).loc Cert.CombineLastReferenceIdeal.main_arg6) = m ((c.tc : Thread Cert.CombineLastReferenceIdeal.nD Cert.CombineLastReferenceIdeal.τ).loc Cert.CombineLastReferenceIdeal.main_arg6)
      ∧ r.2.mem ((c.tc : Thread Cert.CombineLastReferenceIdeal.nD Cert.CombineLastReferenceIdeal.τ).loc Cert.CombineLastReferenceIdeal.main_arg7) = m ((c.tc : Thread Cert.CombineLastReferenceIdeal.nD Cert.CombineLastReferenceIdeal.τ).loc Cert.CombineLastReferenceIdeal.main_arg7)
      ∧ r.2.mem ((c.tc : Thread Cert.CombineLastReferenceIdeal.nD Cert.CombineLastReferenceIdeal.τ).loc Cert.CombineLastReferenceIdeal.main_arg8) = m ((c.tc : Thread Cert.CombineLastReferenceIdeal.nD Cert.CombineLastReferenceIdeal.τ).loc Cert.CombineLastReferenceIdeal.main_arg8)
      ∧ r.2.mem ((c.tc : Thread Cert.CombineLastReferenceIdeal.nD Cert.CombineLastReferenceIdeal.τ).loc Cert.CombineLastReferenceIdeal.main_arg9) = m ((c.tc : Thread Cert.CombineLastReferenceIdeal.nD Cert.CombineLastReferenceIdeal.τ).loc Cert.CombineLastReferenceIdeal.main_arg9))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_GmlpIn_GmlpInIdeal : Prop :=
  True

def algebraic_GmlpInIdeal_GmlpInReferenceIdeal [hGmlpInIdeal : Cert.GmlpInIdeal.Facts] [hGmlpInReferenceIdeal : Cert.GmlpInReferenceIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg)
    (m' : (ℓ : Loc Cert.GmlpInReferenceIdeal.nD Cert.GmlpInReferenceIdeal.τ Cert.GmlpInReferenceIdeal.sig) → Buf (Elt Ideal) ℓ) (g' : Dev Cert.GmlpInReferenceIdeal.nD → PrngReg), Pre_GmlpInIdeal m →
    (∀ c : Dev Cert.GmlpInIdeal.nD,
      m' ((c.tc : Thread Cert.GmlpInReferenceIdeal.nD Cert.GmlpInReferenceIdeal.τ).loc Cert.GmlpInReferenceIdeal.main_arg0) = m ((c.tc : Thread Cert.GmlpInIdeal.nD Cert.GmlpInIdeal.τ).loc Cert.GmlpInIdeal.main_arg0)
      ∧ m' ((c.tc : Thread Cert.GmlpInReferenceIdeal.nD Cert.GmlpInReferenceIdeal.τ).loc Cert.GmlpInReferenceIdeal.main_arg1) = m ((c.tc : Thread Cert.GmlpInIdeal.nD Cert.GmlpInIdeal.τ).loc Cert.GmlpInIdeal.main_arg1)) →
    ∃ (v0 : (c : Dev Cert.GmlpInIdeal.nD) → Buf (Elt Ideal) ((c.tc : Thread Cert.GmlpInIdeal.nD Cert.GmlpInIdeal.τ).loc Cert.GmlpInIdeal.main_v1)),
      θ_run (Cert.GmlpInIdeal.defs (F := Ideal)) (onTc (τ := Cert.GmlpInIdeal.τ) (Cert.GmlpInIdeal.main (F := Ideal))) ⟨m, fun _ => 0, g⟩ (fun r => ∀ c : Dev Cert.GmlpInIdeal.nD,
          r.2.mem ((c.tc : Thread Cert.GmlpInIdeal.nD Cert.GmlpInIdeal.τ).loc Cert.GmlpInIdeal.main_v1) = v0 c
          ∧ r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
          ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1))
      ∧ θ_run (Cert.GmlpInReferenceIdeal.defs (F := Ideal)) (onTc (τ := Cert.GmlpInReferenceIdeal.τ) (Cert.GmlpInReferenceIdeal.main (F := Ideal))) ⟨m', fun _ => 0, g'⟩ (fun r => ∀ c : Dev Cert.GmlpInReferenceIdeal.nD,
          r.2.mem ((c.tc : Thread Cert.GmlpInReferenceIdeal.nD Cert.GmlpInReferenceIdeal.τ).loc Cert.GmlpInReferenceIdeal.main_v15) = v0 c
          ∧ r.2.mem ((c.tc : Thread Cert.GmlpInReferenceIdeal.nD Cert.GmlpInReferenceIdeal.τ).loc Cert.GmlpInReferenceIdeal.main_arg0) = m' ((c.tc : Thread Cert.GmlpInReferenceIdeal.nD Cert.GmlpInReferenceIdeal.τ).loc Cert.GmlpInReferenceIdeal.main_arg0)
          ∧ r.2.mem ((c.tc : Thread Cert.GmlpInReferenceIdeal.nD Cert.GmlpInReferenceIdeal.τ).loc Cert.GmlpInReferenceIdeal.main_arg1) = m' ((c.tc : Thread Cert.GmlpInReferenceIdeal.nD Cert.GmlpInReferenceIdeal.τ).loc Cert.GmlpInReferenceIdeal.main_arg1))

def preserves_NaQkv_NaQkvIdeal : Prop :=
  True

def algebraic_NaQkvIdeal_NaQkvReferenceIdeal [hNaQkvIdeal : Cert.NaQkvIdeal.Facts] [hNaQkvReferenceIdeal : Cert.NaQkvReferenceIdeal.Facts] : Prop :=
  ∀ (m : (ℓ : Loc Cert.NaQkvIdeal.nD Cert.NaQkvIdeal.τ Cert.NaQkvIdeal.sig) → Buf (Elt Ideal) ℓ) (g : Dev Cert.NaQkvIdeal.nD → PrngReg)
    (m' : (ℓ : Loc Cert.NaQkvReferenceIdeal.nD Cert.NaQkvReferenceIdeal.τ Cert.NaQkvReferenceIdeal.sig) → Buf (Elt Ideal) ℓ) (g' : Dev Cert.NaQkvReferenceIdeal.nD → PrngReg), Pre_NaQkvIdeal m →
    (∀ c : Dev Cert.NaQkvIdeal.nD,
      m' ((c.tc : Thread Cert.NaQkvReferenceIdeal.nD Cert.NaQkvReferenceIdeal.τ).loc Cert.NaQkvReferenceIdeal.main_arg0) = m ((c.tc : Thread Cert.NaQkvIdeal.nD Cert.NaQkvIdeal.τ).loc Cert.NaQkvIdeal.main_arg0)
      ∧ m' ((c.tc : Thread Cert.NaQkvReferenceIdeal.nD Cert.NaQkvReferenceIdeal.τ).loc Cert.NaQkvReferenceIdeal.main_arg1) = m ((c.tc : Thread Cert.NaQkvIdeal.nD Cert.NaQkvIdeal.τ).loc Cert.NaQkvIdeal.main_arg1)) →
    ∃ (v0 : (c : Dev Cert.NaQkvIdeal.nD) → Buf (Elt Ideal) ((c.tc : Thread Cert.NaQkvIdeal.nD Cert.NaQkvIdeal.τ).loc Cert.NaQkvIdeal.main_v1)),
      θ_run (Cert.NaQkvIdeal.defs (F := Ideal)) (onTc (τ := Cert.NaQkvIdeal.τ) (Cert.NaQkvIdeal.main (F := Ideal))) ⟨m, fun _ => 0, g⟩ (fun r => ∀ c : Dev Cert.NaQkvIdeal.nD,
          r.2.mem ((c.tc : Thread Cert.NaQkvIdeal.nD Cert.NaQkvIdeal.τ).loc Cert.NaQkvIdeal.main_v1) = v0 c
          ∧ r.2.mem ((c.tc : Thread Cert.NaQkvIdeal.nD Cert.NaQkvIdeal.τ).loc Cert.NaQkvIdeal.main_arg0) = m ((c.tc : Thread Cert.NaQkvIdeal.nD Cert.NaQkvIdeal.τ).loc Cert.NaQkvIdeal.main_arg0)
          ∧ r.2.mem ((c.tc : Thread Cert.NaQkvIdeal.nD Cert.NaQkvIdeal.τ).loc Cert.NaQkvIdeal.main_arg1) = m ((c.tc : Thread Cert.NaQkvIdeal.nD Cert.NaQkvIdeal.τ).loc Cert.NaQkvIdeal.main_arg1))
      ∧ θ_run (Cert.NaQkvReferenceIdeal.defs (F := Ideal)) (onTc (τ := Cert.NaQkvReferenceIdeal.τ) (Cert.NaQkvReferenceIdeal.main (F := Ideal))) ⟨m', fun _ => 0, g'⟩ (fun r => ∀ c : Dev Cert.NaQkvReferenceIdeal.nD,
          r.2.mem ((c.tc : Thread Cert.NaQkvReferenceIdeal.nD Cert.NaQkvReferenceIdeal.τ).loc Cert.NaQkvReferenceIdeal.main_v2) = v0 c
          ∧ r.2.mem ((c.tc : Thread Cert.NaQkvReferenceIdeal.nD Cert.NaQkvReferenceIdeal.τ).loc Cert.NaQkvReferenceIdeal.main_arg0) = m' ((c.tc : Thread Cert.NaQkvReferenceIdeal.nD Cert.NaQkvReferenceIdeal.τ).loc Cert.NaQkvReferenceIdeal.main_arg0)
          ∧ r.2.mem ((c.tc : Thread Cert.NaQkvReferenceIdeal.nD Cert.NaQkvReferenceIdeal.τ).loc Cert.NaQkvReferenceIdeal.main_arg1) = m' ((c.tc : Thread Cert.NaQkvReferenceIdeal.nD Cert.NaQkvReferenceIdeal.τ).loc Cert.NaQkvReferenceIdeal.main_arg1))

def preserves_GaQkv_GaQkvIdeal : Prop :=
  True

def algebraic_GaQkvIdeal_GaQkvReferenceIdeal [hGaQkvIdeal : Cert.GaQkvIdeal.Facts] [hGaQkvReferenceIdeal : Cert.GaQkvReferenceIdeal.Facts] : Prop :=
  ∀ (m : (ℓ : Loc Cert.GaQkvIdeal.nD Cert.GaQkvIdeal.τ Cert.GaQkvIdeal.sig) → Buf (Elt Ideal) ℓ) (g : Dev Cert.GaQkvIdeal.nD → PrngReg)
    (m' : (ℓ : Loc Cert.GaQkvReferenceIdeal.nD Cert.GaQkvReferenceIdeal.τ Cert.GaQkvReferenceIdeal.sig) → Buf (Elt Ideal) ℓ) (g' : Dev Cert.GaQkvReferenceIdeal.nD → PrngReg), Pre_GaQkvIdeal m →
    (∀ c : Dev Cert.GaQkvIdeal.nD,
      m' ((c.tc : Thread Cert.GaQkvReferenceIdeal.nD Cert.GaQkvReferenceIdeal.τ).loc Cert.GaQkvReferenceIdeal.main_arg0) = m ((c.tc : Thread Cert.GaQkvIdeal.nD Cert.GaQkvIdeal.τ).loc Cert.GaQkvIdeal.main_arg0)
      ∧ m' ((c.tc : Thread Cert.GaQkvReferenceIdeal.nD Cert.GaQkvReferenceIdeal.τ).loc Cert.GaQkvReferenceIdeal.main_arg1) = m ((c.tc : Thread Cert.GaQkvIdeal.nD Cert.GaQkvIdeal.τ).loc Cert.GaQkvIdeal.main_arg1)) →
    ∃ (v0 : (c : Dev Cert.GaQkvIdeal.nD) → Buf (Elt Ideal) ((c.tc : Thread Cert.GaQkvIdeal.nD Cert.GaQkvIdeal.τ).loc Cert.GaQkvIdeal.main_v1)),
      θ_run (Cert.GaQkvIdeal.defs (F := Ideal)) (onTc (τ := Cert.GaQkvIdeal.τ) (Cert.GaQkvIdeal.main (F := Ideal))) ⟨m, fun _ => 0, g⟩ (fun r => ∀ c : Dev Cert.GaQkvIdeal.nD,
          r.2.mem ((c.tc : Thread Cert.GaQkvIdeal.nD Cert.GaQkvIdeal.τ).loc Cert.GaQkvIdeal.main_v1) = v0 c
          ∧ r.2.mem ((c.tc : Thread Cert.GaQkvIdeal.nD Cert.GaQkvIdeal.τ).loc Cert.GaQkvIdeal.main_arg0) = m ((c.tc : Thread Cert.GaQkvIdeal.nD Cert.GaQkvIdeal.τ).loc Cert.GaQkvIdeal.main_arg0)
          ∧ r.2.mem ((c.tc : Thread Cert.GaQkvIdeal.nD Cert.GaQkvIdeal.τ).loc Cert.GaQkvIdeal.main_arg1) = m ((c.tc : Thread Cert.GaQkvIdeal.nD Cert.GaQkvIdeal.τ).loc Cert.GaQkvIdeal.main_arg1))
      ∧ θ_run (Cert.GaQkvReferenceIdeal.defs (F := Ideal)) (onTc (τ := Cert.GaQkvReferenceIdeal.τ) (Cert.GaQkvReferenceIdeal.main (F := Ideal))) ⟨m', fun _ => 0, g'⟩ (fun r => ∀ c : Dev Cert.GaQkvReferenceIdeal.nD,
          r.2.mem ((c.tc : Thread Cert.GaQkvReferenceIdeal.nD Cert.GaQkvReferenceIdeal.τ).loc Cert.GaQkvReferenceIdeal.main_v2) = v0 c
          ∧ r.2.mem ((c.tc : Thread Cert.GaQkvReferenceIdeal.nD Cert.GaQkvReferenceIdeal.τ).loc Cert.GaQkvReferenceIdeal.main_arg0) = m' ((c.tc : Thread Cert.GaQkvReferenceIdeal.nD Cert.GaQkvReferenceIdeal.τ).loc Cert.GaQkvReferenceIdeal.main_arg0)
          ∧ r.2.mem ((c.tc : Thread Cert.GaQkvReferenceIdeal.nD Cert.GaQkvReferenceIdeal.τ).loc Cert.GaQkvReferenceIdeal.main_arg1) = m' ((c.tc : Thread Cert.GaQkvReferenceIdeal.nD Cert.GaQkvReferenceIdeal.τ).loc Cert.GaQkvReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v2) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)
      ∧ m' ((c.tc : Thread Cert.CombineReferenceIdeal.nD Cert.CombineReferenceIdeal.τ).loc Cert.CombineReferenceIdeal.main_arg5) = m ((c.tc : Thread Cert.CombineIdeal.nD Cert.CombineIdeal.τ).loc Cert.CombineIdeal.main_arg5)
      ∧ m' ((c.tc : Thread Cert.CombineReferenceIdeal.nD Cert.CombineReferenceIdeal.τ).loc Cert.CombineReferenceIdeal.main_arg6) = m ((c.tc : Thread Cert.CombineIdeal.nD Cert.CombineIdeal.τ).loc Cert.CombineIdeal.main_arg6)
      ∧ m' ((c.tc : Thread Cert.CombineReferenceIdeal.nD Cert.CombineReferenceIdeal.τ).loc Cert.CombineReferenceIdeal.main_arg7) = m ((c.tc : Thread Cert.CombineIdeal.nD Cert.CombineIdeal.τ).loc Cert.CombineIdeal.main_arg7)
      ∧ m' ((c.tc : Thread Cert.CombineReferenceIdeal.nD Cert.CombineReferenceIdeal.τ).loc Cert.CombineReferenceIdeal.main_arg8) = m ((c.tc : Thread Cert.CombineIdeal.nD Cert.CombineIdeal.τ).loc Cert.CombineIdeal.main_arg8)
      ∧ m' ((c.tc : Thread Cert.CombineReferenceIdeal.nD Cert.CombineReferenceIdeal.τ).loc Cert.CombineReferenceIdeal.main_arg9) = m ((c.tc : Thread Cert.CombineIdeal.nD Cert.CombineIdeal.τ).loc Cert.CombineIdeal.main_arg9)
      ∧ m' ((c.tc : Thread Cert.CombineReferenceIdeal.nD Cert.CombineReferenceIdeal.τ).loc Cert.CombineReferenceIdeal.main_arg10) = m ((c.tc : Thread Cert.CombineIdeal.nD Cert.CombineIdeal.τ).loc Cert.CombineIdeal.main_arg10)) →
    ∃ (v0 : (c : Dev Cert.CombineIdeal.nD) → Buf (Elt Ideal) ((c.tc : Thread Cert.CombineIdeal.nD Cert.CombineIdeal.τ).loc Cert.CombineIdeal.main_v5_0)) (v1 : (c : Dev Cert.CombineIdeal.nD) → Buf (Elt Ideal) ((c.tc : Thread Cert.CombineIdeal.nD Cert.CombineIdeal.τ).loc Cert.CombineIdeal.main_v5_1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v5_0) = v0 c
          ∧ r.2.mem ((c.tc : Thread Cert.CombineIdeal.nD Cert.CombineIdeal.τ).loc Cert.CombineIdeal.main_v5_1) = v1 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
          ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
          ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8)
          ∧ r.2.mem ((c.tc : Thread Cert.CombineIdeal.nD Cert.CombineIdeal.τ).loc Cert.CombineIdeal.main_arg9) = m ((c.tc : Thread Cert.CombineIdeal.nD Cert.CombineIdeal.τ).loc Cert.CombineIdeal.main_arg9)
          ∧ r.2.mem ((c.tc : Thread Cert.CombineIdeal.nD Cert.CombineIdeal.τ).loc Cert.CombineIdeal.main_arg10) = m ((c.tc : Thread Cert.CombineIdeal.nD Cert.CombineIdeal.τ).loc Cert.CombineIdeal.main_arg10))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v61) = v0 c
          ∧ r.2.mem ((c.tc : Thread Cert.CombineReferenceIdeal.nD Cert.CombineReferenceIdeal.τ).loc Cert.CombineReferenceIdeal.main_v80) = v1 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5)
          ∧ r.2.mem ((c.tc : Thread Cert.CombineReferenceIdeal.nD Cert.CombineReferenceIdeal.τ).loc Cert.CombineReferenceIdeal.main_arg6) = m' ((c.tc : Thread Cert.CombineReferenceIdeal.nD Cert.CombineReferenceIdeal.τ).loc Cert.CombineReferenceIdeal.main_arg6)
          ∧ r.2.mem ((c.tc : Thread Cert.CombineReferenceIdeal.nD Cert.CombineReferenceIdeal.τ).loc Cert.CombineReferenceIdeal.main_arg7) = m' ((c.tc : Thread Cert.CombineReferenceIdeal.nD Cert.CombineReferenceIdeal.τ).loc Cert.CombineReferenceIdeal.main_arg7)
          ∧ r.2.mem ((c.tc : Thread Cert.CombineReferenceIdeal.nD Cert.CombineReferenceIdeal.τ).loc Cert.CombineReferenceIdeal.main_arg8) = m' ((c.tc : Thread Cert.CombineReferenceIdeal.nD Cert.CombineReferenceIdeal.τ).loc Cert.CombineReferenceIdeal.main_arg8)
          ∧ r.2.mem ((c.tc : Thread Cert.CombineReferenceIdeal.nD Cert.CombineReferenceIdeal.τ).loc Cert.CombineReferenceIdeal.main_arg9) = m' ((c.tc : Thread Cert.CombineReferenceIdeal.nD Cert.CombineReferenceIdeal.τ).loc Cert.CombineReferenceIdeal.main_arg9)
          ∧ r.2.mem ((c.tc : Thread Cert.CombineReferenceIdeal.nD Cert.CombineReferenceIdeal.τ).loc Cert.CombineReferenceIdeal.main_arg10) = m' ((c.tc : Thread Cert.CombineReferenceIdeal.nD Cert.CombineReferenceIdeal.τ).loc Cert.CombineReferenceIdeal.main_arg10))

def preserves_CombineLast_CombineLastIdeal : Prop :=
  True

def algebraic_CombineLastIdeal_CombineLastReferenceIdeal [hCombineLastIdeal : Cert.CombineLastIdeal.Facts] [hCombineLastReferenceIdeal : Cert.CombineLastReferenceIdeal.Facts] : Prop :=
  ∀ (m : (ℓ : Loc Cert.CombineLastIdeal.nD Cert.CombineLastIdeal.τ Cert.CombineLastIdeal.sig) → Buf (Elt Ideal) ℓ) (g : Dev Cert.CombineLastIdeal.nD → PrngReg)
    (m' : (ℓ : Loc Cert.CombineLastReferenceIdeal.nD Cert.CombineLastReferenceIdeal.τ Cert.CombineLastReferenceIdeal.sig) → Buf (Elt Ideal) ℓ) (g' : Dev Cert.CombineLastReferenceIdeal.nD → PrngReg), Pre_CombineLastIdeal m →
    (∀ c : Dev Cert.CombineLastIdeal.nD,
      m' ((c.tc : Thread Cert.CombineLastReferenceIdeal.nD Cert.CombineLastReferenceIdeal.τ).loc Cert.CombineLastReferenceIdeal.main_arg0) = m ((c.tc : Thread Cert.CombineLastIdeal.nD Cert.CombineLastIdeal.τ).loc Cert.CombineLastIdeal.main_arg0)
      ∧ m' ((c.tc : Thread Cert.CombineLastReferenceIdeal.nD Cert.CombineLastReferenceIdeal.τ).loc Cert.CombineLastReferenceIdeal.main_arg1) = m ((c.tc : Thread Cert.CombineLastIdeal.nD Cert.CombineLastIdeal.τ).loc Cert.CombineLastIdeal.main_arg1)
      ∧ m' ((c.tc : Thread Cert.CombineLastReferenceIdeal.nD Cert.CombineLastReferenceIdeal.τ).loc Cert.CombineLastReferenceIdeal.main_arg2) = m ((c.tc : Thread Cert.CombineLastIdeal.nD Cert.CombineLastIdeal.τ).loc Cert.CombineLastIdeal.main_arg2)
      ∧ m' ((c.tc : Thread Cert.CombineLastReferenceIdeal.nD Cert.CombineLastReferenceIdeal.τ).loc Cert.CombineLastReferenceIdeal.main_arg3) = m ((c.tc : Thread Cert.CombineLastIdeal.nD Cert.CombineLastIdeal.τ).loc Cert.CombineLastIdeal.main_arg3)
      ∧ m' ((c.tc : Thread Cert.CombineLastReferenceIdeal.nD Cert.CombineLastReferenceIdeal.τ).loc Cert.CombineLastReferenceIdeal.main_arg4) = m ((c.tc : Thread Cert.CombineLastIdeal.nD Cert.CombineLastIdeal.τ).loc Cert.CombineLastIdeal.main_arg4)
      ∧ m' ((c.tc : Thread Cert.CombineLastReferenceIdeal.nD Cert.CombineLastReferenceIdeal.τ).loc Cert.CombineLastReferenceIdeal.main_arg5) = m ((c.tc : Thread Cert.CombineLastIdeal.nD Cert.CombineLastIdeal.τ).loc Cert.CombineLastIdeal.main_arg5)
      ∧ m' ((c.tc : Thread Cert.CombineLastReferenceIdeal.nD Cert.CombineLastReferenceIdeal.τ).loc Cert.CombineLastReferenceIdeal.main_arg6) = m ((c.tc : Thread Cert.CombineLastIdeal.nD Cert.CombineLastIdeal.τ).loc Cert.CombineLastIdeal.main_arg6)
      ∧ m' ((c.tc : Thread Cert.CombineLastReferenceIdeal.nD Cert.CombineLastReferenceIdeal.τ).loc Cert.CombineLastReferenceIdeal.main_arg7) = m ((c.tc : Thread Cert.CombineLastIdeal.nD Cert.CombineLastIdeal.τ).loc Cert.CombineLastIdeal.main_arg7)
      ∧ m' ((c.tc : Thread Cert.CombineLastReferenceIdeal.nD Cert.CombineLastReferenceIdeal.τ).loc Cert.CombineLastReferenceIdeal.main_arg8) = m ((c.tc : Thread Cert.CombineLastIdeal.nD Cert.CombineLastIdeal.τ).loc Cert.CombineLastIdeal.main_arg8)
      ∧ m' ((c.tc : Thread Cert.CombineLastReferenceIdeal.nD Cert.CombineLastReferenceIdeal.τ).loc Cert.CombineLastReferenceIdeal.main_arg9) = m ((c.tc : Thread Cert.CombineLastIdeal.nD Cert.CombineLastIdeal.τ).loc Cert.CombineLastIdeal.main_arg9)) →
    ∃ (v0 : (c : Dev Cert.CombineLastIdeal.nD) → Buf (Elt Ideal) ((c.tc : Thread Cert.CombineLastIdeal.nD Cert.CombineLastIdeal.τ).loc Cert.CombineLastIdeal.main_v5)),
      θ_run (Cert.CombineLastIdeal.defs (F := Ideal)) (onTc (τ := Cert.CombineLastIdeal.τ) (Cert.CombineLastIdeal.main (F := Ideal))) ⟨m, fun _ => 0, g⟩ (fun r => ∀ c : Dev Cert.CombineLastIdeal.nD,
          r.2.mem ((c.tc : Thread Cert.CombineLastIdeal.nD Cert.CombineLastIdeal.τ).loc Cert.CombineLastIdeal.main_v5) = v0 c
          ∧ r.2.mem ((c.tc : Thread Cert.CombineLastIdeal.nD Cert.CombineLastIdeal.τ).loc Cert.CombineLastIdeal.main_arg0) = m ((c.tc : Thread Cert.CombineLastIdeal.nD Cert.CombineLastIdeal.τ).loc Cert.CombineLastIdeal.main_arg0)
          ∧ r.2.mem ((c.tc : Thread Cert.CombineLastIdeal.nD Cert.CombineLastIdeal.τ).loc Cert.CombineLastIdeal.main_arg1) = m ((c.tc : Thread Cert.CombineLastIdeal.nD Cert.CombineLastIdeal.τ).loc Cert.CombineLastIdeal.main_arg1)
          ∧ r.2.mem ((c.tc : Thread Cert.CombineLastIdeal.nD Cert.CombineLastIdeal.τ).loc Cert.CombineLastIdeal.main_arg2) = m ((c.tc : Thread Cert.CombineLastIdeal.nD Cert.CombineLastIdeal.τ).loc Cert.CombineLastIdeal.main_arg2)
          ∧ r.2.mem ((c.tc : Thread Cert.CombineLastIdeal.nD Cert.CombineLastIdeal.τ).loc Cert.CombineLastIdeal.main_arg3) = m ((c.tc : Thread Cert.CombineLastIdeal.nD Cert.CombineLastIdeal.τ).loc Cert.CombineLastIdeal.main_arg3)
          ∧ r.2.mem ((c.tc : Thread Cert.CombineLastIdeal.nD Cert.CombineLastIdeal.τ).loc Cert.CombineLastIdeal.main_arg4) = m ((c.tc : Thread Cert.CombineLastIdeal.nD Cert.CombineLastIdeal.τ).loc Cert.CombineLastIdeal.main_arg4)
          ∧ r.2.mem ((c.tc : Thread Cert.CombineLastIdeal.nD Cert.CombineLastIdeal.τ).loc Cert.CombineLastIdeal.main_arg5) = m ((c.tc : Thread Cert.CombineLastIdeal.nD Cert.CombineLastIdeal.τ).loc Cert.CombineLastIdeal.main_arg5)
          ∧ r.2.mem ((c.tc : Thread Cert.CombineLastIdeal.nD Cert.CombineLastIdeal.τ).loc Cert.CombineLastIdeal.main_arg6) = m ((c.tc : Thread Cert.CombineLastIdeal.nD Cert.CombineLastIdeal.τ).loc Cert.CombineLastIdeal.main_arg6)
          ∧ r.2.mem ((c.tc : Thread Cert.CombineLastIdeal.nD Cert.CombineLastIdeal.τ).loc Cert.CombineLastIdeal.main_arg7) = m ((c.tc : Thread Cert.CombineLastIdeal.nD Cert.CombineLastIdeal.τ).loc Cert.CombineLastIdeal.main_arg7)
          ∧ r.2.mem ((c.tc : Thread Cert.CombineLastIdeal.nD Cert.CombineLastIdeal.τ).loc Cert.CombineLastIdeal.main_arg8) = m ((c.tc : Thread Cert.CombineLastIdeal.nD Cert.CombineLastIdeal.τ).loc Cert.CombineLastIdeal.main_arg8)
          ∧ r.2.mem ((c.tc : Thread Cert.CombineLastIdeal.nD Cert.CombineLastIdeal.τ).loc Cert.CombineLastIdeal.main_arg9) = m ((c.tc : Thread Cert.CombineLastIdeal.nD Cert.CombineLastIdeal.τ).loc Cert.CombineLastIdeal.main_arg9))
      ∧ θ_run (Cert.CombineLastReferenceIdeal.defs (F := Ideal)) (onTc (τ := Cert.CombineLastReferenceIdeal.τ) (Cert.CombineLastReferenceIdeal.main (F := Ideal))) ⟨m', fun _ => 0, g'⟩ (fun r => ∀ c : Dev Cert.CombineLastReferenceIdeal.nD,
          r.2.mem ((c.tc : Thread Cert.CombineLastReferenceIdeal.nD Cert.CombineLastReferenceIdeal.τ).loc Cert.CombineLastReferenceIdeal.main_v61) = v0 c
          ∧ r.2.mem ((c.tc : Thread Cert.CombineLastReferenceIdeal.nD Cert.CombineLastReferenceIdeal.τ).loc Cert.CombineLastReferenceIdeal.main_arg0) = m' ((c.tc : Thread Cert.CombineLastReferenceIdeal.nD Cert.CombineLastReferenceIdeal.τ).loc Cert.CombineLastReferenceIdeal.main_arg0)
          ∧ r.2.mem ((c.tc : Thread Cert.CombineLastReferenceIdeal.nD Cert.CombineLastReferenceIdeal.τ).loc Cert.CombineLastReferenceIdeal.main_arg1) = m' ((c.tc : Thread Cert.CombineLastReferenceIdeal.nD Cert.CombineLastReferenceIdeal.τ).loc Cert.CombineLastReferenceIdeal.main_arg1)
          ∧ r.2.mem ((c.tc : Thread Cert.CombineLastReferenceIdeal.nD Cert.CombineLastReferenceIdeal.τ).loc Cert.CombineLastReferenceIdeal.main_arg2) = m' ((c.tc : Thread Cert.CombineLastReferenceIdeal.nD Cert.CombineLastReferenceIdeal.τ).loc Cert.CombineLastReferenceIdeal.main_arg2)
          ∧ r.2.mem ((c.tc : Thread Cert.CombineLastReferenceIdeal.nD Cert.CombineLastReferenceIdeal.τ).loc Cert.CombineLastReferenceIdeal.main_arg3) = m' ((c.tc : Thread Cert.CombineLastReferenceIdeal.nD Cert.CombineLastReferenceIdeal.τ).loc Cert.CombineLastReferenceIdeal.main_arg3)
          ∧ r.2.mem ((c.tc : Thread Cert.CombineLastReferenceIdeal.nD Cert.CombineLastReferenceIdeal.τ).loc Cert.CombineLastReferenceIdeal.main_arg4) = m' ((c.tc : Thread Cert.CombineLastReferenceIdeal.nD Cert.CombineLastReferenceIdeal.τ).loc Cert.CombineLastReferenceIdeal.main_arg4)
          ∧ r.2.mem ((c.tc : Thread Cert.CombineLastReferenceIdeal.nD Cert.CombineLastReferenceIdeal.τ).loc Cert.CombineLastReferenceIdeal.main_arg5) = m' ((c.tc : Thread Cert.CombineLastReferenceIdeal.nD Cert.CombineLastReferenceIdeal.τ).loc Cert.CombineLastReferenceIdeal.main_arg5)
          ∧ r.2.mem ((c.tc : Thread Cert.CombineLastReferenceIdeal.nD Cert.CombineLastReferenceIdeal.τ).loc Cert.CombineLastReferenceIdeal.main_arg6) = m' ((c.tc : Thread Cert.CombineLastReferenceIdeal.nD Cert.CombineLastReferenceIdeal.τ).loc Cert.CombineLastReferenceIdeal.main_arg6)
          ∧ r.2.mem ((c.tc : Thread Cert.CombineLastReferenceIdeal.nD Cert.CombineLastReferenceIdeal.τ).loc Cert.CombineLastReferenceIdeal.main_arg7) = m' ((c.tc : Thread Cert.CombineLastReferenceIdeal.nD Cert.CombineLastReferenceIdeal.τ).loc Cert.CombineLastReferenceIdeal.main_arg7)
          ∧ r.2.mem ((c.tc : Thread Cert.CombineLastReferenceIdeal.nD Cert.CombineLastReferenceIdeal.τ).loc Cert.CombineLastReferenceIdeal.main_arg8) = m' ((c.tc : Thread Cert.CombineLastReferenceIdeal.nD Cert.CombineLastReferenceIdeal.τ).loc Cert.CombineLastReferenceIdeal.main_arg8)
          ∧ r.2.mem ((c.tc : Thread Cert.CombineLastReferenceIdeal.nD Cert.CombineLastReferenceIdeal.τ).loc Cert.CombineLastReferenceIdeal.main_arg9) = m' ((c.tc : Thread Cert.CombineLastReferenceIdeal.nD Cert.CombineLastReferenceIdeal.τ).loc Cert.CombineLastReferenceIdeal.main_arg9))

def Claim : Prop :=
  ∃ (hKernel : Cert.Kernel.Facts) (hKernelIdeal : Cert.KernelIdeal.Facts) (hReferenceIdeal : Cert.ReferenceIdeal.Facts) (hGmlpIn : Cert.GmlpIn.Facts) (hGmlpInIdeal : Cert.GmlpInIdeal.Facts) (hGmlpInReferenceIdeal : Cert.GmlpInReferenceIdeal.Facts) (hNaQkv : Cert.NaQkv.Facts) (hNaQkvIdeal : Cert.NaQkvIdeal.Facts) (hNaQkvReferenceIdeal : Cert.NaQkvReferenceIdeal.Facts) (hGaQkv : Cert.GaQkv.Facts) (hGaQkvIdeal : Cert.GaQkvIdeal.Facts) (hGaQkvReferenceIdeal : Cert.GaQkvReferenceIdeal.Facts) (hOutProj : Cert.OutProj.Facts) (hOutProjIdeal : Cert.OutProjIdeal.Facts) (hOutProjReferenceIdeal : Cert.OutProjReferenceIdeal.Facts) (hCombine : Cert.Combine.Facts) (hCombineIdeal : Cert.CombineIdeal.Facts) (hCombineReferenceIdeal : Cert.CombineReferenceIdeal.Facts) (hCombineLast : Cert.CombineLast.Facts) (hCombineLastIdeal : Cert.CombineLastIdeal.Facts) (hCombineLastReferenceIdeal : Cert.CombineLastReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GmlpIn (hGmlpIn := hGmlpIn)
    ∧ quiescent_GmlpInIdeal (hGmlpInIdeal := hGmlpInIdeal)
    ∧ quiescent_GmlpInReferenceIdeal (hGmlpInReferenceIdeal := hGmlpInReferenceIdeal)
    ∧ quiescent_NaQkv (hNaQkv := hNaQkv)
    ∧ quiescent_NaQkvIdeal (hNaQkvIdeal := hNaQkvIdeal)
    ∧ quiescent_NaQkvReferenceIdeal (hNaQkvReferenceIdeal := hNaQkvReferenceIdeal)
    ∧ quiescent_GaQkv (hGaQkv := hGaQkv)
    ∧ quiescent_GaQkvIdeal (hGaQkvIdeal := hGaQkvIdeal)
    ∧ quiescent_GaQkvReferenceIdeal (hGaQkvReferenceIdeal := hGaQkvReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Combine (hCombine := hCombine)
    ∧ quiescent_CombineIdeal (hCombineIdeal := hCombineIdeal)
    ∧ quiescent_CombineReferenceIdeal (hCombineReferenceIdeal := hCombineReferenceIdeal)
    ∧ quiescent_CombineLast (hCombineLast := hCombineLast)
    ∧ quiescent_CombineLastIdeal (hCombineLastIdeal := hCombineLastIdeal)
    ∧ quiescent_CombineLastReferenceIdeal (hCombineLastReferenceIdeal := hCombineLastReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GmlpIn_GmlpInIdeal
    ∧ algebraic_GmlpInIdeal_GmlpInReferenceIdeal (hGmlpInIdeal := hGmlpInIdeal) (hGmlpInReferenceIdeal := hGmlpInReferenceIdeal)
    ∧ preserves_NaQkv_NaQkvIdeal
    ∧ algebraic_NaQkvIdeal_NaQkvReferenceIdeal (hNaQkvIdeal := hNaQkvIdeal) (hNaQkvReferenceIdeal := hNaQkvReferenceIdeal)
    ∧ preserves_GaQkv_GaQkvIdeal
    ∧ algebraic_GaQkvIdeal_GaQkvReferenceIdeal (hGaQkvIdeal := hGaQkvIdeal) (hGaQkvReferenceIdeal := hGaQkvReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Combine_CombineIdeal
    ∧ algebraic_CombineIdeal_CombineReferenceIdeal (hCombineIdeal := hCombineIdeal) (hCombineReferenceIdeal := hCombineReferenceIdeal)
    ∧ preserves_CombineLast_CombineLastIdeal
    ∧ algebraic_CombineLastIdeal_CombineLastReferenceIdeal (hCombineLastIdeal := hCombineLastIdeal) (hCombineLastReferenceIdeal := hCombineLastReferenceIdeal)
-- ==== Pre_finite.lean ====
abbrev S16640x4096 : Shape := ⟨2, ![16640, 4096]⟩
abbrev S16640x1024 : Shape := ⟨2, ![16640, 1024]⟩
abbrev S16640x6144 : Shape := ⟨2, ![16640, 6144]⟩
abbrev S_ : Shape := ⟨0, ![]⟩

class Facts : Prop where
  bitsLt_bf16_f32 : FTy.bits .bf16 < FTy.bits .f32
  bcast_S_S16640x4096 : S_.BroadcastsInDim S16640x4096 (![] : Fin 0 → Fin S16640x4096.rank)
  bcast_S_S16640x1024 : S_.BroadcastsInDim S16640x1024 (![] : Fin 0 → Fin S16640x1024.rank)

variable [Facts]

def fn {F : FTy → Type} [FloatOps F] (main_arg0 : FVec F S16640x4096 .bf16) (main_arg1 : FVec F S16640x1024 .bf16) (main_arg2 : FVec F S16640x6144 .bf16) : IVec S16640x4096 1 × IVec S16640x1024 1 :=
  let main_v0 : FVec F S16640x4096 .f32 := (extf .f32 · bitsLt_bf16_f32) main_arg0
  let main_v1 : FVec F S16640x4096 .f32 := Host.absf main_v0
  let main_cst : FVec F S_ .f32 := constant S_ .f32 0x7F800000#32
  let main_v2 : FVec F S16640x4096 .f32 := broadcastInDim S16640x4096 ![] bcast_S_S16640x4096 main_cst
  let main_v3 : IVec S16640x4096 1 := cmpf .olt main_v1 main_v2
  let main_v4 : FVec F S16640x1024 .f32 := (extf .f32 · bitsLt_bf16_f32) main_arg1
  let main_v5 : FVec F S16640x1024 .f32 := Host.absf main_v4
  let main_cst_0 : FVec F S_ .f32 := constant S_ .f32 0x7F800000#32
  let main_v6 : FVec F S16640x1024 .f32 := broadcastInDim S16640x1024 ![] bcast_S_S16640x1024 main_cst_0
  let main_v7 : IVec S16640x1024 1 := cmpf .olt main_v5 main_v6
  (main_v3, main_v7)
-- ==== Kernel.lean ====
abbrev S16640x4096 : Shape := ⟨2, ![16640, 4096]⟩
abbrev S16640x1024 : Shape := ⟨2, ![16640, 1024]⟩
abbrev S16640x6144 : Shape := ⟨2, ![16640, 6144]⟩
abbrev S1024x16640 : Shape := ⟨2, ![1024, 16640]⟩
abbrev S16384x4096 : Shape := ⟨2, ![16384, 4096]⟩
abbrev S256x512 : Shape := ⟨2, ![256, 512]⟩
abbrev S128x16640 : Shape := ⟨2, ![128, 16640]⟩
abbrev S16640x128 : Shape := ⟨2, ![16640, 128]⟩
abbrev S1024x128 : Shape := ⟨2, ![1024, 128]⟩
abbrev S2x1024x2048 : Shape := ⟨3, ![2, 1024, 2048]⟩
abbrev S2x1024x128 : Shape := ⟨3, ![2, 1024, 128]⟩
abbrev S1024x256 : Shape := ⟨2, ![1024, 256]⟩
abbrev S256x128 : Shape := ⟨2, ![256, 128]⟩
abbrev S128x256 : Shape := ⟨2, ![128, 256]⟩
abbrev S1x1024x256 : Shape := ⟨3, ![1, 1024, 256]⟩
abbrev S128x2048 : Shape := ⟨2, ![128, 2048]⟩
abbrev S1024x2048 : Shape := ⟨2, ![1024, 2048]⟩
abbrev S1x1024x2048 : Shape := ⟨3, ![1, 1024, 2048]⟩
abbrev S1x64x256 : Shape := ⟨3, ![1, 64, 256]⟩
abbrev S64x256 : Shape := ⟨2, ![64, 256]⟩
abbrev S64x128 : Shape := ⟨2, ![64, 128]⟩
abbrev S64 : Shape := ⟨1, ![64]⟩
abbrev S64x1 : Shape := ⟨2, ![64, 1]⟩
abbrev S1x64x128 : Shape := ⟨3, ![1, 64, 128]⟩
abbrev S256x256 : Shape := ⟨2, ![256, 256]⟩
abbrev S1x1024x128 : Shape := ⟨3, ![1, 1024, 128]⟩
abbrev S1x64x2048 : Shape := ⟨3, ![1, 64, 2048]⟩
abbrev S64x2048 : Shape := ⟨2, ![64, 2048]⟩
abbrev S2048x128 : Shape := ⟨2, ![2048, 128]⟩
abbrev S2048x256 : Shape := ⟨2, ![2048, 256]⟩

abbrev nBuf : Space → Nat
  | .hbm => 5
  | .vmem => 14
  | .smem => 0
  | _ => 0

abbrev bufTy : (tb : Table) → Fin (tcTables nBuf tb) → BufTy
  | .hbm, ⟨0, _⟩ => ⟨S16640x4096, .bf16⟩
  | .hbm, ⟨1, _⟩ => ⟨S16640x1024, .bf16⟩
  | .hbm, ⟨2, _⟩ => ⟨S16640x6144, .bf16⟩
  | .hbm, ⟨3, _⟩ => ⟨S1024x16640, .bf16⟩
  | .hbm, ⟨4, _⟩ => ⟨S16384x4096, .bf16⟩
  | .local _ .vmem, ⟨0, _⟩ => ⟨S256x512, .bf16⟩
  | .local _ .vmem, ⟨1, _⟩ => ⟨S256x512, .bf16⟩
  | .local _ .vmem, ⟨2, _⟩ => ⟨S128x16640, .bf16⟩
  | .local _ .vmem, ⟨3, _⟩ => ⟨S128x16640, .bf16⟩
  | .local _ .vmem, ⟨4, _⟩ => ⟨S16640x128, .bf16⟩
  | .local _ .vmem, ⟨5, _⟩ => ⟨S16640x128, .bf16⟩
  | .local _ .vmem, ⟨6, _⟩ => ⟨S256x512, .bf16⟩
  | .local _ .vmem, ⟨7, _⟩ => ⟨S256x512, .bf16⟩
  | .local _ .vmem, ⟨8, _⟩ => ⟨S1024x128, .bf16⟩
  | .local _ .vmem, ⟨9, _⟩ => ⟨S2x1024x2048, .f32⟩
  | .local _ .vmem, ⟨10, _⟩ => ⟨S2x1024x2048, .bf16⟩
  | .local _ .vmem, ⟨11, _⟩ => ⟨S2x1024x128, .f32⟩
  | .local _ .vmem, ⟨12, _⟩ => ⟨S1024x128, .f32⟩
  | .local _ .vmem, ⟨13, _⟩ => ⟨S1024x256, .f32⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 64], ![false, false]⟩

@[reducible] def k0_t1_loop : Scf.Loop 32 :=
  let c0_i32 : BitVec 32 := 0#32
  let c4_i32 : BitVec 32 := 4#32
  let v517 : BitVec 32 := Scalar.addi c0_i32 c4_i32
  let c1_i32 : BitVec 32 := 1#32
  ⟨c0_i32, v517, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c2_i32 : BitVec 32 := 2#32
  let v538 : BitVec 32 := Scalar.muli arg12 c2_i32
  let c2048_i32 : BitVec 32 := 2048#32
  let v539 : BitVec 32 := Scalar.muli v538 c2048_i32
  v539
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c1_i32_286 : BitVec 32 := 1#32
  let v541 : BitVec 32 := Scalar.addi arg12 c1_i32_286
  let c3_i32 : BitVec 32 := 3#32
  let v542 : BitVec 32 := Scalar.minsi v541 c3_i32
  let c2_i32_287 : BitVec 32 := 2#32
  let v543 : BitVec 32 := Scalar.muli v542 c2_i32_287
  let c2048_i32_288 : BitVec 32 := 2048#32
  let v544 : BitVec 32 := Scalar.muli v543 c2048_i32_288
  v544
def k0_off1 (k0_t1 : Fin k0_t1_loop.trips) : Fin 2 → Nat :=
  let c0_290 : Index := 0#32
  let c0_i32 : BitVec 32 := 0#32
  let c1_i32 : BitVec 32 := 1#32
  let arg12 : BitVec 32 := Scf.iv c0_i32 c1_i32 k0_t1
  let c2_i32 : BitVec 32 := 2#32
  let v538 : BitVec 32 := Scalar.muli arg12 c2_i32
  let c2048_i32 : BitVec 32 := 2048#32
  let v539 : BitVec 32 := Scalar.muli v538 c2048_i32
  let v540 : BitVec 32 := v539
  let c2048_i32_289 : BitVec 32 := 2048#32
  let v546 : BitVec 32 := Scalar.addi v540 c2048_i32_289
  let v547 : Index := Scalar.indexCast v546
  ![0, v547.toNat]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c2_i32 : BitVec 32 := 2#32
  let v538 : BitVec 32 := Scalar.muli arg12 c2_i32
  let c2048_i32 : BitVec 32 := 2048#32
  let v539 : BitVec 32 := Scalar.muli v538 c2048_i32
  let v540 : BitVec 32 := v539
  let v2123 : Index := Scalar.indexCast v540
  let c0_521 : Index := 0#32
  ![v2123.toNat, 0]
def k0_off3 (k0_t1 : Fin k0_t1_loop.trips) : Fin 2 → Nat :=
  let c0_534 : Index := 0#32
  let c0_i32 : BitVec 32 := 0#32
  let c1_i32 : BitVec 32 := 1#32
  let arg12 : BitVec 32 := Scf.iv c0_i32 c1_i32 k0_t1
  let c1_i32_286 : BitVec 32 := 1#32
  let v541 : BitVec 32 := Scalar.addi arg12 c1_i32_286
  let c3_i32 : BitVec 32 := 3#32
  let v542 : BitVec 32 := Scalar.minsi v541 c3_i32
  let c2_i32_287 : BitVec 32 := 2#32
  let v543 : BitVec 32 := Scalar.muli v542 c2_i32_287
  let c2048_i32_288 : BitVec 32 := 2048#32
  let v544 : BitVec 32 := Scalar.muli v543 c2048_i32_288
  let v545 : BitVec 32 := v544
  let v2139 : Index := Scalar.indexCast v545
  ![0, v2139.toNat]
def k0_off4 (k0_t1 : Fin k0_t1_loop.trips) : Fin 2 → Nat :=
  let c0_i32 : BitVec 32 := 0#32
  let c1_i32 : BitVec 32 := 1#32
  let arg12 : BitVec 32 := Scf.iv c0_i32 c1_i32 k0_t1
  let c2_i32 : BitVec 32 := 2#32
  let v538 : BitVec 32 := Scalar.muli arg12 c2_i32
  let c2048_i32 : BitVec 32 := 2048#32
  let v539 : BitVec 32 := Scalar.muli v538 c2048_i32
  let v540 : BitVec 32 := v539
  let c2048_i32_765 : BitVec 32 := 2048#32
  let v3715 : BitVec 32 := Scalar.addi v540 c2048_i32_765
  let v3716 : Index := Scalar.indexCast v3715
  let c0_766 : Index := 0#32
  ![v3716.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x16640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S16640x4096 : Shape := ⟨2, ![16640, 4096]⟩
abbrev S16640x1024 : Shape := ⟨2, ![16640, 1024]⟩
abbrev S16640x6144 : Shape := ⟨2, ![16640, 6144]⟩
abbrev S16384x4096 : Shape := ⟨2, ![16384, 4096]⟩
abbrev S16384x8x4x128 : Shape := ⟨4, ![16384, 8, 4, 128]⟩
abbrev S16640x8x128 : Shape := ⟨3, ![16640, 8, 128]⟩
abbrev S8x16640x16384x4 : Shape := ⟨4, ![8, 16640, 16384, 4]⟩
abbrev S8x4x16384x16640 : Shape := ⟨4, ![8, 4, 16384, 16640]⟩
abbrev S_ : Shape := ⟨0, ![]⟩
abbrev S8x4x16384 : Shape := ⟨3, ![8, 4, 16384]⟩
abbrev S8x4x16384x1 : Shape := ⟨4, ![8, 4, 16384, 1]⟩
abbrev S8x128x4x16384 : Shape := ⟨4, ![8, 128, 4, 16384]⟩

abbrev nBuf : Space → Nat
  | .hbm => 34
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S16640x1024, .bf16⟩
  | .hbm, ⟨2, _⟩ => ⟨S16640x6144, .bf16⟩
  | .hbm, ⟨3, _⟩ => ⟨S16640x4096, .f32⟩
  | .hbm, ⟨4, _⟩ => ⟨S16384x4096, .f32⟩
  | .hbm, ⟨5, _⟩ => ⟨S16384x8x4x128, .f32⟩
  | .hbm, ⟨6, _⟩ => ⟨S16640x1024, .f32⟩
  | .hbm, ⟨7, _⟩ => ⟨S16640x8x128, .f32⟩
  | .hbm, ⟨8, _⟩ => ⟨S16640x6144, .f32⟩
  | .hbm, ⟨9, _⟩ => ⟨S16640x1024, .f32⟩
  | .hbm, ⟨10, _⟩ => ⟨S16640x8x128, .f32⟩
  | .hbm, ⟨11, _⟩ => ⟨S8x16640x16384x4, .f32⟩
  | .hbm, ⟨12, _⟩ => ⟨S8x4x16384x16640, .f32⟩
  | .hbm, ⟨13, _⟩ => ⟨S_, .f32⟩
  | .hbm, ⟨14, _⟩ => ⟨S8x4x16384x16640, .f32⟩
  | .hbm, ⟨15, _⟩ => ⟨S8x4x16384x16640, .f32⟩
  | .hbm, ⟨16, _⟩ => ⟨S_, .f32⟩
  | .hbm, ⟨17, _⟩ => ⟨S8x4x16384, .f32⟩
  | .hbm, ⟨18, _⟩ => ⟨S_, .f32⟩
  | .hbm, ⟨19, _⟩ => ⟨S8x4x16384, .f32⟩
  | .hbm, ⟨20, _⟩ => ⟨S8x4x16384, .f32⟩
  | .hbm, ⟨21, _⟩ => ⟨S8x4x16384x1, .f32⟩
  | .hbm, ⟨22, _⟩ => ⟨S8x4x16384x16640, .f32⟩
  | .hbm, ⟨23, _⟩ => ⟨S8x4x16384x16640, .f32⟩
  | .hbm, ⟨24, _⟩ => ⟨S8x4x16384x16640, .f32⟩
  | .hbm, ⟨25, _⟩ => ⟨S_, .f32⟩
  | .hbm, ⟨26, _⟩ => ⟨S8x4x16384, .f32⟩
  | .hbm, ⟨27, _⟩ => ⟨S8x4x16384x1, .f32⟩
  | .hbm, ⟨28, _⟩ => ⟨S8x4x16384x16640, .f32⟩
  | .hbm, ⟨29, _⟩ => ⟨S8x4x16384x16640, .f32⟩
  | .hbm, ⟨30, _⟩ => ⟨S8x128x4x16384, .f32⟩
  | .hbm, ⟨31, _⟩ => ⟨S16384x8x4x128, .f32⟩
  | .hbm, ⟨32, _⟩ => ⟨S16384x4096, .f32⟩
  | .hbm, ⟨33, _⟩ => ⟨S16384x4096, .bf16⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== GmlpIn.lean ====
abbrev S16640x4096 : Shape := ⟨2, ![16640, 4096]⟩
abbrev S4096x8192 : Shape := ⟨2, ![4096, 8192]⟩
abbrev S16640x8192 : Shape := ⟨2, ![16640, 8192]⟩
abbrev S1280x4096 : Shape := ⟨2, ![1280, 4096]⟩
abbrev S4096x1024 : Shape := ⟨2, ![4096, 1024]⟩
abbrev S1280x1024 : Shape := ⟨2, ![1280, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16640x4096, .bf16⟩
  | .hbm, ⟨1, _⟩ => ⟨S4096x8192, .f32⟩
  | .hbm, ⟨2, _⟩ => ⟨S4096x8192, .bf16⟩
  | .hbm, ⟨3, _⟩ => ⟨S16640x8192, .bf16⟩
  | .local _ .vmem, ⟨0, _⟩ => ⟨S1280x4096, .bf16⟩
  | .local _ .vmem, ⟨1, _⟩ => ⟨S1280x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1280x1024, .bf16⟩
  | .local _ .vmem, ⟨5, _⟩ => ⟨S1280x1024, .bf16⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GmlpInReferenceIdeal.lean ====
abbrev S16640x4096 : Shape := ⟨2, ![16640, 4096]⟩
abbrev S4096x8192 : Shape := ⟨2, ![4096, 8192]⟩
abbrev S16640x8192 : Shape := ⟨2, ![16640, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S4096x8192, .f32⟩
  | .hbm, ⟨2, _⟩ => ⟨S16640x4096, .f32⟩
  | .hbm, ⟨3, _⟩ => ⟨S16640x8192, .f32⟩
  | .hbm, ⟨4, _⟩ => ⟨S16640x8192, .f32⟩
  | .hbm, ⟨5, _⟩ => ⟨S16640x8192, .f32⟩
  | .hbm, ⟨6, _⟩ => ⟨S_, .f32⟩
  | .hbm, ⟨7, _⟩ => ⟨S16640x8192, .f32⟩
  | .hbm, ⟨8, _⟩ => ⟨S16640x8192, .f32⟩
  | .hbm, ⟨9, _⟩ => ⟨S16640x8192, .f32⟩
  | .hbm, ⟨10, _⟩ => ⟨S_, .f32⟩
  | .hbm, ⟨11, _⟩ => ⟨S16640x8192, .f32⟩
  | .hbm, ⟨12, _⟩ => ⟨S16640x8192, .f32⟩
  | .hbm, ⟨13, _⟩ => ⟨S16640x8192, .f32⟩
  | .hbm, ⟨14, _⟩ => ⟨S_, .f32⟩
  | .hbm, ⟨15, _⟩ => ⟨S16640x8192, .f32⟩
  | .hbm, ⟨16, _⟩ => ⟨S16640x8192, .f32⟩
  | .hbm, ⟨17, _⟩ => ⟨S_, .f32⟩
  | .hbm, ⟨18, _⟩ => ⟨S16640x8192, .f32⟩
  | .hbm, ⟨19, _⟩ => ⟨S16640x8192, .f32⟩
  | .hbm, ⟨20, _⟩ => ⟨S16640x8192, .f32⟩
  | .hbm, ⟨21, _⟩ => ⟨S16640x8192, .bf16⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== NaQkv.lean ====
abbrev S16640x4096 : Shape := ⟨2, ![16640, 4096]⟩
abbrev S4096x12288 : Shape := ⟨2, ![4096, 12288]⟩
abbrev S16640x12288 : Shape := ⟨2, ![16640, 12288]⟩
abbrev S1280x4096 : Shape := ⟨2, ![1280, 4096]⟩
abbrev S4096x1024 : Shape := ⟨2, ![4096, 1024]⟩
abbrev S1280x1024 : Shape := ⟨2, ![1280, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16640x4096, .bf16⟩
  | .hbm, ⟨1, _⟩ => ⟨S4096x12288, .f32⟩
  | .hbm, ⟨2, _⟩ => ⟨S4096x12288, .bf16⟩
  | .hbm, ⟨3, _⟩ => ⟨S16640x12288, .bf16⟩
  | .local _ .vmem, ⟨0, _⟩ => ⟨S1280x4096, .bf16⟩
  | .local _ .vmem, ⟨1, _⟩ => ⟨S1280x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1280x1024, .bf16⟩
  | .local _ .vmem, ⟨5, _⟩ => ⟨S1280x1024, .bf16⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NaQkvReferenceIdeal.lean ====
abbrev S16640x4096 : Shape := ⟨2, ![16640, 4096]⟩
abbrev S4096x12288 : Shape := ⟨2, ![4096, 12288]⟩
abbrev S16640x12288 : Shape := ⟨2, ![16640, 12288]⟩

abbrev nBuf : Space → Nat
  | .hbm => 5
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S4096x12288, .f32⟩
  | .hbm, ⟨2, _⟩ => ⟨S16640x4096, .f32⟩
  | .hbm, ⟨3, _⟩ => ⟨S16640x12288, .f32⟩
  | .hbm, ⟨4, _⟩ => ⟨S16640x12288, .bf16⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GaQkv.lean ====
abbrev S16640x4096 : Shape := ⟨2, ![16640, 4096]⟩
abbrev S4096x6144 : Shape := ⟨2, ![4096, 6144]⟩
abbrev S16640x6144 : Shape := ⟨2, ![16640, 6144]⟩
abbrev S1280x4096 : Shape := ⟨2, ![1280, 4096]⟩
abbrev S4096x1024 : Shape := ⟨2, ![4096, 1024]⟩
abbrev S1280x1024 : Shape := ⟨2, ![1280, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16640x4096, .bf16⟩
  | .hbm, ⟨1, _⟩ => ⟨S4096x6144, .f32⟩
  | .hbm, ⟨2, _⟩ => ⟨S4096x6144, .bf16⟩
  | .hbm, ⟨3, _⟩ => ⟨S16640x6144, .bf16⟩
  | .local _ .vmem, ⟨0, _⟩ => ⟨S1280x4096, .bf16⟩
  | .local _ .vmem, ⟨1, _⟩ => ⟨S1280x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1280x1024, .bf16⟩
  | .local _ .vmem, ⟨5, _⟩ => ⟨S1280x1024, .bf16⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GaQkvReferenceIdeal.lean ====
abbrev S16640x4096 : Shape := ⟨2, ![16640, 4096]⟩
abbrev S4096x6144 : Shape := ⟨2, ![4096, 6144]⟩
abbrev S16640x6144 : Shape := ⟨2, ![16640, 6144]⟩

abbrev nBuf : Space → Nat
  | .hbm => 5
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S4096x6144, .f32⟩
  | .hbm, ⟨2, _⟩ => ⟨S16640x4096, .f32⟩
  | .hbm, ⟨3, _⟩ => ⟨S16640x6144, .f32⟩
  | .hbm, ⟨4, _⟩ => ⟨S16640x6144, .bf16⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProj.lean ====
abbrev S16640x4096 : Shape := ⟨2, ![16640, 4096]⟩
abbrev S4096x4096 : Shape := ⟨2, ![4096, 4096]⟩
abbrev S1280x4096 : Shape := ⟨2, ![1280, 4096]⟩
abbrev S4096x1024 : Shape := ⟨2, ![4096, 1024]⟩
abbrev S1280x1024 : Shape := ⟨2, ![1280, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16640x4096, .bf16⟩
  | .hbm, ⟨1, _⟩ => ⟨S4096x4096, .f32⟩
  | .hbm, ⟨2, _⟩ => ⟨S4096x4096, .bf16⟩
  | .hbm, ⟨3, _⟩ => ⟨S16640x4096, .bf16⟩
  | .local _ .vmem, ⟨0, _⟩ => ⟨S1280x4096, .bf16⟩
  | .local _ .vmem, ⟨1, _⟩ => ⟨S1280x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1280x1024, .bf16⟩
  | .local _ .vmem, ⟨5, _⟩ => ⟨S1280x1024, .bf16⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjReferenceIdeal.lean ====
abbrev S16640x4096 : Shape := ⟨2, ![16640, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S4096x4096, .f32⟩
  | .hbm, ⟨2, _⟩ => ⟨S16640x4096, .f32⟩
  | .hbm, ⟨3, _⟩ => ⟨S16640x4096, .f32⟩
  | .hbm, ⟨4, _⟩ => ⟨S16640x4096, .bf16⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Combine.lean ====
abbrev S16640x4096 : Shape := ⟨2, ![16640, 4096]⟩
abbrev S16640x2048 : Shape := ⟨2, ![16640, 2048]⟩
abbrev S4096x384 : Shape := ⟨2, ![4096, 384]⟩
abbrev S384x4096 : Shape := ⟨2, ![384, 4096]⟩
abbrev S67072x2048 : Shape := ⟨2, ![67072, 2048]⟩
abbrev S16640x4 : Shape := ⟨2, ![16640, 4]⟩
abbrev S2x6x1x4096 : Shape := ⟨4, ![2, 6, 1, 4096]⟩
abbrev S4096 : Shape := ⟨1, ![4096]⟩
abbrev S4096x768 : Shape := ⟨2, ![4096, 768]⟩
abbrev S1x4096 : Shape := ⟨2, ![1, 4096]⟩
abbrev S128x4096 : Shape := ⟨2, ![128, 4096]⟩
abbrev S128x2048 : Shape := ⟨2, ![128, 2048]⟩
abbrev S128x4 : Shape := ⟨2, ![128, 4]⟩
abbrev S1x1x1x4096 : Shape := ⟨4, ![1, 1, 1, 4096]⟩
abbrev S128x768 : Shape := ⟨2, ![128, 768]⟩
abbrev S128x384 : Shape := ⟨2, ![128, 384]⟩
abbrev S128x1 : Shape := ⟨2, ![128, 1]⟩
abbrev S128 : Shape := ⟨1, ![128]⟩

abbrev nBuf : Space → Nat
  | .hbm => 18
  | .vmem => 28
  | .smem => 0
  | _ => 0

abbrev bufTy : (tb : Table) → Fin (tcTables nBuf tb) → BufTy
  | .hbm, ⟨0, _⟩ => ⟨S16640x4096, .f32⟩
  | .hbm, ⟨1, _⟩ => ⟨S16640x2048, .i32⟩
  | .hbm, ⟨2, _⟩ => ⟨S4096x384, .f32⟩
  | .hbm, ⟨3, _⟩ => ⟨S4096x384, .f32⟩
  | .hbm, ⟨4, _⟩ => ⟨S384x4096, .f32⟩
  | .hbm, ⟨5, _⟩ => ⟨S67072x2048, .i32⟩
  | .hbm, ⟨6, _⟩ => ⟨S16640x4, .f32⟩
  | .hbm, ⟨7, _⟩ => ⟨S2x6x1x4096, .f32⟩
  | .hbm, ⟨8, _⟩ => ⟨S4096, .f32⟩
  | .hbm, ⟨9, _⟩ => ⟨S4096, .f32⟩
  | .hbm, ⟨10, _⟩ => ⟨S2x6x1x4096, .f32⟩
  | .hbm, ⟨11, _⟩ => ⟨S4096x768, .f32⟩
  | .hbm, ⟨12, _⟩ => ⟨S4096x768, .bf16⟩
  | .hbm, ⟨13, _⟩ => ⟨S384x4096, .bf16⟩
  | .hbm, ⟨14, _⟩ => ⟨S1x4096, .f32⟩
  | .hbm, ⟨15, _⟩ => ⟨S1x4096, .f32⟩
  | .hbm, ⟨16, _⟩ => ⟨S16640x4096, .f32⟩
  | .hbm, ⟨17, _⟩ => ⟨S16640x4096, .bf16⟩
  | .local _ .vmem, ⟨0, _⟩ => ⟨S128x4096, .f32⟩
  | .local _ .vmem, ⟨1, _⟩ => ⟨S128x4096, .f32⟩
  | .local _ .vmem, ⟨2, _⟩ => ⟨S128x2048, .i32⟩
  | .local _ .vmem, ⟨3, _⟩ => ⟨S128x2048, .i32⟩
  | .local _ .vmem, ⟨4, _⟩ => ⟨S4096x768, .bf16⟩
  | .local _ .vmem, ⟨5, _⟩ => ⟨S384x4096, .bf16⟩
  | .local _ .vmem, ⟨6, _⟩ => ⟨S128x2048, .i32⟩
  | .local _ .vmem, ⟨7, _⟩ => ⟨S128x2048, .i32⟩
  | .local _ .vmem, ⟨8, _⟩ => ⟨S128x2048, .i32⟩
  | .local _ .vmem, ⟨9, _⟩ => ⟨S128x2048, .i32⟩
  | .local _ .vmem, ⟨10, _⟩ => ⟨S128x2048, .i32⟩
  | .local _ .vmem, ⟨11, _⟩ => ⟨S128x2048, .i32⟩
  | .local _ .vmem, ⟨12, _⟩ => ⟨S128x2048, .i32⟩
  | .local _ .vmem, ⟨13, _⟩ => ⟨S128x2048, .i32⟩
  | .local _ .vmem, ⟨14, _⟩ => ⟨S128x4, .f32⟩
  | .local _ .vmem, ⟨15, _⟩ => ⟨S128x4, .f32⟩
  | .local _ .vmem, ⟨16, _⟩ => ⟨S1x1x1x4096, .f32⟩
  | .local _ .vmem, ⟨17, _⟩ => ⟨S1x1x1x4096, .f32⟩
  | .local _ .vmem, ⟨18, _⟩ => ⟨S1x4096, .f32⟩
  | .local _ .vmem, ⟨19, _⟩ => ⟨S1x4096, .f32⟩
  | .local _ .vmem, ⟨20, _⟩ => ⟨S1x1x1x4096, .f32⟩
  | .local _ .vmem, ⟨21, _⟩ => ⟨S1x1x1x4096, .f32⟩
  | .local _ .vmem, ⟨22, _⟩ => ⟨S1x1x1x4096, .f32⟩
  | .local _ .vmem, ⟨23, _⟩ => ⟨S1x1x1x4096, .f32⟩
  | .local _ .vmem, ⟨24, _⟩ => ⟨S128x4096, .f32⟩
  | .local _ .vmem, ⟨25, _⟩ => ⟨S128x4096, .f32⟩
  | .local _ .vmem, ⟨26, _⟩ => ⟨S128x4096, .bf16⟩
  | .local _ .vmem, ⟨27, _⟩ => ⟨S128x4096, .bf16⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![130], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c130_i32 : BitVec 32 := 130#32
  let v0 : BitVec 32 := Scalar.addi c130_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c260_i32 : BitVec 32 := 260#32
  let v0 : BitVec 32 := Scalar.addi c260_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c390_i32 : BitVec 32 := 390#32
  let v0 : BitVec 32 := Scalar.addi c390_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c128_i32 : BitVec 32 := 128#32
  let v0 : BitVec 32 := Scalar.divsi arg0 c128_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c128_i32 c0_i32_1
  let v7 : BitVec 32 := Scalar.extui v6
  let c0_i32_2 : BitVec 32 := 0#32
  let v8 : BitVec 1 := Scalar.cmpi .slt c128_i32 c0_i32_2
  let v9 : BitVec 32 := Scalar.extui v8
  let v10 : BitVec 32 := Scalar.subi v7 v9
  let v11 : BitVec 1 := Scalar.cmpi .ne v5 v10
  let v12 : BitVec 32 := Scalar.remsi arg0 c128_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let c0_i32_4 : BitVec 32 := 0#32
  let c0_i32_5 : BitVec 32 := 0#32
  let c0_i32_6 : BitVec 32 := 0#32
  ![v16.toNat, c5_i32.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c128_i32 : BitVec 32 := 128#32
  let v0 : BitVec 32 := Scalar.divsi arg0 c128_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c128_i32 c0_i32_1
  let v7 : BitVec 32 := Scalar.extui v6
  let c0_i32_2 : BitVec 32 := 0#32
  let v8 : BitVec 1 := Scalar.cmpi .slt c128_i32 c0_i32_2
  let v9 : BitVec 32 := Scalar.extui v8
  let v10 : BitVec 32 := Scalar.subi v7 v9
  let v11 : BitVec 1 := Scalar.cmpi .ne v5 v10
  let v12 : BitVec 32 := Scalar.remsi arg0 c128_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![v16.toNat, c1_i32_4.toNat, c0_i32_5.toNat, c0_i32_6.toNat]

def cc0_transform_13 (i : grid0.Coords) : Fin 4 → Nat :=
  let arg0 : BitVec 32 := BitVec.ofNat 32 (i 0).val
  let c128_i32 : BitVec 32 := 128#32
  let v0 : BitVec 32 := Scalar.divsi arg0 c128_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c128_i32 c0_i32_1
  let v7 : BitVec 32 := Scalar.extui v6
  let c0_i32_2 : BitVec 32 := 0#32
  let v8 : BitVec 1 := Scalar.cmpi .slt c128_i32 c0_i32_2
  let v9 : BitVec 32 := Scalar.extui v8
  let v10 : BitVec 32 := Scalar.subi v7 v9
  let v11 : BitVec 1 := Scalar.cmpi .ne v5 v10
  let v12 : BitVec 32 := Scalar.remsi arg0 c128_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x1x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x1x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x4096 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== CombineReferenceIdeal.lean ====
abbrev S16640x4096 : Shape := ⟨2, ![16640, 4096]⟩
abbrev S16640x2048 : Shape := ⟨2, ![16640, 2048]⟩
abbrev S4096x384 : Shape := ⟨2, ![4096, 384]⟩
abbrev S384x4096 : Shape := ⟨2, ![384, 4096]⟩
abbrev S67072x2048 : Shape := ⟨2, ![67072, 2048]⟩
abbrev S16640x4 : Shape := ⟨2, ![16640, 4]⟩
abbrev S2x6x1x4096 : Shape := ⟨4, ![2, 6, 1, 4096]⟩
abbrev S4096 : Shape := ⟨1, ![4096]⟩
abbrev S_ : Shape := ⟨0, ![]⟩
abbrev S16640x384 : Shape := ⟨2, ![16640, 384]⟩
abbrev S66560x2048 : Shape := ⟨2, ![66560, 2048]⟩
abbrev S66560x4096 : Shape := ⟨2, ![66560, 4096]⟩
abbrev S4x16640x4096 : Shape := ⟨3, ![4, 16640, 4096]⟩
abbrev S4x16640 : Shape := ⟨2, ![4, 16640]⟩
abbrev S4x16640x1 : Shape := ⟨3, ![4, 16640, 1]⟩
abbrev S1x1x1x4096 : Shape := ⟨4, ![1, 1, 1, 4096]⟩
abbrev S1x4096 : Shape := ⟨2, ![1, 4096]⟩
abbrev S16384x4096 : Shape := ⟨2, ![16384, 4096]⟩
abbrev S256x4096 : Shape := ⟨2, ![256, 4096]⟩
abbrev S16640 : Shape := ⟨1, ![16640]⟩
abbrev S16640x1 : Shape := ⟨2, ![16640, 1]⟩

abbrev nBuf : Space → Nat
  | .hbm => 112
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S16640x2048, .i32⟩
  | .hbm, ⟨2, _⟩ => ⟨S4096x384, .f32⟩
  | .hbm, ⟨3, _⟩ => ⟨S4096x384, .f32⟩
  | .hbm, ⟨4, _⟩ => ⟨S384x4096, .f32⟩
  | .hbm, ⟨5, _⟩ => ⟨S67072x2048, .i32⟩
  | .hbm, ⟨6, _⟩ => ⟨S16640x4, .f32⟩
  | .hbm, ⟨7, _⟩ => ⟨S2x6x1x4096, .f32⟩
  | .hbm, ⟨8, _⟩ => ⟨S4096, .f32⟩
  | .hbm, ⟨9, _⟩ => ⟨S4096, .f32⟩
  | .hbm, ⟨10, _⟩ => ⟨S2x6x1x4096, .f32⟩
  | .hbm, ⟨11, _⟩ => ⟨S_, .i32⟩
  | .hbm, ⟨12, _⟩ => ⟨S16640x2048, .i32⟩
  | .hbm, ⟨13, _⟩ => ⟨S16640x2048, .i32⟩
  | .hbm, ⟨14, _⟩ => ⟨S16640x2048, .f32⟩
  | .hbm, ⟨15, _⟩ => ⟨S_, .i32⟩
  | .hbm, ⟨16, _⟩ => ⟨S16640x2048, .i32⟩
  | .hbm, ⟨17, _⟩ => ⟨S16640x2048, .i32⟩
  | .hbm, ⟨18, _⟩ => ⟨S16640x2048, .f32⟩
  | .hbm, ⟨19, _⟩ => ⟨S16640x4096, .f32⟩
  | .hbm, ⟨20, _⟩ => ⟨S16640x384, .f32⟩
  | .hbm, ⟨21, _⟩ => ⟨S16640x384, .f32⟩
  | .hbm, ⟨22, _⟩ => ⟨S16640x384, .f32⟩
  | .hbm, ⟨23, _⟩ => ⟨S_, .f32⟩
  | .hbm, ⟨24, _⟩ => ⟨S16640x384, .f32⟩
  | .hbm, ⟨25, _⟩ => ⟨S16640x384, .f32⟩
  | .hbm, ⟨26, _⟩ => ⟨S_, .f32⟩
  | .hbm, ⟨27, _⟩ => ⟨S16640x384, .f32⟩
  | .hbm, ⟨28, _⟩ => ⟨S16640x384, .f32⟩
  | .hbm, ⟨29, _⟩ => ⟨S16640x384, .f32⟩
  | .hbm, ⟨30, _⟩ => ⟨S16640x384, .f32⟩
  | .hbm, ⟨31, _⟩ => ⟨S16640x384, .f32⟩
  | .hbm, ⟨32, _⟩ => ⟨S16640x4096, .f32⟩
  | .hbm, ⟨33, _⟩ => ⟨S66560x2048, .i32⟩
  | .hbm, ⟨34, _⟩ => ⟨S_, .i32⟩
  | .hbm, ⟨35, _⟩ => ⟨S66560x2048, .i32⟩
  | .hbm, ⟨36, _⟩ => ⟨S66560x2048, .i32⟩
  | .hbm, ⟨37, _⟩ => ⟨S66560x2048, .f32⟩
  | .hbm, ⟨38, _⟩ => ⟨S_, .i32⟩
  | .hbm, ⟨39, _⟩ => ⟨S66560x2048, .i32⟩
  | .hbm, ⟨40, _⟩ => ⟨S66560x2048, .i32⟩
  | .hbm, ⟨41, _⟩ => ⟨S66560x2048, .f32⟩
  | .hbm, ⟨42, _⟩ => ⟨S66560x4096, .f32⟩
  | .hbm, ⟨43, _⟩ => ⟨S4x16640x4096, .f32⟩
  | .hbm, ⟨44, _⟩ => ⟨S4x16640, .f32⟩
  | .hbm, ⟨45, _⟩ => ⟨S4x16640x1, .f32⟩
  | .hbm, ⟨46, _⟩ => ⟨S4x16640x4096, .f32⟩
  | .hbm, ⟨47, _⟩ => ⟨S4x16640x4096, .f32⟩
  | .hbm, ⟨48, _⟩ => ⟨S_, .f32⟩
  | .hbm, ⟨49, _⟩ => ⟨S16640x4096, .f32⟩
  | .hbm, ⟨50, _⟩ => ⟨S16640x4096, .f32⟩
  | .hbm, ⟨51, _⟩ => ⟨S_, .f32⟩
  | .hbm, ⟨52, _⟩ => ⟨S16640x4096, .f32⟩
  | .hbm, ⟨53, _⟩ => ⟨S16640x4096, .f32⟩
  | .hbm, ⟨54, _⟩ => ⟨S1x1x1x4096, .f32⟩
  | .hbm, ⟨55, _⟩ => ⟨S1x4096, .f32⟩
  | .hbm, ⟨56, _⟩ => ⟨S16384x4096, .f32⟩
  | .hbm, ⟨57, _⟩ => ⟨S1x1x1x4096, .f32⟩
  | .hbm, ⟨58, _⟩ => ⟨S1x4096, .f32⟩
  | .hbm, ⟨59, _⟩ => ⟨S256x4096, .f32⟩
  | .hbm, ⟨60, _⟩ => ⟨S16640x4096, .f32⟩
  | .hbm, ⟨61, _⟩ => ⟨S16640x4096, .f32⟩
  | .hbm, ⟨62, _⟩ => ⟨S16640x4096, .f32⟩
  | .hbm, ⟨63, _⟩ => ⟨S_, .f32⟩
  | .hbm, ⟨64, _⟩ => ⟨S16640, .f32⟩
  | .hbm, ⟨65, _⟩ => ⟨S16640x1, .f32⟩
  | .hbm, ⟨66, _⟩ => ⟨S_, .f32⟩
  | .hbm, ⟨67, _⟩ => ⟨S16640x1, .f32⟩
  | .hbm, ⟨68, _⟩ => ⟨S16640x1, .f32⟩
  | .hbm, ⟨69, _⟩ => ⟨S16640x4096, .f32⟩
  | .hbm, ⟨70, _⟩ => ⟨S16640x4096, .f32⟩
  | .hbm, ⟨71, _⟩ => ⟨S16640x4096, .f32⟩
  | .hbm, ⟨72, _⟩ => ⟨S_, .f32⟩
  | .hbm, ⟨73, _⟩ => ⟨S16640, .f32⟩
  | .hbm, ⟨74, _⟩ => ⟨S16640x1, .f32⟩
  | .hbm, ⟨75, _⟩ => ⟨S_, .f32⟩
  | .hbm, ⟨76, _⟩ => ⟨S16640x1, .f32⟩
  | .hbm, ⟨77, _⟩ => ⟨S16640x1, .f32⟩
  | .hbm, ⟨78, _⟩ => ⟨S16640x4096, .f32⟩
  | .hbm, ⟨79, _⟩ => ⟨S16640x4096, .f32⟩
  | .hbm, ⟨80, _⟩ => ⟨S_, .f32⟩
  | .hbm, ⟨81, _⟩ => ⟨S16640x1, .f32⟩
  | .hbm, ⟨82, _⟩ => ⟨S16640x1, .f32⟩
  | .hbm, ⟨83, _⟩ => ⟨S16640x1, .f32⟩
  | .hbm, ⟨84, _⟩ => ⟨S16640x4096, .f32⟩
  | .hbm, ⟨85, _⟩ => ⟨S16640x4096, .f32⟩
  | .hbm, ⟨86, _⟩ => ⟨S1x4096, .f32⟩
  | .hbm, ⟨87, _⟩ => ⟨S16640x4096, .f32⟩
  | .hbm, ⟨88, _⟩ => ⟨S16640x4096, .f32⟩
  | .hbm, ⟨89, _⟩ => ⟨S1x4096, .f32⟩
  | .hbm, ⟨90, _⟩ => ⟨S16640x4096, .f32⟩
  | .hbm, ⟨91, _⟩ => ⟨S16640x4096, .f32⟩
  | .hbm, ⟨92, _⟩ => ⟨S1x1x1x4096, .f32⟩
  | .hbm, ⟨93, _⟩ => ⟨S1x4096, .f32⟩
  | .hbm, ⟨94, _⟩ => ⟨S16384x4096, .f32⟩
  | .hbm, ⟨95, _⟩ => ⟨S1x1x1x4096, .f32⟩
  | .hbm, ⟨96, _⟩ => ⟨S1x4096, .f32⟩
  | .hbm, ⟨97, _⟩ => ⟨S256x4096, .f32⟩
  | .hbm, ⟨98, _⟩ => ⟨S16640x4096, .f32⟩
  | .hbm, ⟨99, _⟩ => ⟨S_, .f32⟩
  | .hbm, ⟨100, _⟩ => ⟨S16640x4096, .f32⟩
  | .hbm, ⟨101, _⟩ => ⟨S16640x4096, .f32⟩
  | .hbm, ⟨102, _⟩ => ⟨S16640x4096, .f32⟩
  | .hbm, ⟨103, _⟩ => ⟨S1x1x1x4096, .f32⟩
  | .hbm, ⟨104, _⟩ => ⟨S1x4096, .f32⟩
  | .hbm, ⟨105, _⟩ => ⟨S16384x4096, .f32⟩
  | .hbm, ⟨106, _⟩ => ⟨S1x1x1x4096, .f32⟩
  | .hbm, ⟨107, _⟩ => ⟨S1x4096, .f32⟩
  | .hbm, ⟨108, _⟩ => ⟨S256x4096, .f32⟩
  | .hbm, ⟨109, _⟩ => ⟨S16640x4096, .f32⟩
  | .hbm, ⟨110, _⟩ => ⟨S16640x4096, .f32⟩
  | .hbm, ⟨111, _⟩ => ⟨S16640x4096, .bf16⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c_1 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_cst_7 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_8 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_9 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]
-- ==== CombineLast.lean ====
abbrev S16640x4096 : Shape := ⟨2, ![16640, 4096]⟩
abbrev S16640x2048 : Shape := ⟨2, ![16640, 2048]⟩
abbrev S4096x384 : Shape := ⟨2, ![4096, 384]⟩
abbrev S384x4096 : Shape := ⟨2, ![384, 4096]⟩
abbrev S67072x2048 : Shape := ⟨2, ![67072, 2048]⟩
abbrev S16640x4 : Shape := ⟨2, ![16640, 4]⟩
abbrev S2x6x1x4096 : Shape := ⟨4, ![2, 6, 1, 4096]⟩
abbrev S4096 : Shape := ⟨1, ![4096]⟩
abbrev S4096x768 : Shape := ⟨2, ![4096, 768]⟩
abbrev S1x4096 : Shape := ⟨2, ![1, 4096]⟩
abbrev S16384x4096 : Shape := ⟨2, ![16384, 4096]⟩
abbrev S128x4096 : Shape := ⟨2, ![128, 4096]⟩
abbrev S128x2048 : Shape := ⟨2, ![128, 2048]⟩
abbrev S128x4 : Shape := ⟨2, ![128, 4]⟩
abbrev S1x1x1x4096 : Shape := ⟨4, ![1, 1, 1, 4096]⟩
abbrev S128x768 : Shape := ⟨2, ![128, 768]⟩
abbrev S128x384 : Shape := ⟨2, ![128, 384]⟩
abbrev S128x1 : Shape := ⟨2, ![128, 1]⟩
abbrev S128 : Shape := ⟨1, ![128]⟩

abbrev nBuf : Space → Nat
  | .hbm => 16
  | .vmem => 22
  | .smem => 0
  | _ => 0

abbrev bufTy : (tb : Table) → Fin (tcTables nBuf tb) → BufTy
  | .hbm, ⟨0, _⟩ => ⟨S16640x4096, .f32⟩
  | .hbm, ⟨1, _⟩ => ⟨S16640x2048, .i32⟩
  | .hbm, ⟨2, _⟩ => ⟨S4096x384, .f32⟩
  | .hbm, ⟨3, _⟩ => ⟨S4096x384, .f32⟩
  | .hbm, ⟨4, _⟩ => ⟨S384x4096, .f32⟩
  | .hbm, ⟨5, _⟩ => ⟨S67072x2048, .i32⟩
  | .hbm, ⟨6, _⟩ => ⟨S16640x4, .f32⟩
  | .hbm, ⟨7, _⟩ => ⟨S2x6x1x4096, .f32⟩
  | .hbm, ⟨8, _⟩ => ⟨S4096, .f32⟩
  | .hbm, ⟨9, _⟩ => ⟨S4096, .f32⟩
  | .hbm, ⟨10, _⟩ => ⟨S4096x768, .f32⟩
  | .hbm, ⟨11, _⟩ => ⟨S4096x768, .bf16⟩
  | .hbm, ⟨12, _⟩ => ⟨S384x4096, .bf16⟩
  | .hbm, ⟨13, _⟩ => ⟨S1x4096, .f32⟩
  | .hbm, ⟨14, _⟩ => ⟨S1x4096, .f32⟩
  | .hbm, ⟨15, _⟩ => ⟨S16384x4096, .f32⟩
  | .local _ .vmem, ⟨0, _⟩ => ⟨S128x4096, .f32⟩
  | .local _ .vmem, ⟨1, _⟩ => ⟨S128x4096, .f32⟩
  | .local _ .vmem, ⟨2, _⟩ => ⟨S128x2048, .i32⟩
  | .local _ .vmem, ⟨3, _⟩ => ⟨S128x2048, .i32⟩
  | .local _ .vmem, ⟨4, _⟩ => ⟨S4096x768, .bf16⟩
  | .local _ .vmem, ⟨5, _⟩ => ⟨S384x4096, .bf16⟩
  | .local _ .vmem, ⟨6, _⟩ => ⟨S128x2048, .i32⟩
  | .local _ .vmem, ⟨7, _⟩ => ⟨S128x2048, .i32⟩
  | .local _ .vmem, ⟨8, _⟩ => ⟨S128x2048, .i32⟩
  | .local _ .vmem, ⟨9, _⟩ => ⟨S128x2048, .i32⟩
  | .local _ .vmem, ⟨10, _⟩ => ⟨S128x2048, .i32⟩
  | .local _ .vmem, ⟨11, _⟩ => ⟨S128x2048, .i32⟩
  | .local _ .vmem, ⟨12, _⟩ => ⟨S128x2048, .i32⟩
  | .local _ .vmem, ⟨13, _⟩ => ⟨S128x2048, .i32⟩
  | .local _ .vmem, ⟨14, _⟩ => ⟨S128x4, .f32⟩
  | .local _ .vmem, ⟨15, _⟩ => ⟨S128x4, .f32⟩
  | .local _ .vmem, ⟨16, _⟩ => ⟨S1x1x1x4096, .f32⟩
  | .local _ .vmem, ⟨17, _⟩ => ⟨S1x1x1x4096, .f32⟩
  | .local _ .vmem, ⟨18, _⟩ => ⟨S1x4096, .f32⟩
  | .local _ .vmem, ⟨19, _⟩ => ⟨S1x4096, .f32⟩
  | .local _ .vmem, ⟨20, _⟩ => ⟨S128x4096, .f32⟩
  | .local _ .vmem, ⟨21, _⟩ => ⟨S128x4096, .f32⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c130_i32 : BitVec 32 := 130#32
  let v0 : BitVec 32 := Scalar.addi c130_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c260_i32 : BitVec 32 := 260#32
  let v0 : BitVec 32 := Scalar.addi c260_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c390_i32 : BitVec 32 := 390#32
  let v0 : BitVec 32 := Scalar.addi c390_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c128_i32 : BitVec 32 := 128#32
  let v0 : BitVec 32 := Scalar.divsi arg0 c128_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c128_i32 c0_i32_1
  let v7 : BitVec 32 := Scalar.extui v6
  let c0_i32_2 : BitVec 32 := 0#32
  let v8 : BitVec 1 := Scalar.cmpi .slt c128_i32 c0_i32_2
  let v9 : BitVec 32 := Scalar.extui v8
  let v10 : BitVec 32 := Scalar.subi v7 v9
  let v11 : BitVec 1 := Scalar.cmpi .ne v5 v10
  let v12 : BitVec 32 := Scalar.remsi arg0 c128_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let c0_i32_4 : BitVec 32 := 0#32
  let c0_i32_5 : BitVec 32 := 0#32
  let c0_i32_6 : BitVec 32 := 0#32
  ![v16.toNat, c5_i32.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== CombineLastReferenceIdeal.lean ====
abbrev S16640x4096 : Shape := ⟨2, ![16640, 4096]⟩
abbrev S16640x2048 : Shape := ⟨2, ![16640, 2048]⟩
abbrev S4096x384 : Shape := ⟨2, ![4096, 384]⟩
abbrev S384x4096 : Shape := ⟨2, ![384, 4096]⟩
abbrev S67072x2048 : Shape := ⟨2, ![67072, 2048]⟩
abbrev S16640x4 : Shape := ⟨2, ![16640, 4]⟩
abbrev S2x6x1x4096 : Shape := ⟨4, ![2, 6, 1, 4096]⟩
abbrev S4096 : Shape := ⟨1, ![4096]⟩
abbrev S16384x2048 : Shape := ⟨2, ![16384, 2048]⟩
abbrev S_ : Shape := ⟨0, ![]⟩
abbrev S16384x4096 : Shape := ⟨2, ![16384, 4096]⟩
abbrev S16384x384 : Shape := ⟨2, ![16384, 384]⟩
abbrev S66560x2048 : Shape := ⟨2, ![66560, 2048]⟩
abbrev S66560x4096 : Shape := ⟨2, ![66560, 4096]⟩
abbrev S4x16640x4096 : Shape := ⟨3, ![4, 16640, 4096]⟩
abbrev S4x16384x4096 : Shape := ⟨3, ![4, 16384, 4096]⟩
abbrev S16384x4 : Shape := ⟨2, ![16384, 4]⟩
abbrev S4x16384 : Shape := ⟨2, ![4, 16384]⟩
abbrev S4x16384x1 : Shape := ⟨3, ![4, 16384, 1]⟩
abbrev S1x1x1x4096 : Shape := ⟨4, ![1, 1, 1, 4096]⟩
abbrev S1x4096 : Shape := ⟨2, ![1, 4096]⟩
abbrev S16384 : Shape := ⟨1, ![16384]⟩
abbrev S16384x1 : Shape := ⟨2, ![16384, 1]⟩

abbrev nBuf : Space → Nat
  | .hbm => 91
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S16640x2048, .i32⟩
  | .hbm, ⟨2, _⟩ => ⟨S4096x384, .f32⟩
  | .hbm, ⟨3, _⟩ => ⟨S4096x384, .f32⟩
  | .hbm, ⟨4, _⟩ => ⟨S384x4096, .f32⟩
  | .hbm, ⟨5, _⟩ => ⟨S67072x2048, .i32⟩
  | .hbm, ⟨6, _⟩ => ⟨S16640x4, .f32⟩
  | .hbm, ⟨7, _⟩ => ⟨S2x6x1x4096, .f32⟩
  | .hbm, ⟨8, _⟩ => ⟨S4096, .f32⟩
  | .hbm, ⟨9, _⟩ => ⟨S4096, .f32⟩
  | .hbm, ⟨10, _⟩ => ⟨S16384x2048, .i32⟩
  | .hbm, ⟨11, _⟩ => ⟨S_, .i32⟩
  | .hbm, ⟨12, _⟩ => ⟨S16384x2048, .i32⟩
  | .hbm, ⟨13, _⟩ => ⟨S16384x2048, .i32⟩
  | .hbm, ⟨14, _⟩ => ⟨S16384x2048, .f32⟩
  | .hbm, ⟨15, _⟩ => ⟨S_, .i32⟩
  | .hbm, ⟨16, _⟩ => ⟨S16384x2048, .i32⟩
  | .hbm, ⟨17, _⟩ => ⟨S16384x2048, .i32⟩
  | .hbm, ⟨18, _⟩ => ⟨S16384x2048, .f32⟩
  | .hbm, ⟨19, _⟩ => ⟨S16384x4096, .f32⟩
  | .hbm, ⟨20, _⟩ => ⟨S16384x384, .f32⟩
  | .hbm, ⟨21, _⟩ => ⟨S16384x384, .f32⟩
  | .hbm, ⟨22, _⟩ => ⟨S16384x384, .f32⟩
  | .hbm, ⟨23, _⟩ => ⟨S_, .f32⟩
  | .hbm, ⟨24, _⟩ => ⟨S16384x384, .f32⟩
  | .hbm, ⟨25, _⟩ => ⟨S16384x384, .f32⟩
  | .hbm, ⟨26, _⟩ => ⟨S_, .f32⟩
  | .hbm, ⟨27, _⟩ => ⟨S16384x384, .f32⟩
  | .hbm, ⟨28, _⟩ => ⟨S16384x384, .f32⟩
  | .hbm, ⟨29, _⟩ => ⟨S16384x384, .f32⟩
  | .hbm, ⟨30, _⟩ => ⟨S16384x384, .f32⟩
  | .hbm, ⟨31, _⟩ => ⟨S16384x384, .f32⟩
  | .hbm, ⟨32, _⟩ => ⟨S16384x4096, .f32⟩
  | .hbm, ⟨33, _⟩ => ⟨S66560x2048, .i32⟩
  | .hbm, ⟨34, _⟩ => ⟨S_, .i32⟩
  | .hbm, ⟨35, _⟩ => ⟨S66560x2048, .i32⟩
  | .hbm, ⟨36, _⟩ => ⟨S66560x2048, .i32⟩
  | .hbm, ⟨37, _⟩ => ⟨S66560x2048, .f32⟩
  | .hbm, ⟨38, _⟩ => ⟨S_, .i32⟩
  | .hbm, ⟨39, _⟩ => ⟨S66560x2048, .i32⟩
  | .hbm, ⟨40, _⟩ => ⟨S66560x2048, .i32⟩
  | .hbm, ⟨41, _⟩ => ⟨S66560x2048, .f32⟩
  | .hbm, ⟨42, _⟩ => ⟨S66560x4096, .f32⟩
  | .hbm, ⟨43, _⟩ => ⟨S4x16640x4096, .f32⟩
  | .hbm, ⟨44, _⟩ => ⟨S4x16384x4096, .f32⟩
  | .hbm, ⟨45, _⟩ => ⟨S16384x4, .f32⟩
  | .hbm, ⟨46, _⟩ => ⟨S4x16384, .f32⟩
  | .hbm, ⟨47, _⟩ => ⟨S4x16384x1, .f32⟩
  | .hbm, ⟨48, _⟩ => ⟨S4x16384x4096, .f32⟩
  | .hbm, ⟨49, _⟩ => ⟨S4x16384x4096, .f32⟩
  | .hbm, ⟨50, _⟩ => ⟨S_, .f32⟩
  | .hbm, ⟨51, _⟩ => ⟨S16384x4096, .f32⟩
  | .hbm, ⟨52, _⟩ => ⟨S16384x4096, .f32⟩
  | .hbm, ⟨53, _⟩ => ⟨S16384x4096, .f32⟩
  | .hbm, ⟨54, _⟩ => ⟨S_, .f32⟩
  | .hbm, ⟨55, _⟩ => ⟨S16384x4096, .f32⟩
  | .hbm, ⟨56, _⟩ => ⟨S16384x4096, .f32⟩
  | .hbm, ⟨57, _⟩ => ⟨S1x1x1x4096, .f32⟩
  | .hbm, ⟨58, _⟩ => ⟨S1x4096, .f32⟩
  | .hbm, ⟨59, _⟩ => ⟨S16384x4096, .f32⟩
  | .hbm, ⟨60, _⟩ => ⟨S16384x4096, .f32⟩
  | .hbm, ⟨61, _⟩ => ⟨S16384x4096, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x4096, .f32⟩
  | .hbm, ⟨69, _⟩ => ⟨S16384x4096, .f32⟩
  | .hbm, ⟨70, _⟩ => ⟨S16384x4096, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S16384x4096, .f32⟩
  | .hbm, ⟨78, _⟩ => ⟨S16384x4096, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S16384x1, .f32⟩
  | .hbm, ⟨83, _⟩ => ⟨S16384x4096, .f32⟩
  | .hbm, ⟨84, _⟩ => ⟨S16384x4096, .f32⟩
  | .hbm, ⟨85, _⟩ => ⟨S1x4096, .f32⟩
  | .hbm, ⟨86, _⟩ => ⟨S16384x4096, .f32⟩
  | .hbm, ⟨87, _⟩ => ⟨S16384x4096, .f32⟩
  | .hbm, ⟨88, _⟩ => ⟨S1x4096, .f32⟩
  | .hbm, ⟨89, _⟩ => ⟨S16384x4096, .f32⟩
  | .hbm, ⟨90, _⟩ => ⟨S16384x4096, .f32⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_4 : Ref sig .tc := ⟨.hbm, 62, rfl⟩
abbrev main_v38 : Ref sig .tc := ⟨.hbm, 63, rfl⟩
abbrev main_v39 : Ref sig .tc := ⟨.hbm, 64, rfl⟩
abbrev main_cst_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩

abbrev nD : Nat := 1
abbrev τ : Topo := Topo.v7x

variable {F : FTy → Type} [FloatOps F]
-- ==== Proof.Body.lean ====
/-
The flash-attention body as a program of its own words: the same loads and stores as the printed
one, grouped by what they do (a block of 64 query rows, a chunk of scores, a chunk of accumulation),
with the block number a variable. The printed body equals it by definition.
-/
module

public import proofs.«01_k».proof.Proof.Gen.KernelIdeal.Loops

@[expose] public section

set_option synthInstance.maxSize 4096

noncomputable section

namespace Cert.Proof.Flash

open Idealize.ShloMosaic Idealize.SL.Sem Cert.KernelIdeal Cert.KernelIdeal.Gen

variable {F : FTy → Type} [FloatOps F] [Named F]

/-- The buffers the body works on. -/
structure Bufs where
  q : Memref sig .tc .vmem S256x512 .bf16
  hq : q.IsWhole
  k : Memref sig .tc .vmem S128x16640 .bf16
  hk : k.IsWhole
  v : Memref sig .tc .vmem S16640x128 .bf16
  hv : v.IsWhole
  o : Memref sig .tc .vmem S256x512 .bf16
  ho : o.IsWhole
  qs : Memref sig .tc .vmem S1024x128 .bf16
  hqs : qs.IsWhole
  s : Memref sig .tc .vmem S2x1024x2048 .f32
  hs : s.IsWhole
  p : Memref sig .tc .vmem S2x1024x2048 .bf16
  hp : p.IsWhole
  al : Memref sig .tc .vmem S2x1024x128 .f32
  hal : al.IsWhole
  m : Memref sig .tc .vmem S1024x128 .f32
  hm : m.IsWhole
  acc : Memref sig .tc .vmem S1024x256 .f32
  hacc : acc.IsWhole

/-- One load of a box. -/
abbrev ld {s : Shape} {e : EltTy} (r : Memref sig .tc .vmem s e) (off size : Fin s.rank → ℕ)
    (h : 0 < Shape.numel ⟨s.rank, size⟩) (inb : ∀ a, off a + size a ≤ s.size a) :
    Prog (TpuEff nD τ sig (Elt F) Λ₀ .tc) (Vec F ⟨s.rank, size⟩ e) :=
  Prog.lift (.load r (Rect.unit (s := s) off size inb).toLoadRect (View.loadsAt_vmem h))

/-- One store of a box of 32-bit numbers. -/
abbrev st {s : Shape} (r : Memref sig .tc .vmem s .f32) (off size : Fin s.rank → ℕ)
    (h : 0 < Shape.numel ⟨s.rank, size⟩) (inb : ∀ a, off a + size a ≤ s.size a)
    (w : Vec F ⟨s.rank, size⟩ .f32) : Prog (TpuEff nD τ sig (Elt F) Λ₀ .tc) PUnit :=
  Prog.lift (.store r (Rect.unit (s := s) off size inb) w Finset.univ
    (View.stores_vmem_bits_univ h rfl) (.inl rfl))

/-- One store of a box of 16-bit numbers, whose rows fill whole words. -/
abbrev sth {s : Shape} (r : Memref sig .tc .vmem s .bf16) (hr : r.IsWhole)
    (off size : Fin s.rank → ℕ)
    (h : 0 < Shape.numel ⟨s.rank, size⟩) (inb : ∀ a, off a + size a ≤ s.size a)
    (pk : (Rect.unit (s := s) off size inb).PackedRows (EltTy.packing .bf16))
    (w : Vec F ⟨s.rank, size⟩ .bf16) : Prog (TpuEff nD τ sig (Elt F) Λ₀ .tc) PUnit :=
  Prog.lift (.store r (Rect.unit (s := s) off size inb) w Finset.univ
    (View.stores_vmem h (hr.storeExact_slice rfl _ pk) (fun _ => rfl)) (.inl rfl))

/-! ### The values stored -/

/-- One 128-wide tile of a block of 64 score rows. -/
def tile (s : Vec F S1x64x2048 .f32) (j : ℕ) (h : S64x2048.Slices ![0, 128 * j] S64x128) :
    FVec F S64x128 .f32 :=
  extractStridedSlice S64x128 ![0, 128 * j] (shapeCast S64x2048 s shapeCasts_S1x64x2048_S64x2048) h

theorem tileFits (j : Fin 16) : S64x2048.Slices ![0, 128 * j.val] S64x128 := by
  revert j; decide

/-- The elementwise largest of tiles 0 … n. -/
def tileMax (s : Vec F S1x64x2048 .f32) : (n : ℕ) → n < 16 → FVec F S64x128 .f32
  | 0, h => tile s 0 (tileFits ⟨0, h⟩)
  | n + 1, h => maximumf (tileMax s n (Nat.lt_of_succ_lt h)) (tile s (n + 1) (tileFits ⟨n + 1, h⟩))

/-- The new running row maxima, from a 128-wide array whose rows hold the largest scores. -/
def newMax (t : FVec F S64x128 .f32) (m : Vec F S64x128 .f32) : FVec F S64x128 .f32 :=
  maximumf m (broadcastTo S64x128 (shapeCast S64x1
    (multiReduction .maximumf [1] S64 t 0xFF800000#32 reduces_S64x128_S64 (.inl rfl) rfl)
    shapeCasts_S64_S64x1) broadcasts_S64x1_S64x128)

/-- The factor by which earlier sums shrink. -/
def decay (m mn : FVec F S64x128 .f32) : FVec F S1x64x128 .f32 :=
  shapeCast S1x64x128 (exp2 (subf m mn)) shapeCasts_S64x128_S1x64x128

/-- One tile of weights. -/
def wgt (t mn : FVec F S64x128 .f32) : FVec F S64x128 .bf16 :=
  truncf .bf16 (exp2 (subf t mn)) bitsLt_bf16_f32

/-- The weights of a block of 64 rows and 2048 keys. -/
def weights (s : Vec F S1x64x2048 .f32) (mn : FVec F S64x128 .f32) : FVec F S1x64x2048 .bf16 :=
  shapeCast S1x64x2048 (concatenate S64x2048 1
    [⟨S64x128, wgt (tile s 0 (tileFits 0)) mn⟩, ⟨S64x128, wgt (tile s 1 (tileFits 1)) mn⟩,
     ⟨S64x128, wgt (tile s 2 (tileFits 2)) mn⟩, ⟨S64x128, wgt (tile s 3 (tileFits 3)) mn⟩,
     ⟨S64x128, wgt (tile s 4 (tileFits 4)) mn⟩, ⟨S64x128, wgt (tile s 5 (tileFits 5)) mn⟩,
     ⟨S64x128, wgt (tile s 6 (tileFits 6)) mn⟩, ⟨S64x128, wgt (tile s 7 (tileFits 7)) mn⟩,
     ⟨S64x128, wgt (tile s 8 (tileFits 8)) mn⟩, ⟨S64x128, wgt (tile s 9 (tileFits 9)) mn⟩,
     ⟨S64x128, wgt (tile s 10 (tileFits 10)) mn⟩, ⟨S64x128, wgt (tile s 11 (tileFits 11)) mn⟩,
     ⟨S64x128, wgt (tile s 12 (tileFits 12)) mn⟩, ⟨S64x128, wgt (tile s 13 (tileFits 13)) mn⟩,
     ⟨S64x128, wgt (tile s 14 (tileFits 14)) mn⟩, ⟨S64x128, wgt (tile s 15 (tileFits 15)) mn⟩]
    concatenates_S64x128_S64x128_S64x128_S64x128_S64x128_S64x128_S64x128_S64x128_S64x128_S64x128_S64x128_S64x128_S64x128_S64x128_S64x128_S64x128_S64x2048_d1)
    shapeCasts_S64x2048_S1x64x2048

/-- The two tiles of a block of 64 rows of the last 256 keys. -/
def tailTile0 (s : Vec F S1x64x256 .f32) : FVec F S64x128 .f32 :=
  extractStridedSlice S64x128 ![0, 0] (shapeCast S64x256 s shapeCasts_S1x64x256_S64x256)
    slices_S64x256_o0_0_S64x128
@[inherit_doc tailTile0]
def tailTile1 (s : Vec F S1x64x256 .f32) : FVec F S64x128 .f32 :=
  extractStridedSlice S64x128 ![0, 128] (shapeCast S64x256 s shapeCasts_S1x64x256_S64x256)
    slices_S64x256_o0_128_S64x128

/-- The weights of a block of 64 rows and the last 256 keys. -/
def tailWeights (s : Vec F S1x64x256 .f32) (mn : FVec F S64x128 .f32) : FVec F S1x64x256 .bf16 :=
  shapeCast S1x64x256 (concatenate S64x256 1
    [⟨S64x128, wgt (tailTile0 s) mn⟩, ⟨S64x128, wgt (tailTile1 s) mn⟩]
    concatenates_S64x128_S64x128_S64x256_d1) shapeCasts_S64x256_S1x64x256

/-- The scores of 1024 query rows against 2048 keys. -/
def scores (k : Vec F S128x2048 .bf16) (q : Vec F S1024x128 .bf16) : FVec F S1x1024x2048 .f32 :=
  shapeCast S1x1024x2048 (matmul dot_S1024x128_S128x2048_S1024x2048_1_0_0_1_n_n none q
    (shapeCast S128x2048 k shapeCasts_S128x2048_S128x2048)
    (constant S1024x2048 .f32 0x00000000#32)) shapeCasts_S1024x2048_S1x1024x2048

/-- The scores of 1024 query rows against the last 256 keys. -/
def tailScores (k : Vec F S128x256 .bf16) (q : Vec F S1024x128 .bf16) : FVec F S1x1024x256 .f32 :=
  shapeCast S1x1024x256 (matmul dot_S1024x128_S128x256_S1024x256_1_0_0_1_n_n none q
    (shapeCast S128x256 k shapeCasts_S128x256_S128x256)
    (constant S1024x256 .f32 0x00000000#32)) shapeCasts_S1024x256_S1x1024x256

/-- The sums so far, shrunk. -/
def shrunk (al : Vec F S1x1024x128 .f32) (acc : Vec F S1024x256 .f32) : FVec F S1024x256 .f32 :=
  mulf (concatenate S1024x256 1
    [⟨S1024x128, shapeCast S1024x128 al shapeCasts_S1x1024x128_S1024x128⟩,
     ⟨S1024x128, shapeCast S1024x128 al shapeCasts_S1x1024x128_S1024x128⟩]
    concatenates_S1024x128_S1024x128_S1024x256_d1) acc

/-- The sums after a chunk of 2048 keys: values in columns 0–127, the weights alone in 128–255. -/
def accum (v : Vec F S2048x128 .bf16) (al : Vec F S1x1024x128 .f32) (acc : Vec F S1024x256 .f32)
    (p : Vec F S1x1024x2048 .bf16) : FVec F S1024x256 .f32 :=
  shapeCast S1024x256 (addf (shrunk al acc)
    (matmul dot_S1024x2048_S2048x256_S1024x256_1_0_0_1_n_n none
      (shapeCast S1024x2048 p shapeCasts_S1x1024x2048_S1024x2048)
      (concatenate S2048x256 1 [⟨S2048x128, v⟩,
        ⟨S2048x128, broadcast S2048x128 (Scalar.ofBits .bf16 0x3F80#16)⟩]
        concatenates_S2048x128_S2048x128_S2048x256_d1)
      (constant S1024x256 .f32 0x00000000#32))) shapeCasts_S1024x256_S1024x256

/-- The sums after the chunk of the last 256 keys. -/
def tailAccum (v : Vec F S256x128 .bf16) (al : Vec F S1x1024x128 .f32)
    (acc : Vec F S1024x256 .f32) (p : Vec F S1x1024x256 .bf16) : FVec F S1024x256 .f32 :=
  shapeCast S1024x256 (addf (shrunk al acc)
    (matmul dot_S1024x256_S256x256_S1024x256_1_0_0_1_n_n none
      (shapeCast S1024x256 p shapeCasts_S1x1024x256_S1024x256)
      (concatenate S256x256 1 [⟨S256x128, v⟩,
        ⟨S256x128, broadcast S256x128 (Scalar.ofBits .bf16 0x3F80#16)⟩]
        concatenates_S256x128_S256x128_S256x256_d1)
      (constant S1024x256 .f32 0x00000000#32))) shapeCasts_S1024x256_S1024x256

/-! ### The programs -/

theorem rowIn (i : Fin 2) (b : Fin 16) (a : Fin 2) :
    (![64 * b.val, 0] : Fin 2 → ℕ) a + S64x128.size a ≤ S1024x128.size a := by
  revert b a; decide

theorem decayIn (i : Fin 2) (b : Fin 16) (a : Fin 3) :
    (![i.val, 64 * b.val, 0] : Fin 3 → ℕ) a + S1x64x128.size a ≤ S2x1024x128.size a := by
  revert i b a; decide

theorem blockIn (i : Fin 2) (b : Fin 16) (a : Fin 3) :
    (![i.val, 64 * b.val, 0] : Fin 3 → ℕ) a + S1x64x2048.size a ≤ S2x1024x2048.size a := by
  revert i b a; decide

theorem tailIn (i : Fin 2) (b : Fin 16) (a : Fin 3) :
    (![i.val, 64 * b.val, 0] : Fin 3 → ℕ) a + S1x64x256.size a ≤ S2x1024x2048.size a := by
  revert i b a; decide

theorem blockPacked (i : Fin 2) (b : Fin 16) :
    (Rect.unit (s := S2x1024x2048) ![i.val, 64 * b.val, 0] S1x64x2048.size
      (blockIn i b)).PackedRows (EltTy.packing .bf16) := by
  revert i b; decide

theorem tailPacked (i : Fin 2) (b : Fin 16) :
    (Rect.unit (s := S2x1024x2048) ![i.val, 64 * b.val, 0] S1x64x256.size
      (tailIn i b)).PackedRows (EltTy.packing .bf16) := by
  revert i b; decide

/-- One block of 64 rows: its new maxima, decay factors and weights. -/
def rowBlock (B : Bufs) (z : Fin 3 → ℕ) (hz : 0 < Shape.numel ⟨3, z⟩) (i : Fin 2) (b : Fin 16)
    (inb : ∀ a, (![i.val, 64 * b.val, 0] : Fin 3 → ℕ) a + z a ≤ S2x1024x2048.size a)
    (pk : (Rect.unit (s := S2x1024x2048) ![i.val, 64 * b.val, 0] z inb).PackedRows
      (EltTy.packing .bf16))
    (top : Vec F ⟨3, z⟩ .f32 → FVec F S64x128 .f32)
    (w : Vec F ⟨3, z⟩ .f32 → FVec F S64x128 .f32 → FVec F ⟨3, z⟩ .bf16) :
    Prog (TpuEff nD τ sig (Elt F) Λ₀ .tc) PUnit := do
  let s ← ld B.s ![i.val, 64 * b.val, 0] z hz inb
  let m ← ld B.m ![64 * b.val, 0] S64x128.size h_S64x128 (rowIn i b)
  let _ ← ld (F := F) B.al ![i.val, 64 * b.val, 0] S1x64x128.size h_S1x64x128 (decayIn i b)
  st B.al ![i.val, 64 * b.val, 0] S1x64x128.size h_S1x64x128 (decayIn i b)
    (decay m (newMax (top s) m))
  let _ ← ld (F := F) B.p ![i.val, 64 * b.val, 0] z hz inb
  sth B.p B.hp ![i.val, 64 * b.val, 0] z hz inb pk (w s (newMax (top s) m))
  let _ ← ld (F := F) B.m ![64 * b.val, 0] S64x128.size h_S64x128 (rowIn i b)
  st B.m ![64 * b.val, 0] S64x128.size h_S64x128 (rowIn i b)
    (shapeCast S64x128 (newMax (top s) m) shapeCasts_S64x128_S64x128)

/-- The block of 64 rows over 2048 keys. -/
abbrev mainBlock (B : Bufs) (i : Fin 2) (b : Fin 16) :
    Prog (TpuEff nD τ sig (Elt F) Λ₀ .tc) PUnit :=
  rowBlock B S1x64x2048.size h_S1x64x2048 i b (blockIn i b) (blockPacked i b)
    (fun s => tileMax s 15 (by decide)) weights

/-- The block of 64 rows over the last 256 keys. -/
abbrev tailBlock (B : Bufs) (b : Fin 16) : Prog (TpuEff nD τ sig (Elt F) Λ₀ .tc) PUnit :=
  rowBlock B S1x64x256.size h_S1x64x256 1 b (tailIn 1 b) (tailPacked 1 b)
    (fun s => maximumf (tailTile0 s) (tailTile1 s)) tailWeights

/-- Blocks 0 … n, one after another. -/
def blocks (f : Fin 16 → Prog (TpuEff nD τ sig (Elt F) Λ₀ .tc) PUnit) : (n : ℕ) → n < 16 →
    Prog (TpuEff nD τ sig (Elt F) Λ₀ .tc) PUnit
  | 0, h => f ⟨0, h⟩
  | n + 1, h => do
    blocks f n (Nat.lt_of_succ_lt h)
    f ⟨n + 1, h⟩

theorem slotIn (i : Fin 2) (a : Fin 3) :
    (![i.val, 0, 0] : Fin 3 → ℕ) a + S1x1024x2048.size a ≤ S2x1024x2048.size a := by
  revert i a; decide

theorem slotAlIn (i : Fin 2) (a : Fin 3) :
    (![i.val, 0, 0] : Fin 3 → ℕ) a + S1x1024x128.size a ≤ S2x1024x128.size a := by
  revert i a; decide

/-- A chunk of scores into a slot. -/
def scoreStep (B : Bufs) (i : Fin 2) (off : Fin 2 → ℕ)
    (inb : ∀ a, off a + S128x2048.size a ≤ S128x16640.size a) :
    Prog (TpuEff nD τ sig (Elt F) Λ₀ .tc) PUnit := do
  let k ← ld B.k off S128x2048.size h_S128x2048 inb
  let q ← ld B.qs ![0, 0] S1024x128.size h_S1024x128 inb_S1024x128_S1024x128_0_0
  let _ ← ld (F := F) B.s ![i.val, 0, 0] S1x1024x2048.size h_S1x1024x2048 (slotIn i)
  st B.s ![i.val, 0, 0] S1x1024x2048.size h_S1x1024x2048 (slotIn i) (scores k q)

/-- A chunk of accumulation out of a slot. -/
def accStep (B : Bufs) (i : Fin 2) (off : Fin 2 → ℕ)
    (inb : ∀ a, off a + S2048x128.size a ≤ S16640x128.size a) :
    Prog (TpuEff nD τ sig (Elt F) Λ₀ .tc) PUnit := do
  let v ← ld B.v off S2048x128.size h_S2048x128 inb
  let al ← ld B.al ![i.val, 0, 0] S1x1024x128.size h_S1x1024x128 (slotAlIn i)
  let acc ← ld B.acc ![0, 0] S1024x256.size h_S1024x256 inb_S1024x256_S1024x256_0_0
  let p ← ld B.p ![i.val, 0, 0] S1x1024x2048.size h_S1x1024x2048 (slotIn i)
  let _ ← ld (F := F) B.acc ![0, 0] S1024x256.size h_S1024x256 inb_S1024x256_S1024x256_0_0
  st B.acc ![0, 0] S1024x256.size h_S1024x256 inb_S1024x256_S1024x256_0_0 (accum v al acc p)

/-- One trip: 4096 keys, half of them from each slot. -/
def trip (B : Bufs) (c : Fin k0_t1_loop.trips) : Prog (TpuEff nD τ sig (Elt F) Λ₀ .tc) PUnit := do
  scoreStep B 1 (k0_off1 c) (k0_off1_inb c)
  blocks (mainBlock B 0) 15 (by decide)
  accStep B 0 (k0_off2 c) (k0_off2_inb c)
  scoreStep B 0 (k0_off3 c) (k0_off3_inb c)
  blocks (mainBlock B 1) 15 (by decide)
  accStep B 1 (k0_off4 c) (k0_off4_inb c)

/-! ### Before and after the loop -/

/-- A head's 256 query rows times the scale. -/
def scaled (q : Vec F S256x128 .bf16) : FVec F S256x128 .bf16 :=
  shapeCast S256x128 (truncf .bf16 (mulf (extf .f32 q bitsLt_bf16_f32)
    (broadcast S256x128 (Named.named κ "scale_log2e" 0x3E0293EE#32))) bitsLt_bf16_f32)
    shapeCasts_S256x128_S256x128

theorem headIn (r : Fin 4) (a : Fin 2) :
    (![0, 128 * r.val] : Fin 2 → ℕ) a + S256x128.size a ≤ S256x512.size a := by
  revert r a; decide

theorem headPacked (r : Fin 4) :
    (Rect.unit (s := S256x512) ![0, 128 * r.val] S256x128.size (headIn r)).PackedRows
      (EltTy.packing .bf16) := by
  revert r; decide

theorem stackIn (r : Fin 4) (a : Fin 2) :
    (![256 * r.val, 0] : Fin 2 → ℕ) a + S256x128.size a ≤ S1024x128.size a := by
  revert r a; decide

theorem stackPacked (r : Fin 4) :
    (Rect.unit (s := S1024x128) ![256 * r.val, 0] S256x128.size (stackIn r)).PackedRows
      (EltTy.packing .bf16) := by
  revert r; decide

theorem sumIn (r : Fin 4) (i : Fin 2) (a : Fin 2) :
    (![256 * r.val, 128 * i.val] : Fin 2 → ℕ) a + S256x128.size a ≤ S1024x256.size a := by
  revert r i a; decide

/-- Head `r` of the query block scaled into its rows of the stack. -/
def scaleStep (B : Bufs) (r : Fin 4) : Prog (TpuEff nD τ sig (Elt F) Λ₀ .tc) PUnit := do
  let q ← ld B.q ![0, 128 * r.val] S256x128.size h_S256x128 (headIn r)
  let _ ← ld (F := F) B.qs ![256 * r.val, 0] S256x128.size h_S256x128 (stackIn r)
  sth B.qs B.hqs ![256 * r.val, 0] S256x128.size h_S256x128 (stackIn r) (stackPacked r) (scaled q)

/-- The running maxima at the start. -/
def startMax : FVec F S1024x128 .f32 :=
  shapeCast S1024x128 (broadcast S1024x128 (Scalar.ofBits .f32 0xFF800000#32))
    shapeCasts_S1024x128_S1024x128

/-- The sums at the start. -/
def startAcc : FVec F S1024x256 .f32 :=
  shapeCast S1024x256 (broadcast S1024x256 (Scalar.ofBits .f32 0x00000000#32))
    shapeCasts_S1024x256_S1024x256

/-- Maxima and sums set to their start. -/
def startStep (B : Bufs) : Prog (TpuEff nD τ sig (Elt F) Λ₀ .tc) PUnit := do
  let _ ← ld (F := F) B.m ![0, 0] S1024x128.size h_S1024x128 inb_S1024x128_S1024x128_0_0
  st B.m ![0, 0] S1024x128.size h_S1024x128 inb_S1024x128_S1024x128_0_0 startMax
  let _ ← ld (F := F) B.acc ![0, 0] S1024x256.size h_S1024x256 inb_S1024x256_S1024x256_0_0
  st B.acc ![0, 0] S1024x256.size h_S1024x256 inb_S1024x256_S1024x256_0_0 startAcc

/-- The scores of the last 256 keys into slot 1. -/
def tailScoreStep (B : Bufs) : Prog (TpuEff nD τ sig (Elt F) Λ₀ .tc) PUnit := do
  let k ← ld B.k ![0, 16384] S128x256.size h_S128x256 inb_S128x16640_S128x256_0_16384
  let q ← ld B.qs ![0, 0] S1024x128.size h_S1024x128 inb_S1024x128_S1024x128_0_0
  let _ ← ld (F := F) B.s ![1, 0, 0] S1x1024x256.size h_S1x1024x256
    inb_S2x1024x2048_S1x1024x256_1_0_0
  st B.s ![1, 0, 0] S1x1024x256.size h_S1x1024x256 inb_S2x1024x2048_S1x1024x256_1_0_0
    (tailScores k q)

/-- The sums of the last 256 keys out of slot 1. -/
def tailAccStep (B : Bufs) : Prog (TpuEff nD τ sig (Elt F) Λ₀ .tc) PUnit := do
  let v ← ld B.v ![16384, 0] S256x128.size h_S256x128 inb_S16640x128_S256x128_16384_0
  let al ← ld B.al ![1, 0, 0] S1x1024x128.size h_S1x1024x128 (slotAlIn 1)
  let acc ← ld B.acc ![0, 0] S1024x256.size h_S1024x256 inb_S1024x256_S1024x256_0_0
  let p ← ld B.p ![1, 0, 0] S1x1024x256.size h_S1x1024x256 inb_S2x1024x2048_S1x1024x256_1_0_0
  let _ ← ld (F := F) B.acc ![0, 0] S1024x256.size h_S1024x256 inb_S1024x256_S1024x256_0_0
  st B.acc ![0, 0] S1024x256.size h_S1024x256 inb_S1024x256_S1024x256_0_0 (tailAccum v al acc p)

/-- The weighted sum over the sum of weights. -/
def quot (a l : Vec F S256x128 .f32) : FVec F S256x128 .bf16 :=
  truncf .bf16 (divf a l) bitsLt_bf16_f32

/-- Head `r` of the output block. -/
def outStep (B : Bufs) (r : Fin 4) : Prog (TpuEff nD τ sig (Elt F) Λ₀ .tc) PUnit := do
  let a ← ld B.acc ![256 * r.val, 128 * (0 : Fin 2).val] S256x128.size h_S256x128 (sumIn r 0)
  let l ← ld B.acc ![256 * r.val, 128 * (1 : Fin 2).val] S256x128.size h_S256x128 (sumIn r 1)
  let _ ← ld (F := F) B.o ![0, 128 * r.val] S256x128.size h_S256x128 (headIn r)
  sth B.o B.ho ![0, 128 * r.val] S256x128.size h_S256x128 (headIn r) (headPacked r) (quot a l)

/-- Everything before the loop. -/
def before (B : Bufs) : Prog (TpuEff nD τ sig (Elt F) Λ₀ .tc) PUnit := do
  scaleStep B 0
  scaleStep B 1
  scaleStep B 2
  scaleStep B 3
  startStep B
  tailScoreStep B
  scoreStep B 0 ![0, 0] inb_S128x16640_S128x2048_0_0
  blocks (tailBlock B) 15 (by decide)
  tailAccStep B

/-- Everything after the loop. -/
def finish (B : Bufs) : Prog (TpuEff nD τ sig (Elt F) Λ₀ .tc) PUnit := do
  outStep B 0
  outStep B 1
  outStep B 2
  outStep B 3

/-- The whole body. -/
def flash (B : Bufs) : Prog (TpuEff nD τ sig (Elt F) Λ₀ .tc) PUnit := do
  before B
  Scf.Loop.for k0_t1_loop k0_t1_ok () (fun c _ => trip B c)
  finish B

end Cert.Proof.Flash
-- ==== Proof.Steps.lean ====
/-
Running the flash-attention program of Body.lean: what each of its steps does to the scratch
buffers' contents, as pure functions, and that it does.
-/
module

public import proofs.«01_k».proof.Proof.Body
public import Idealize.ShloMosaic.Lib.VecWindow

@[expose] public section

set_option synthInstance.maxSize 4096

noncomputable section

namespace Cert.Proof.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- A buffer held whole with the contents `X`. -/
abbrev pt (c : Dev nD) {s : Shape} {e : EltTy} (r : Memref sig .tc .vmem s e) (X : Vec F s e) :
    sProp 𝕄 :=
  iprop(r.view.loc (c : Thread nD τ) ↦[r.view.set]{fullShare} r.view.rep (Val := Elt F) X)

section Ops
variable (c : Dev nD) (𝒱 : Variants) (bd : Option 𝒱.V) (E : Set ℕ)

theorem wp_ld {s : Shape} {e : EltTy} (r : Memref sig .tc .vmem s e) (off size : Fin s.rank → ℕ)
    (h : 0 < Shape.numel ⟨s.rank, size⟩) (inb : ∀ a, off a + size a ≤ s.size a) (X : Vec F s e)
    (Q : Vec F ⟨s.rank, size⟩ e → sProp 𝕄) :
    iprop(pt c r X ∗ (pt c r X -∗ Q (VecWindow.window X off size inb)))
      ⊢ wp frame (wpE (defs₀ (F := F)) 𝒱 (c : Thread nD τ) bd) E (ld r off size h inb) Q := by
  iintro ⟨H, Hk⟩
  sl_exec
  sl_step
  rw [View.readAt_rep_unit _ _ _ rfl inb]
  iapply Hk
  iexact H

theorem wp_st {s : Shape} (r : Memref sig .tc .vmem s .f32) (off size : Fin s.rank → ℕ)
    (h : 0 < Shape.numel ⟨s.rank, size⟩) (inb : ∀ a, off a + size a ≤ s.size a) (X : Vec F s .f32)
    (w : Vec F ⟨s.rank, size⟩ .f32) (Q : PUnit → sProp 𝕄) :
    iprop(pt c r X ∗ (pt c r (VecWindow.put X off size w) -∗ Q ⟨⟩))
      ⊢ wp frame (wpE (defs₀ (F := F)) 𝒱 (c : Thread nD τ) bd) E (st r off size h inb w) Q := by
  iintro ⟨H, Hk⟩
  sl_exec
  sl_step
  iapply Hk
  iapply (pointsTo_rep_of_read (c : Thread nD τ) r _ fullShare _
    (View.read_writes_rep_unit r.view X inb w rfl))
  iexact H

theorem wp_sth {s : Shape} (r : Memref sig .tc .vmem s .bf16) (hr : r.IsWhole)
    (off size : Fin s.rank → ℕ)
    (h : 0 < Shape.numel ⟨s.rank, size⟩) (inb : ∀ a, off a + size a ≤ s.size a)
    (pk : (Rect.unit (s := s) off size inb).PackedRows (EltTy.packing .bf16)) (X : Vec F s .bf16)
    (w : Vec F ⟨s.rank, size⟩ .bf16) (Q : PUnit → sProp 𝕄) :
    iprop(pt c r X ∗ (pt c r (VecWindow.put X off size w) -∗ Q ⟨⟩))
      ⊢ wp frame (wpE (defs₀ (F := F)) 𝒱 (c : Thread nD τ) bd) E (sth r hr off size h inb pk w) Q := by
  iintro ⟨H, Hk⟩
  sl_exec
  sl_step
  iapply Hk
  iapply (pointsTo_rep_of_read (c : Thread nD τ) r _ fullShare _
    (View.read_writes_rep_unit r.view X inb w rfl))
  iexact H

end Ops

/-- What the body reads and never writes. -/
structure Ins (F : FTy → Type) [FloatOps F] [Named F] where
  q : Vec F S256x512 .bf16
  k : Vec F S128x16640 .bf16
  v : Vec F S16640x128 .bf16

/-- What the body writes. -/
structure Mem (F : FTy → Type) [FloatOps F] [Named F] where
  o : Vec F S256x512 .bf16
  qs : Vec F S1024x128 .bf16
  s : Vec F S2x1024x2048 .f32
  p : Vec F S2x1024x2048 .bf16
  al : Vec F S2x1024x128 .f32
  m : Vec F S1024x128 .f32
  acc : Vec F S1024x256 .f32

/-- All buffers held whole. -/
def own (c : Dev nD) (B : Bufs) (I : Ins F) (S : Mem F) : sProp 𝕄 :=
  iprop(pt c B.q I.q ∗ pt c B.k I.k ∗ pt c B.v I.v ∗ pt c B.o S.o ∗ pt c B.qs S.qs ∗ pt c B.s S.s
    ∗ pt c B.p S.p ∗ pt c B.al S.al ∗ pt c B.m S.m ∗ pt c B.acc S.acc)

/-- The program `g` turns the contents `S` into `f S`. -/
structure Does (B : Bufs) (I : Ins F) (g : Prog (TpuEff nD τ sig (Elt F) Λ₀ .tc) PUnit)
    (f : Mem F → Mem F) : Prop where
  run : ∀ (c : Dev nD) (𝒱 : Variants) (bd : Option 𝒱.V) (E : Set ℕ) (S : Mem F)
    (Q : PUnit → sProp 𝕄),
    iprop(own c B I S ∗ (own c B I (f S) -∗ Q ⟨⟩))
      ⊢ wp frame (wpE (defs₀ (F := F)) 𝒱 (c : Thread nD τ) bd) E g Q

theorem Does.seq {B : Bufs} {I : Ins F} {g g' : Prog (TpuEff nD τ sig (Elt F) Λ₀ .tc) PUnit}
    {f f' : Mem F → Mem F} (h : Does B I g f) (h' : Does B I g' f') :
    Does B I (g >>= fun _ => g') (fun S => f' (f S)) := by
  refine ⟨fun c 𝒱 bd E S Q => ?_⟩
  rw [wp_bind]
  iintro ⟨H, Hk⟩
  iapply (h.run c 𝒱 bd E S _)
  isplitl [H]; · iexact H
  iintro H
  iapply (h'.run c 𝒱 bd E _ _)
  isplitl [H]; · iexact H
  iexact Hk

/-- Blocks 0 … n on the contents. -/
def blocksDo (f : Fin 16 → Mem F → Mem F) : (n : ℕ) → n < 16 → Mem F → Mem F
  | 0, h => f ⟨0, h⟩
  | n + 1, h => fun S => f ⟨n + 1, h⟩ (blocksDo f n (Nat.lt_of_succ_lt h) S)

theorem Does.blocks {B : Bufs} {I : Ins F} {g : Fin 16 → Prog (TpuEff nD τ sig (Elt F) Λ₀ .tc) PUnit}
    {f : Fin 16 → Mem F → Mem F} (h : ∀ b, Does B I (g b) (f b)) (n : ℕ) (hn : n < 16) :
    Does B I (Flash.blocks g n hn) (blocksDo f n hn) := by
  induction n with
  | zero => exact h ⟨0, hn⟩
  | succ n ih =>
    have h' := Does.seq (ih (Nat.lt_of_succ_lt hn)) (h ⟨n + 1, hn⟩)
    exact h'

/-! ### The steps on the contents -/

/-- A block of 64 rows: new maxima, decay factors, weights. -/
def rowDo (z : Fin 3 → ℕ) (i : Fin 2) (b : Fin 16)
    (inb : ∀ a, (![i.val, 64 * b.val, 0] : Fin 3 → ℕ) a + z a ≤ S2x1024x2048.size a)
    (top : Vec F ⟨3, z⟩ .f32 → FVec F S64x128 .f32)
    (w : Vec F ⟨3, z⟩ .f32 → FVec F S64x128 .f32 → FVec F ⟨3, z⟩ .bf16) (S : Mem F) : Mem F :=
  let s : Vec F ⟨3, z⟩ .f32 := VecWindow.window S.s ![i.val, 64 * b.val, 0] z inb
  let m : Vec F S64x128 .f32 := VecWindow.window S.m ![64 * b.val, 0] S64x128.size (rowIn i b)
  { S with
    al := VecWindow.put S.al ![i.val, 64 * b.val, 0] S1x64x128.size (decay m (newMax (top s) m))
    p := VecWindow.put S.p ![i.val, 64 * b.val, 0] z (w s (newMax (top s) m))
    m := VecWindow.put S.m ![64 * b.val, 0] S64x128.size
      (shapeCast S64x128 (newMax (top s) m) shapeCasts_S64x128_S64x128) }

theorem does_row (B : Bufs) (I : Ins F) (z : Fin 3 → ℕ) (hz : 0 < Shape.numel ⟨3, z⟩) (i : Fin 2)
    (b : Fin 16) (inb : ∀ a, (![i.val, 64 * b.val, 0] : Fin 3 → ℕ) a + z a ≤ S2x1024x2048.size a)
    (pk : (Rect.unit (s := S2x1024x2048) ![i.val, 64 * b.val, 0] z inb).PackedRows
      (EltTy.packing .bf16))
    (top : Vec F ⟨3, z⟩ .f32 → FVec F S64x128 .f32)
    (w : Vec F ⟨3, z⟩ .f32 → FVec F S64x128 .f32 → FVec F ⟨3, z⟩ .bf16) :
    Does B I (rowBlock B z hz i b inb pk top w) (rowDo z i b inb top w) := by
  refine ⟨fun c 𝒱 bd E S Q => ?_⟩
  unfold rowBlock own
  simp only [wp_bind]
  iintro ⟨⟨Hq, Hk, Hv, Ho, Hqs, Hs, Hp, Hal, Hm, Hacc⟩, HQ⟩
  iapply wp_ld; isplitl [Hs]; · iexact Hs
  iintro Hs
  iapply wp_ld; isplitl [Hm]; · iexact Hm
  iintro Hm
  iapply wp_ld; isplitl [Hal]; · iexact Hal
  iintro Hal
  iapply wp_st; isplitl [Hal]; · iexact Hal
  iintro Hal
  iapply wp_ld; isplitl [Hp]; · iexact Hp
  iintro Hp
  iapply wp_sth; isplitl [Hp]; · iexact Hp
  iintro Hp
  iapply wp_ld; isplitl [Hm]; · iexact Hm
  iintro Hm
  iapply wp_st; isplitl [Hm]; · iexact Hm
  iintro Hm
  iapply HQ
  sl_close

/-- A chunk of scores. -/
def scoreDo (I : Ins F) (i : Fin 2) (off : Fin 2 → ℕ)
    (inb : ∀ a, off a + S128x2048.size a ≤ S128x16640.size a) (S : Mem F) : Mem F :=
  { S with
    s := VecWindow.put S.s ![i.val, 0, 0] S1x1024x2048.size
      (scores (VecWindow.window I.k off S128x2048.size inb)
        (VecWindow.window S.qs ![0, 0] S1024x128.size inb_S1024x128_S1024x128_0_0)) }

theorem does_score (B : Bufs) (I : Ins F) (i : Fin 2) (off : Fin 2 → ℕ)
    (inb : ∀ a, off a + S128x2048.size a ≤ S128x16640.size a) :
    Does B I (scoreStep B i off inb) (scoreDo I i off inb) := by
  refine ⟨fun c 𝒱 bd E S Q => ?_⟩
  unfold scoreStep own
  simp only [wp_bind]
  iintro ⟨⟨Hq, Hk, Hv, Ho, Hqs, Hs, Hp, Hal, Hm, Hacc⟩, HQ⟩
  iapply wp_ld; isplitl [Hk]; · iexact Hk
  iintro Hk
  iapply wp_ld; isplitl [Hqs]; · iexact Hqs
  iintro Hqs
  iapply wp_ld; isplitl [Hs]; · iexact Hs
  iintro Hs
  iapply wp_st; isplitl [Hs]; · iexact Hs
  iintro Hs
  iapply HQ
  sl_close

/-- The scores of the last 256 keys. -/
def tailScoreDo (I : Ins F) (S : Mem F) : Mem F :=
  { S with
    s := VecWindow.put S.s ![1, 0, 0] S1x1024x256.size
      (tailScores (VecWindow.window I.k ![0, 16384] S128x256.size inb_S128x16640_S128x256_0_16384)
        (VecWindow.window S.qs ![0, 0] S1024x128.size inb_S1024x128_S1024x128_0_0)) }

theorem does_tailScore (B : Bufs) (I : Ins F) : Does B I (tailScoreStep B) (tailScoreDo I) := by
  refine ⟨fun c 𝒱 bd E S Q => ?_⟩
  unfold tailScoreStep own
  simp only [wp_bind]
  iintro ⟨⟨Hq, Hk, Hv, Ho, Hqs, Hs, Hp, Hal, Hm, Hacc⟩, HQ⟩
  iapply wp_ld; isplitl [Hk]; · iexact Hk
  iintro Hk
  iapply wp_ld; isplitl [Hqs]; · iexact Hqs
  iintro Hqs
  iapply wp_ld; isplitl [Hs]; · iexact Hs
  iintro Hs
  iapply wp_st; isplitl [Hs]; · iexact Hs
  iintro Hs
  iapply HQ
  sl_close

/-- A chunk of accumulation. -/
def accDo (I : Ins F) (i : Fin 2) (off : Fin 2 → ℕ)
    (inb : ∀ a, off a + S2048x128.size a ≤ S16640x128.size a) (S : Mem F) : Mem F :=
  { S with
    acc := VecWindow.put S.acc ![0, 0] S1024x256.size
      (accum (VecWindow.window I.v off S2048x128.size inb)
        (VecWindow.window S.al ![i.val, 0, 0] S1x1024x128.size (slotAlIn i))
        (VecWindow.window S.acc ![0, 0] S1024x256.size inb_S1024x256_S1024x256_0_0)
        (VecWindow.window S.p ![i.val, 0, 0] S1x1024x2048.size (slotIn i))) }

theorem does_acc (B : Bufs) (I : Ins F) (i : Fin 2) (off : Fin 2 → ℕ)
    (inb : ∀ a, off a + S2048x128.size a ≤ S16640x128.size a) :
    Does B I (accStep B i off inb) (accDo I i off inb) := by
  refine ⟨fun c 𝒱 bd E S Q => ?_⟩
  unfold accStep own
  simp only [wp_bind]
  iintro ⟨⟨Hq, Hk, Hv, Ho, Hqs, Hs, Hp, Hal, Hm, Hacc⟩, HQ⟩
  iapply wp_ld; isplitl [Hv]; · iexact Hv
  iintro Hv
  iapply wp_ld; isplitl [Hal]; · iexact Hal
  iintro Hal
  iapply wp_ld; isplitl [Hacc]; · iexact Hacc
  iintro Hacc
  iapply wp_ld; isplitl [Hp]; · iexact Hp
  iintro Hp
  iapply wp_ld; isplitl [Hacc]; · iexact Hacc
  iintro Hacc
  iapply wp_st; isplitl [Hacc]; · iexact Hacc
  iintro Hacc
  iapply HQ
  sl_close

/-- The accumulation of the last 256 keys. -/
def tailAccDo (I : Ins F) (S : Mem F) : Mem F :=
  { S with
    acc := VecWindow.put S.acc ![0, 0] S1024x256.size
      (tailAccum (VecWindow.window I.v ![16384, 0] S256x128.size inb_S16640x128_S256x128_16384_0)
        (VecWindow.window S.al ![1, 0, 0] S1x1024x128.size (slotAlIn 1))
        (VecWindow.window S.acc ![0, 0] S1024x256.size inb_S1024x256_S1024x256_0_0)
        (VecWindow.window S.p ![1, 0, 0] S1x1024x256.size inb_S2x1024x2048_S1x1024x256_1_0_0)) }

theorem does_tailAcc (B : Bufs) (I : Ins F) : Does B I (tailAccStep B) (tailAccDo I) := by
  refine ⟨fun c 𝒱 bd E S Q => ?_⟩
  unfold tailAccStep own
  simp only [wp_bind]
  iintro ⟨⟨Hq, Hk, Hv, Ho, Hqs, Hs, Hp, Hal, Hm, Hacc⟩, HQ⟩
  iapply wp_ld; isplitl [Hv]; · iexact Hv
  iintro Hv
  iapply wp_ld; isplitl [Hal]; · iexact Hal
  iintro Hal
  iapply wp_ld; isplitl [Hacc]; · iexact Hacc
  iintro Hacc
  iapply wp_ld; isplitl [Hp]; · iexact Hp
  iintro Hp
  iapply wp_ld; isplitl [Hacc]; · iexact Hacc
  iintro Hacc
  iapply wp_st; isplitl [Hacc]; · iexact Hacc
  iintro Hacc
  iapply HQ
  sl_close

/-- A head's query rows scaled. -/
def scaleDo (I : Ins F) (r : Fin 4) (S : Mem F) : Mem F :=
  { S with
    qs := VecWindow.put S.qs ![256 * r.val, 0] S256x128.size
      (scaled (VecWindow.window I.q ![0, 128 * r.val] S256x128.size (headIn r))) }

theorem does_scale (B : Bufs) (I : Ins F) (r : Fin 4) : Does B I (scaleStep B r) (scaleDo I r) := by
  refine ⟨fun c 𝒱 bd E S Q => ?_⟩
  unfold scaleStep own
  simp only [wp_bind]
  iintro ⟨⟨Hq, Hk, Hv, Ho, Hqs, Hs, Hp, Hal, Hm, Hacc⟩, HQ⟩
  iapply wp_ld; isplitl [Hq]; · iexact Hq
  iintro Hq
  iapply wp_ld; isplitl [Hqs]; · iexact Hqs
  iintro Hqs
  iapply wp_sth; isplitl [Hqs]; · iexact Hqs
  iintro Hqs
  iapply HQ
  sl_close

/-- Maxima and sums at their start. -/
def startDo (S : Mem F) : Mem F :=
  { S with
    m := VecWindow.put S.m ![0, 0] S1024x128.size startMax
    acc := VecWindow.put S.acc ![0, 0] S1024x256.size startAcc }

theorem does_start (B : Bufs) (I : Ins F) : Does B I (startStep B) startDo := by
  refine ⟨fun c 𝒱 bd E S Q => ?_⟩
  unfold startStep own
  simp only [wp_bind]
  iintro ⟨⟨Hq, Hk, Hv, Ho, Hqs, Hs, Hp, Hal, Hm, Hacc⟩, HQ⟩
  iapply wp_ld; isplitl [Hm]; · iexact Hm
  iintro Hm
  iapply wp_st; isplitl [Hm]; · iexact Hm
  iintro Hm
  iapply wp_ld; isplitl [Hacc]; · iexact Hacc
  iintro Hacc
  iapply wp_st; isplitl [Hacc]; · iexact Hacc
  iintro Hacc
  iapply HQ
  sl_close

/-- A head of the output. -/
def outDo (r : Fin 4) (S : Mem F) : Mem F :=
  { S with
    o := VecWindow.put S.o ![0, 128 * r.val] S256x128.size
      (quot (VecWindow.window S.acc ![256 * r.val, 128 * (0 : Fin 2).val] S256x128.size (sumIn r 0))
        (VecWindow.window S.acc ![256 * r.val, 128 * (1 : Fin 2).val] S256x128.size (sumIn r 1))) }

theorem does_out (B : Bufs) (I : Ins F) (r : Fin 4) : Does B I (outStep B r) (outDo r) := by
  refine ⟨fun c 𝒱 bd E S Q => ?_⟩
  unfold outStep own
  simp only [wp_bind]
  iintro ⟨⟨Hq, Hk, Hv, Ho, Hqs, Hs, Hp, Hal, Hm, Hacc⟩, HQ⟩
  iapply wp_ld; isplitl [Hacc]; · iexact Hacc
  iintro Hacc
  iapply wp_ld; isplitl [Hacc]; · iexact Hacc
  iintro Hacc
  iapply wp_ld; isplitl [Ho]; · iexact Ho
  iintro Ho
  iapply wp_sth; isplitl [Ho]; · iexact Ho
  iintro Ho
  iapply HQ
  sl_close

/-! ### The whole -/

/-- A block of 64 rows over 2048 keys. -/
def mainRowDo (i : Fin 2) (b : Fin 16) : Mem F → Mem F :=
  rowDo S1x64x2048.size i b (blockIn i b) (fun s => tileMax s 15 (by decide)) weights

/-- A block of 64 rows over the last 256 keys. -/
def tailRowDo (b : Fin 16) : Mem F → Mem F :=
  rowDo S1x64x256.size 1 b (tailIn 1 b) (fun s => maximumf (tailTile0 s) (tailTile1 s)) tailWeights

/-- One trip. -/
def tripDo (I : Ins F) (c : Fin k0_t1_loop.trips) (S : Mem F) : Mem F :=
  accDo I 1 (k0_off4 c) (k0_off4_inb c) (blocksDo (mainRowDo 1) 15 (by decide)
    (scoreDo I 0 (k0_off3 c) (k0_off3_inb c) (accDo I 0 (k0_off2 c) (k0_off2_inb c)
      (blocksDo (mainRowDo 0) 15 (by decide) (scoreDo I 1 (k0_off1 c) (k0_off1_inb c) S)))))

theorem does_trip (B : Bufs) (I : Ins F) (c : Fin k0_t1_loop.trips) :
    Does B I (trip B c) (tripDo I c) := by
  have hrow : ∀ i b, Does B I (mainBlock B i b) (mainRowDo i b) := fun i b => does_row B I _ _ i b _ _ _ _
  have h := Does.seq (does_score B I 1 (k0_off1 c) (k0_off1_inb c))
    (Does.seq (Does.blocks (hrow 0) 15 (by decide))
    (Does.seq (does_acc B I 0 (k0_off2 c) (k0_off2_inb c))
    (Does.seq (does_score B I 0 (k0_off3 c) (k0_off3_inb c))
    (Does.seq (Does.blocks (hrow 1) 15 (by decide))
      (does_acc B I 1 (k0_off4 c) (k0_off4_inb c))))))
  exact h

/-- The first `n` trips. -/
def tripsDo (I : Ins F) : ℕ → Mem F → Mem F
  | 0 => fun S => S
  | n + 1 => fun S => if h : n < k0_t1_loop.trips then tripDo I ⟨n, h⟩ (tripsDo I n S) else S

/-- Everything before the loop. -/
def beforeDo (I : Ins F) (S : Mem F) : Mem F :=
  tailAccDo I (blocksDo tailRowDo 15 (by decide)
    (scoreDo I 0 ![0, 0] inb_S128x16640_S128x2048_0_0 (tailScoreDo I (startDo
      (scaleDo I 3 (scaleDo I 2 (scaleDo I 1 (scaleDo I 0 S))))))))

theorem does_before (B : Bufs) (I : Ins F) : Does B I (before B) (beforeDo I) := by
  have hrow : ∀ b, Does B I (tailBlock B b) (tailRowDo b) := fun b => does_row B I _ _ 1 b _ _ _ _
  have h := Does.seq (does_scale B I 0) (Does.seq (does_scale B I 1) (Does.seq (does_scale B I 2)
    (Does.seq (does_scale B I 3) (Does.seq (does_start B I) (Does.seq (does_tailScore B I)
    (Does.seq (does_score B I 0 ![0, 0] inb_S128x16640_S128x2048_0_0)
    (Does.seq (Does.blocks hrow 15 (by decide)) (does_tailAcc B I))))))))
  exact h

/-- Everything after the loop. -/
def finishDo (S : Mem F) : Mem F := outDo 3 (outDo 2 (outDo 1 (outDo 0 S)))

theorem does_finish (B : Bufs) (I : Ins F) : Does B I (finish B) finishDo := by
  have h := Does.seq (does_out B I 0)
    (Does.seq (does_out B I 1) (Does.seq (does_out B I 2) (does_out B I 3)))
  exact h

theorem does_loop (B : Bufs) (I : Ins F) :
    Does B I (Scf.Loop.for k0_t1_loop k0_t1_ok () (fun c _ => trip B c))
      (tripsDo I k0_t1_loop.trips) := by
  refine ⟨fun c 𝒱 bd E S Q => ?_⟩
  refine BIBase.Entails.trans ?_ (Scf.wp_for _ _ _ _ _ _ _ _ _ (fun n _ => own c B I (tripsDo I n S)) ?_)
  · iintro ⟨H, HQ⟩
    isplitl [H]; · iexact H
    iintro %_ H
    iapply HQ
    iexact H
  · intro k _
    refine BIBase.Entails.trans ?_ ((does_trip B I k).run c 𝒱 bd E (tripsDo I k S) _)
    have e : tripsDo I (k.val + 1) S = tripDo I k (tripsDo I k.val S) := dif_pos k.isLt
    rw [e]
    iintro H
    isplitl [H]; · iexact H
    iintro H
    iexact H

/-- What the whole body does to the contents. -/
def flashDo (I : Ins F) (S : Mem F) : Mem F :=
  finishDo (tripsDo I k0_t1_loop.trips (beforeDo I S))

theorem does_flash (B : Bufs) (I : Ins F) : Does B I (flash B) (flashDo I) := by
  have h := Does.seq (does_before B I) (Does.seq (does_loop B I) (does_finish B I))
  exact h

end Cert.Proof.Flash
-- ==== Proof.Values.lean ====
/-
The flash-attention body's values entry by entry, over the extended reals.
-/
module

public import proofs.«01_k».proof.Proof.Steps
public import Idealize.ShloMosaic.Lib.Pointwise
public import Idealize.ShloMosaic.Lib.Pipeline.Value
public import Idealize.ShloMosaic.PureOps.Ideal.Laws

@[expose] public section

noncomputable section

namespace Cert.Proof.Flash

open Idealize.ShloMosaic
open Cert.KernelIdeal Cert.KernelIdeal.Gen
open VecWindow (window put)

/-! ### Windows entry by entry -/

theorem window_at {α : Type} {s : Shape} (x : s.Idx → α) (off size : Fin s.rank → ℕ)
    (inb : ∀ a, off a + size a ≤ s.size a) (y : ((a : Fin s.rank) → Fin (size a))) (z : s.Idx)
    (h : ∀ a, (z a).val = off a + (y a).val) : window x off size inb y = x z :=
  congrArg x (funext fun a => Fin.ext (by
    show off a + 1 * (y a).val = (z a).val
    have := h a; omega))

theorem put_in {α : Type} {s : Shape} (x : s.Idx → α) (off size : Fin s.rank → ℕ)
    (w : ((a : Fin s.rank) → Fin (size a)) → α) (y : s.Idx) (z : ((a : Fin s.rank) → Fin (size a)))
    (h : ∀ a, (y a).val = off a + (z a).val) : put x off size w y = w z := by
  unfold put
  rw [dif_pos fun a => ⟨by have := h a; omega, by have := h a; have := (z a).isLt; omega⟩]
  exact congrArg w (funext fun a => Fin.ext (by
    show (y a).val - off a = (z a).val
    have := h a; omega))

theorem put_out {α : Type} {s : Shape} (x : s.Idx → α) (off size : Fin s.rank → ℕ)
    (w : ((a : Fin s.rank) → Fin (size a)) → α) (y : s.Idx) (a : Fin s.rank)
    (h : (y a).val < off a ∨ off a + size a ≤ (y a).val) : put x off size w y = x y := by
  unfold put
  rw [dif_neg fun hall => by have := hall a; omega]

/-! ### One block of 64 rows -/

/-- The largest of a family. -/
abbrev top {n : ℕ} (f : Fin n → EReal) : EReal := Finset.univ.sup f

theorem lowest : Ideal.ofBits .f32 0xFF800000#32 = (⊥ : EReal) := by
  simp [Ideal.ofBits, Ideal.ieee]

theorem newMax_apply (t : FVec Ideal S64x128 .f32) (m : Vec Ideal S64x128 .f32) (r : Fin 64)
    (l : Fin 128) :
    newMax t m (ix2 r l) = max (m (ix2 r l)) (top fun l' : Fin 128 => t (ix2 r l')) := by
  unfold newMax
  pointwise
  rw [lowest]
  rfl

theorem tile_apply (s : Vec Ideal S1x64x2048 .f32) (j : Fin 16) (r : Fin 64) (l : Fin 128) :
    tile s j.val (tileFits j) (ix2 r l) = s (ix3 0 r ⟨128 * j.val + l.val, by omega⟩) := by
  unfold tile
  refine (extractStridedSlice_apply _ _ _ _ (ix2 r ⟨128 * j.val + l.val, by omega⟩) ?_).trans ?_
  · intro a
    match a with
    | ⟨0, _⟩ => show r.val = 0 + r.val; omega
    | ⟨1, _⟩ => rfl
  · pointwise

theorem decay_apply (m mn : FVec Ideal S64x128 .f32) (r : Fin 64) (l : Fin 128) :
    decay m mn (ix3 0 r l) = Ideal.exp2 (m (ix2 r l) - mn (ix2 r l)) := by
  unfold decay
  pointwise
  rfl

theorem weights_apply (s : Vec Ideal S1x64x2048 .f32) (mn : FVec Ideal S64x128 .f32) (r : Fin 64)
    (k : Fin 2048) :
    weights s mn (ix3 0 r k)
      = Ideal.exp2 (s (ix3 0 r k) - mn (ix2 r ⟨k.val % 128, Nat.mod_lt _ (by decide)⟩)) := by
  unfold weights
  have hk : k.val % 128 < 128 := Nat.mod_lt _ (by decide)
  have hj : k.val / 128 < 16 := by have := k.isLt; omega
  have e : s (ix3 0 r k) = tile s (k.val / 128) (tileFits ⟨k.val / 128, hj⟩) (ix2 r ⟨k.val % 128, hk⟩) := by
    rw [tile_apply s ⟨k.val / 128, hj⟩]
    exact congrArg (fun x => s (ix3 0 r x)) (Fin.ext (by
      show k.val = 128 * (k.val / 128) + k.val % 128
      omega))
  rw [e]
  refine (shapeCast_addUnit_apply ![64, 2048] _ _ _).trans ?_
  exact concatenate_ofFn_apply (t := S64x2048) (s₁ := S64x128) 1
    (fun n : Fin 16 => wgt (tile s n.val (tileFits n)) mn)
    concatenates_S64x128_S64x128_S64x128_S64x128_S64x128_S64x128_S64x128_S64x128_S64x128_S64x128_S64x128_S64x128_S64x128_S64x128_S64x128_S64x128_S64x2048_d1
    rfl 128 rfl _ ⟨k.val / 128, hj⟩ rfl (ix2 r ⟨k.val % 128, hk⟩) rfl
    (fun b hb => match b, hb with
      | ⟨0, _⟩, _ => rfl
      | ⟨1, _⟩, h => absurd rfl h)

theorem tailWeights_apply (s : Vec Ideal S1x64x256 .f32) (mn : FVec Ideal S64x128 .f32) (r : Fin 64)
    (k : Fin 256) :
    tailWeights s mn (ix3 0 r k)
      = Ideal.exp2 (s (ix3 0 r k) - mn (ix2 r ⟨k.val % 128, Nat.mod_lt _ (by decide)⟩)) := by
  unfold tailWeights wgt tailTile0 tailTile1
  pointwise
  split
  · rename_i h
    have e : k.val % 128 = k.val := Nat.mod_eq_of_lt h
    simp only [e]; rfl
  · rename_i h
    have e : k.val % 128 = k.val - 128 := by have := k.isLt; omega
    have e' : 128 + (k.val - 128) = k.val := by omega
    simp only [e, e']; rfl

theorem scores_apply (k : Vec Ideal S128x2048 .bf16) (q : Vec Ideal S1024x128 .bf16) (r : Fin 1024)
    (j : Fin 2048) :
    scores k q (ix3 0 r j) = ∑ d : Fin 128, (q (ix2 r d) * k (ix2 d j) : EReal) := by
  unfold scores
  pointwise

theorem tailScores_apply (k : Vec Ideal S128x256 .bf16) (q : Vec Ideal S1024x128 .bf16) (r : Fin 1024)
    (j : Fin 256) :
    tailScores k q (ix3 0 r j) = ∑ d : Fin 128, (q (ix2 r d) * k (ix2 d j) : EReal) := by
  unfold tailScores
  pointwise

/-- Column `c` of the values at key `k`: the value itself, or one. -/
def col {n : ℕ} (v : (⟨2, ![n, 128]⟩ : Shape).Idx → EReal) (k : Fin n) (c : Fin 256) : EReal :=
  if h : c.val < 128 then v (ix2 k ⟨c.val, h⟩) else 1

theorem shrunk_apply (al : Vec Ideal S1x1024x128 .f32) (acc : Vec Ideal S1024x256 .f32)
    (r : Fin 1024) (c : Fin 256) :
    shrunk al acc (ix2 r c)
      = (al (ix3 0 r ⟨c.val % 128, Nat.mod_lt _ (by decide)⟩) * acc (ix2 r c) : EReal) := by
  unfold shrunk
  pointwise
  congr 1
  split
  · rename_i h
    have e : c.val % 128 = c.val := Nat.mod_eq_of_lt h
    simp only [e]
  · rename_i h
    have e : c.val % 128 = c.val - 128 := by have := c.isLt; omega
    simp only [e]

theorem accum_apply (v : Vec Ideal S2048x128 .bf16) (al : Vec Ideal S1x1024x128 .f32)
    (acc : Vec Ideal S1024x256 .f32) (p : Vec Ideal S1x1024x2048 .bf16) (r : Fin 1024) (c : Fin 256) :
    accum v al acc p (ix2 r c) =
      (al (ix3 0 r ⟨c.val % 128, Nat.mod_lt _ (by decide)⟩) * acc (ix2 r c)
        + ∑ k : Fin 2048, p (ix3 0 r k) * col v k c : EReal) := by
  rw [← shrunk_apply]
  unfold accum
  pointwise
  rfl

theorem tailAccum_apply (v : Vec Ideal S256x128 .bf16) (al : Vec Ideal S1x1024x128 .f32)
    (acc : Vec Ideal S1024x256 .f32) (p : Vec Ideal S1x1024x256 .bf16) (r : Fin 1024) (c : Fin 256) :
    tailAccum v al acc p (ix2 r c) =
      (al (ix3 0 r ⟨c.val % 128, Nat.mod_lt _ (by decide)⟩) * acc (ix2 r c)
        + ∑ k : Fin 256, p (ix3 0 r k) * col v k c : EReal) := by
  rw [← shrunk_apply]
  unfold tailAccum
  pointwise
  rfl

/-- The factor of the queries. -/
def kap : EReal := Named.named (F := Ideal) (φ := .f32) κ "scale_log2e" 0x3E0293EE#32

theorem scaled_apply (q : Vec Ideal S256x128 .bf16) (r : Fin 256) (d : Fin 128) :
    scaled q (ix2 r d) = (q (ix2 r d) * kap : EReal) := by
  unfold scaled
  pointwise
  rfl

theorem startMax_apply (r : Fin 1024) (l : Fin 128) : startMax (F := Ideal) (ix2 r l) = (⊥ : EReal) := by
  unfold startMax
  pointwise
  exact lowest

theorem startAcc_apply (r : Fin 1024) (c : Fin 256) : startAcc (F := Ideal) (ix2 r c) = (0 : EReal) := by
  unfold startAcc
  pointwise
  try rfl

theorem quot_apply (a l : Vec Ideal S256x128 .f32) (r : Fin 256) (d : Fin 128) :
    quot a l (ix2 r d) = Ideal.div (a (ix2 r d)) (l (ix2 r d)) := by
  unfold quot
  pointwise
  try rfl

/-! ### The largest score of a row -/

theorem tileMax_le (s : Vec Ideal S1x64x2048 .f32) (r : Fin 64) (l : Fin 128) (B : EReal)
    (h : ∀ k, (s (ix3 0 r k) : EReal) ≤ B) :
    ∀ (n : ℕ) (hn : n < 16), (tileMax s n hn (ix2 r l) : EReal) ≤ B
  | 0, hn => by
    show (tile s ((⟨0, hn⟩ : Fin 16).val) _ (ix2 r l) : EReal) ≤ B
    rw [tile_apply]; exact h _
  | n + 1, hn => max_le (tileMax_le s r l B h n _) (by
    show (tile s ((⟨n + 1, hn⟩ : Fin 16).val) _ (ix2 r l) : EReal) ≤ B
    rw [tile_apply]; exact h _)

theorem le_tileMax (s : Vec Ideal S1x64x2048 .f32) (r : Fin 64) (l : Fin 128) (j : Fin 16) :
    ∀ (n : ℕ) (hn : n < 16), j.val ≤ n →
      (s (ix3 0 r ⟨128 * j.val + l.val, by omega⟩) : EReal) ≤ tileMax s n hn (ix2 r l)
  | 0, hn, hj => by
    have e : j = ⟨0, hn⟩ := Fin.ext (by show j.val = 0; omega)
    subst e
    exact le_of_eq (tile_apply s ⟨0, hn⟩ r l).symm
  | n + 1, hn, hj => by
    by_cases h : j.val ≤ n
    · exact (le_tileMax s r l j n _ h).trans (le_max_left _ _)
    · have e : j = ⟨n + 1, hn⟩ := Fin.ext (by show j.val = n + 1; omega)
      subst e
      exact (le_of_eq (tile_apply s ⟨n + 1, hn⟩ r l).symm).trans (le_max_right _ _)

theorem main_top (s : Vec Ideal S1x64x2048 .f32) (m : Vec Ideal S64x128 .f32) (r : Fin 64)
    (l : Fin 128) :
    newMax (tileMax s 15 (by decide)) m (ix2 r l)
      = max (m (ix2 r l)) (top fun k : Fin 2048 => s (ix3 0 r k)) := by
  rw [newMax_apply]
  congr 1
  apply le_antisymm
  · exact Finset.sup_le fun l' _ => tileMax_le s r l' _
      (fun k => Finset.le_sup (f := fun k : Fin 2048 => (s (ix3 0 r k) : EReal)) (Finset.mem_univ k)) 15 _
  · refine Finset.sup_le fun k _ => ?_
    have hk : k.val % 128 < 128 := Nat.mod_lt _ (by decide)
    have hj : k.val / 128 < 16 := by have := k.isLt; omega
    have h := le_tileMax s r ⟨k.val % 128, hk⟩ ⟨k.val / 128, hj⟩ 15 (by decide) (by show k.val / 128 ≤ 15; omega)
    have e : (⟨128 * (k.val / 128) + k.val % 128, by omega⟩ : Fin 2048) = k := Fin.ext (by
      show 128 * (k.val / 128) + k.val % 128 = k.val; omega)
    rw [show (s (ix3 0 r k) : EReal) = s (ix3 0 r ⟨128 * (k.val / 128) + k.val % 128, by omega⟩) from
      congrArg (fun x => s (ix3 0 r x)) e.symm]
    exact h.trans (Finset.le_sup (f := fun l' : Fin 128 => (tileMax s 15 (by decide) (ix2 r l') : EReal))
      (Finset.mem_univ _))

theorem tail_top (s : Vec Ideal S1x64x256 .f32) (m : Vec Ideal S64x128 .f32) (r : Fin 64)
    (l : Fin 128) :
    newMax (maximumf (tailTile0 s) (tailTile1 s)) m (ix2 r l)
      = max (m (ix2 r l)) (top fun k : Fin 256 => s (ix3 0 r k)) := by
  rw [newMax_apply]
  congr 1
  have e : ∀ l' : Fin 128, (maximumf (tailTile0 s) (tailTile1 s) (ix2 r l') : EReal)
      = max (s (ix3 0 r ⟨l'.val, by omega⟩)) (s (ix3 0 r ⟨128 + l'.val, by omega⟩)) := by
    intro l'
    unfold tailTile0 tailTile1
    pointwise
    try rfl
  simp only [e]
  apply le_antisymm
  · exact Finset.sup_le fun l' _ => max_le
      (Finset.le_sup (f := fun k : Fin 256 => (s (ix3 0 r k) : EReal)) (Finset.mem_univ _))
      (Finset.le_sup (f := fun k : Fin 256 => (s (ix3 0 r k) : EReal)) (Finset.mem_univ _))
  · refine Finset.sup_le fun k _ => ?_
    by_cases h : k.val < 128
    · refine le_trans ?_ (Finset.le_sup (f := fun l' : Fin 128 =>
        max (s (ix3 0 r ⟨l'.val, by omega⟩) : EReal) (s (ix3 0 r ⟨128 + l'.val, by omega⟩)))
        (Finset.mem_univ ⟨k.val, h⟩))
      exact le_max_left _ _
    · have hl : k.val - 128 < 128 := by have := k.isLt; omega
      refine le_trans ?_ (Finset.le_sup (f := fun l' : Fin 128 =>
        max (s (ix3 0 r ⟨l'.val, by omega⟩) : EReal) (s (ix3 0 r ⟨128 + l'.val, by omega⟩)))
        (Finset.mem_univ ⟨k.val - 128, hl⟩))
      refine le_trans (le_of_eq (congrArg (fun x => (s (ix3 0 r x) : EReal)) (Fin.ext ?_))) (le_max_right _ _)
      show k.val = 128 + (k.val - 128)
      omega

end Cert.Proof.Flash
-- ==== Proof.Chunks.lean ====
/-
What the flash-attention body leaves in its output block, over the extended reals: the running
maxima and sums, chunk of keys by chunk of keys, and their quotient.
-/
module

public import proofs.«01_k».proof.Proof.Values

@[expose] public section

noncomputable section

namespace Cert.Proof.Flash

open Idealize.ShloMosaic
open Cert.KernelIdeal Cert.KernelIdeal.Gen
open VecWindow (window put)

/-! ### The pure description -/

/-- Key number `n`. -/
def key (n : ℕ) : Fin 16640 := ⟨n % 16640, Nat.mod_lt _ (by decide)⟩

/-- Row `ρ` of the stacked queries, scaled: row `ρ % 256` of head `ρ / 256` of the block. -/
def qsv (I : Ins Ideal) (ρ : Fin 1024) (d : Fin 128) : EReal :=
  (I.q (ix2 ⟨ρ.val % 256, by omega⟩ ⟨128 * (ρ.val / 256) + d.val, by omega⟩) * kap : EReal)

/-- The score of stacked row `ρ` at a key. -/
def sc (I : Ins Ideal) (ρ : Fin 1024) (k : Fin 16640) : EReal :=
  ∑ d : Fin 128, (qsv I ρ d * I.k (ix2 d k) : EReal)

/-- Running maxima and running sums of the stacked rows. -/
structure Acc where
  μ : Fin 1024 → EReal
  α : Fin 1024 → Fin 256 → EReal

/-- The maxima with a chunk of `W` keys from `base` on. -/
def Acc.max' (I : Ins Ideal) (base W : ℕ) (A : Acc) (ρ : Fin 1024) : EReal :=
  max (A.μ ρ) (top fun k : Fin W => sc I ρ (key (base + k.val)))

/-- Maxima and sums with a chunk of `W` keys from `base` on. -/
def Acc.add (I : Ins Ideal) (base W : ℕ) (A : Acc) : Acc where
  μ := A.max' I base W
  α ρ c := Ideal.exp2 (A.μ ρ - A.max' I base W ρ) * A.α ρ c
    + ∑ k : Fin W, Ideal.exp2 (sc I ρ (key (base + k.val)) - A.max' I base W ρ)
        * col I.v (key (base + k.val)) c

/-- Maxima and sums of no key. -/
def Acc.start : Acc := ⟨fun _ => ⊥, fun _ _ => 0⟩

/-- Maxima and sums after the last 256 keys and the first `n` pairs of chunks. -/
def accTo (I : Ins Ideal) : ℕ → Acc
  | 0 => Acc.start.add I 16384 256
  | n + 1 => ((accTo I n).add I (4096 * n) 2048).add I (4096 * n + 2048) 2048

/-- The output block: the sums of the weighted values over the sums of the weights. -/
def out (I : Ins Ideal) : Vec Ideal S256x512 .bf16 := fun y =>
  have h0 : (y 0).val < 256 := (y 0).isLt
  have h1 : (y 1).val < 512 := (y 1).isLt
  Ideal.div
    ((accTo I 4).α ⟨256 * ((y 1).val / 128) + (y 0).val, by omega⟩ ⟨(y 1).val % 128, by omega⟩)
    ((accTo I 4).α ⟨256 * ((y 1).val / 128) + (y 0).val, by omega⟩ ⟨128 + (y 1).val % 128, by omega⟩)

/-! ### Windows of two and three axes -/

section Windows

variable {n0 n1 n2 b0 b1 b2 : ℕ}

theorem put2_in (x : (⟨2, ![n0, n1]⟩ : Shape).Idx → EReal) (o0 o1 : ℕ)
    (w : (⟨2, ![b0, b1]⟩ : Shape).Idx → EReal) (r : Fin n0) (c : Fin n1) (r' : Fin b0) (c' : Fin b1)
    (h0 : r.val = o0 + r'.val) (h1 : c.val = o1 + c'.val) :
    put (s := ⟨2, ![n0, n1]⟩) x ![o0, o1] ![b0, b1] w (ix2 r c) = w (ix2 r' c') :=
  put_in (s := ⟨2, ![n0, n1]⟩) x ![o0, o1] ![b0, b1] w (ix2 r c) (ix2 r' c') fun a => match a with
    | ⟨0, _⟩ => h0
    | ⟨1, _⟩ => h1

theorem put2_row (x : (⟨2, ![n0, n1]⟩ : Shape).Idx → EReal) (o0 o1 : ℕ)
    (w : (⟨2, ![b0, b1]⟩ : Shape).Idx → EReal) (r : Fin n0) (c : Fin n1)
    (h : r.val < o0 ∨ o0 + b0 ≤ r.val) :
    put (s := ⟨2, ![n0, n1]⟩) x ![o0, o1] ![b0, b1] w (ix2 r c) = x (ix2 r c) :=
  put_out (s := ⟨2, ![n0, n1]⟩) x ![o0, o1] ![b0, b1] w (ix2 r c) 0 h

theorem put2_col (x : (⟨2, ![n0, n1]⟩ : Shape).Idx → EReal) (o0 o1 : ℕ)
    (w : (⟨2, ![b0, b1]⟩ : Shape).Idx → EReal) (r : Fin n0) (c : Fin n1)
    (h : c.val < o1 ∨ o1 + b1 ≤ c.val) :
    put (s := ⟨2, ![n0, n1]⟩) x ![o0, o1] ![b0, b1] w (ix2 r c) = x (ix2 r c) :=
  put_out (s := ⟨2, ![n0, n1]⟩) x ![o0, o1] ![b0, b1] w (ix2 r c) 1 h

theorem win2 (x : (⟨2, ![n0, n1]⟩ : Shape).Idx → EReal) (o0 o1 : ℕ)
    (inb : ∀ a, (![o0, o1] : Fin 2 → ℕ) a + (![b0, b1] : Fin 2 → ℕ) a ≤ (![n0, n1] : Fin 2 → ℕ) a)
    (r : Fin n0) (c : Fin n1) (r' : Fin b0) (c' : Fin b1)
    (h0 : r.val = o0 + r'.val) (h1 : c.val = o1 + c'.val) :
    window (s := ⟨2, ![n0, n1]⟩) x ![o0, o1] ![b0, b1] inb (ix2 r' c') = x (ix2 r c) :=
  window_at (s := ⟨2, ![n0, n1]⟩) x ![o0, o1] ![b0, b1] inb (ix2 r' c') (ix2 r c) fun a => match a with
    | ⟨0, _⟩ => h0
    | ⟨1, _⟩ => h1

theorem put3_in (x : (⟨3, ![n0, n1, n2]⟩ : Shape).Idx → EReal) (o0 o1 o2 : ℕ)
    (w : (⟨3, ![b0, b1, b2]⟩ : Shape).Idx → EReal) (i : Fin n0) (r : Fin n1) (c : Fin n2)
    (i' : Fin b0) (r' : Fin b1) (c' : Fin b2)
    (h : i.val = o0 + i'.val) (h0 : r.val = o1 + r'.val) (h1 : c.val = o2 + c'.val) :
    put (s := ⟨3, ![n0, n1, n2]⟩) x ![o0, o1, o2] ![b0, b1, b2] w (ix3 i r c) = w (ix3 i' r' c') :=
  put_in (s := ⟨3, ![n0, n1, n2]⟩) x ![o0, o1, o2] ![b0, b1, b2] w (ix3 i r c) (ix3 i' r' c')
    fun a => match a with
    | ⟨0, _⟩ => h
    | ⟨1, _⟩ => h0
    | ⟨2, _⟩ => h1

theorem put3_slot (x : (⟨3, ![n0, n1, n2]⟩ : Shape).Idx → EReal) (o0 o1 o2 : ℕ)
    (w : (⟨3, ![b0, b1, b2]⟩ : Shape).Idx → EReal) (i : Fin n0) (r : Fin n1) (c : Fin n2)
    (h : i.val < o0 ∨ o0 + b0 ≤ i.val) :
    put (s := ⟨3, ![n0, n1, n2]⟩) x ![o0, o1, o2] ![b0, b1, b2] w (ix3 i r c) = x (ix3 i r c) :=
  put_out (s := ⟨3, ![n0, n1, n2]⟩) x ![o0, o1, o2] ![b0, b1, b2] w (ix3 i r c) 0 h

theorem put3_row (x : (⟨3, ![n0, n1, n2]⟩ : Shape).Idx → EReal) (o0 o1 o2 : ℕ)
    (w : (⟨3, ![b0, b1, b2]⟩ : Shape).Idx → EReal) (i : Fin n0) (r : Fin n1) (c : Fin n2)
    (h : r.val < o1 ∨ o1 + b1 ≤ r.val) :
    put (s := ⟨3, ![n0, n1, n2]⟩) x ![o0, o1, o2] ![b0, b1, b2] w (ix3 i r c) = x (ix3 i r c) :=
  put_out (s := ⟨3, ![n0, n1, n2]⟩) x ![o0, o1, o2] ![b0, b1, b2] w (ix3 i r c) 1 h

theorem win3 (x : (⟨3, ![n0, n1, n2]⟩ : Shape).Idx → EReal) (o0 o1 o2 : ℕ)
    (inb : ∀ a, (![o0, o1, o2] : Fin 3 → ℕ) a + (![b0, b1, b2] : Fin 3 → ℕ) a
      ≤ (![n0, n1, n2] : Fin 3 → ℕ) a)
    (i : Fin n0) (r : Fin n1) (c : Fin n2) (i' : Fin b0) (r' : Fin b1) (c' : Fin b2)
    (h : i.val = o0 + i'.val) (h0 : r.val = o1 + r'.val) (h1 : c.val = o2 + c'.val) :
    window (s := ⟨3, ![n0, n1, n2]⟩) x ![o0, o1, o2] ![b0, b1, b2] inb (ix3 i' r' c') = x (ix3 i r c) :=
  window_at (s := ⟨3, ![n0, n1, n2]⟩) x ![o0, o1, o2] ![b0, b1, b2] inb (ix3 i' r' c') (ix3 i r c)
    fun a => match a with
    | ⟨0, _⟩ => h
    | ⟨1, _⟩ => h0
    | ⟨2, _⟩ => h1

end Windows

/-! ### A block of rows -/

section Rows

variable {W : ℕ} (hW : W ≤ 2048)

/-- Column `k` of a slot of scores. -/
abbrev at' (k : Fin W) : Fin 2048 := ⟨k.val, by omega⟩

/-- Row `ρ` of slot `i` is done, from `S` to `S'`. -/
structure Done (i : Fin 2) (S S' : Mem Ideal) (ρ : Fin 1024) : Prop where
  m : ∀ l : Fin 128, (S'.m (ix2 ρ l) : EReal)
    = max (S.m (ix2 ρ l)) (top fun k : Fin W => S.s (ix3 i ρ (at' hW k)))
  al : ∀ l : Fin 128, (S'.al (ix3 i ρ l) : EReal) = Ideal.exp2 (S.m (ix2 ρ l) - S'.m (ix2 ρ l))
  p : ∀ k : Fin W, (S'.p (ix3 i ρ (at' hW k)) : EReal)
    = Ideal.exp2 (S.s (ix3 i ρ (at' hW k))
        - S'.m (ix2 ρ ⟨k.val % 128, Nat.mod_lt _ (by decide)⟩))

/-- Row `ρ` of slot `i` is as it was. -/
structure Same (i : Fin 2) (S S' : Mem Ideal) (ρ : Fin 1024) : Prop where
  m : ∀ l : Fin 128, S'.m (ix2 ρ l) = S.m (ix2 ρ l)
  al : ∀ l : Fin 128, S'.al (ix3 i ρ l) = S.al (ix3 i ρ l)
  p : ∀ k : Fin W, S'.p (ix3 i ρ (at' hW k)) = S.p (ix3 i ρ (at' hW k))

/-- What a block of rows does not touch. -/
structure Keeps (S S' : Mem Ideal) : Prop where
  s : S'.s = S.s
  qs : S'.qs = S.qs
  acc : S'.acc = S.acc

variable (i : Fin 2) (inb : ∀ (b : Fin 16) (a : Fin 3),
    (![i.val, 64 * b.val, 0] : Fin 3 → ℕ) a + (![1, 64, W] : Fin 3 → ℕ) a ≤ S2x1024x2048.size a)
  (tp : Vec Ideal ⟨3, ![1, 64, W]⟩ .f32 → FVec Ideal S64x128 .f32)
  (w : Vec Ideal ⟨3, ![1, 64, W]⟩ .f32 → FVec Ideal S64x128 .f32 → FVec Ideal ⟨3, ![1, 64, W]⟩ .bf16)
  (htp : ∀ s m r l, newMax (tp s) m (ix2 r l)
    = max (m (ix2 r l)) (top fun k : Fin W => s (ix3 0 r k)))
  (hw : ∀ s mn r (k : Fin W), w s mn (ix3 0 r k)
    = Ideal.exp2 (s (ix3 0 r k) - mn (ix2 r ⟨k.val % 128, Nat.mod_lt _ (by decide)⟩)))

include htp hw in
theorem row_done (b : Fin 16) (S : Mem Ideal) (ρ : Fin 1024) (hρ : ρ.val / 64 = b.val) :
    Done hW i S (rowDo ![1, 64, W] i b (inb b) tp w S) ρ := by
  have hr : ρ.val - 64 * b.val < 64 := by omega
  have hρ' : ρ.val = 64 * b.val + (ρ.val - 64 * b.val) := by omega
  have hs : ∀ k : Fin W, window S.s ![i.val, 64 * b.val, 0] ![1, 64, W] (inb b)
      (ix3 0 ⟨ρ.val - 64 * b.val, hr⟩ k) = S.s (ix3 i ρ (at' hW k)) := fun k =>
    win3 S.s i.val (64 * b.val) 0 (inb b) i ρ (at' hW k) 0 ⟨ρ.val - 64 * b.val, hr⟩ k rfl hρ'
      (Nat.zero_add _).symm
  have hm : ∀ l : Fin 128, window S.m ![64 * b.val, 0] S64x128.size (rowIn i b)
      (ix2 ⟨ρ.val - 64 * b.val, hr⟩ l) = S.m (ix2 ρ l) := fun l =>
    win2 S.m (64 * b.val) 0 (rowIn i b) ρ l ⟨ρ.val - 64 * b.val, hr⟩ l hρ' (Nat.zero_add _).symm
  have hn : ∀ l : Fin 128, newMax (tp (window S.s ![i.val, 64 * b.val, 0] ![1, 64, W] (inb b)))
      (window S.m ![64 * b.val, 0] S64x128.size (rowIn i b)) (ix2 ⟨ρ.val - 64 * b.val, hr⟩ l)
      = max (S.m (ix2 ρ l)) (top fun k : Fin W => S.s (ix3 i ρ (at' hW k))) := fun l => by
    rw [htp, hm]
    exact congrArg (max _) (congrArg top (funext hs))
  have m' : ∀ l : Fin 128, ((rowDo ![1, 64, W] i b (inb b) tp w S).m (ix2 ρ l) : EReal)
      = newMax (tp (window S.s ![i.val, 64 * b.val, 0] ![1, 64, W] (inb b)))
      (window S.m ![64 * b.val, 0] S64x128.size (rowIn i b)) (ix2 ⟨ρ.val - 64 * b.val, hr⟩ l) := fun l => by
    refine (put2_in S.m (64 * b.val) 0 _ ρ l ⟨ρ.val - 64 * b.val, hr⟩ l hρ'
      (Nat.zero_add _).symm).trans ?_
    pointwise
  refine ⟨fun l => (m' l).trans (hn l), fun l => ?_, fun k => ?_⟩
  · rw [m' l]
    refine (put3_in S.al i.val (64 * b.val) 0 _ i ρ l 0 ⟨ρ.val - 64 * b.val, hr⟩ l rfl hρ'
      (Nat.zero_add _).symm).trans ?_
    rw [decay_apply, hm]
  · rw [m' _]
    refine (put3_in S.p i.val (64 * b.val) 0 _ i ρ (at' hW k) 0 ⟨ρ.val - 64 * b.val, hr⟩ k rfl hρ'
      (Nat.zero_add _).symm).trans ?_
    rw [hw, hs]

theorem row_same (b : Fin 16) (S : Mem Ideal) (ρ : Fin 1024) (hρ : ρ.val / 64 ≠ b.val) :
    Same hW i S (rowDo ![1, 64, W] i b (inb b) tp w S) ρ := by
  have h : ρ.val < 64 * b.val ∨ 64 * b.val + 64 ≤ ρ.val := by omega
  exact ⟨fun l => put2_row S.m _ _ _ ρ l h, fun l => put3_row S.al _ _ _ _ i ρ l h,
    fun k => put3_row S.p _ _ _ _ i ρ (at' hW k) h⟩

theorem rows_keep (n : ℕ) (hn : n < 16) (S : Mem Ideal) :
    Keeps S (blocksDo (fun b => rowDo ![1, 64, W] i b (inb b) tp w) n hn S) := by
  induction n with
  | zero => exact ⟨rfl, rfl, rfl⟩
  | succ n ih =>
    have h := ih (Nat.lt_of_succ_lt hn)
    exact ⟨h.s, h.qs, h.acc⟩

include htp hw in
theorem rows_done (n : ℕ) (hn : n < 16) (S : Mem Ideal) (ρ : Fin 1024) :
    (ρ.val / 64 ≤ n → Done hW i S (blocksDo (fun b => rowDo ![1, 64, W] i b (inb b) tp w) n hn S) ρ)
    ∧ (n < ρ.val / 64 →
        Same hW i S (blocksDo (fun b => rowDo ![1, 64, W] i b (inb b) tp w) n hn S) ρ) := by
  induction n with
  | zero =>
    exact ⟨fun h => row_done hW i inb tp w htp hw ⟨0, hn⟩ S ρ (by show ρ.val / 64 = 0; omega),
      fun h => row_same hW i inb tp w ⟨0, hn⟩ S ρ (by show ρ.val / 64 ≠ 0; omega)⟩
  | succ n ih =>
    have hn' := Nat.lt_of_succ_lt hn
    obtain ⟨h1, h2⟩ := ih hn'
    have hk := rows_keep i inb tp w n hn' S
    generalize hS : blocksDo (fun b => rowDo ![1, 64, W] i b (inb b) tp w) n hn' S = T at *
    have e : blocksDo (fun b => rowDo ![1, 64, W] i b (inb b) tp w) (n + 1) hn S
        = rowDo ![1, 64, W] i ⟨n + 1, hn⟩ (inb ⟨n + 1, hn⟩) tp w T := by rw [← hS]; rfl
    rw [e]
    refine ⟨fun h => ?_, fun h => ?_⟩
    · by_cases hb : ρ.val / 64 = n + 1
      · have d := row_done hW i inb tp w htp hw ⟨n + 1, hn⟩ T ρ hb
        have u := h2 (by omega)
        refine ⟨fun l => ?_, fun l => ?_, fun k => ?_⟩
        · rw [d.m l, u.m l, hk.s]
        · rw [d.al l, u.m l]
        · rw [d.p k, hk.s]
      · have d := h1 (by omega)
        have u := row_same hW i inb tp w ⟨n + 1, hn⟩ T ρ hb
        refine ⟨fun l => ?_, fun l => ?_, fun k => ?_⟩
        · rw [u.m l, d.m l]
        · rw [u.al l, u.m l, d.al l]
        · rw [u.p k, u.m _, d.p k]
    · have d := h2 (by omega)
      have u := row_same hW i inb tp w ⟨n + 1, hn⟩ T ρ (by show ρ.val / 64 ≠ n + 1; omega)
      exact ⟨fun l => (u.m l).trans (d.m l), fun l => (u.al l).trans (d.al l),
        fun k => (u.p k).trans (d.p k)⟩

end Rows

end Cert.Proof.Flash
-- ==== Proof.Math.lean ====
/-
The mathematics of the running softmax over the extended reals: sums of weighted values may be
rescaled by a positive real number, exponentials to the base two with the scaled factor are
exponentials, and the quotient of the two sums is the softmax-weighted sum.
-/
module

public import proofs.«01_k».proof.Proof.Chunks

@[expose] public section

noncomputable section

namespace Cert.Proof.Flash

open Idealize.ShloMosaic

/-! ### Sums of extended reals -/

/-- A nonnegative real number may be multiplied into a finite sum. -/
theorem coe_mul_sum {ι : Type} (K : Finset ι) (a : ℝ) (ha : 0 ≤ a) (f : ι → EReal) :
    (a : EReal) * ∑ k ∈ K, f k = ∑ k ∈ K, (a : EReal) * f k := by
  classical
  induction K using Finset.induction_on with
  | empty => simp
  | insert i K hi ih =>
    rw [Finset.sum_insert hi, Finset.sum_insert hi,
      EReal.left_distrib_of_nonneg_of_ne_top (EReal.coe_nonneg.mpr ha) (EReal.coe_ne_top a), ih]

/-- A finite sum of real numbers, taken in the extended reals. -/
theorem coe_sum {ι : Type} (K : Finset ι) (f : ι → ℝ) :
    ((∑ k ∈ K, f k : ℝ) : EReal) = ∑ k ∈ K, (f k : EReal) := by
  classical
  induction K using Finset.induction_on with
  | empty => simp
  | insert i K hi ih => rw [Finset.sum_insert hi, Finset.sum_insert hi, EReal.coe_add, ih]

/-- The supremum of a nonempty finite family of real numbers is one of them, and bounds them all. -/
theorem sup_real {ι : Type} (K : Finset ι) (hK : K.Nonempty) (x : ι → ℝ) :
    ∃ k₀ ∈ K, K.sup (fun k => (x k : EReal)) = (x k₀ : EReal) ∧ ∀ k ∈ K, x k ≤ x k₀ := by
  obtain ⟨k₀, h₀, h⟩ := Finset.exists_max_image K x hK
  refine ⟨k₀, h₀, le_antisymm (Finset.sup_le fun k hk => EReal.coe_le_coe_iff.mpr (h k hk))
    (Finset.le_sup (f := fun k => (x k : EReal)) h₀), h⟩

theorem exp2_coe (r : ℝ) : Ideal.exp2 (r : EReal) = ((2 : ℝ) ^ r : ℝ) := rfl

theorem exp_coe (r : ℝ) : Ideal.exp (r : EReal) = (Real.exp r : ℝ) := rfl

theorem exp2_sub (a b : ℝ) : Ideal.exp2 ((a : EReal) - (b : EReal)) = ((2 : ℝ) ^ (a - b) : ℝ) := by
  rw [← EReal.coe_sub]; rfl

theorem exp_sub (a b : ℝ) : Ideal.exp ((a : EReal) - (b : EReal)) = (Real.exp (a - b) : ℝ) := by
  rw [← EReal.coe_sub]; rfl

/-! ### One more chunk -/

/-- The sums of the values weighted at the keys `K`, relative to a maximum. -/
def wsum {ι : Type} (K : Finset ι) (x : ι → ℝ) (M : EReal) (v : ι → EReal) : EReal :=
  ∑ k ∈ K, Ideal.exp2 ((x k : EReal) - M) * v k

/-- Rescaling the sums of `K` from its own maximum to a larger real one. -/
theorem rescale {ι : Type} (K : Finset ι) (x : ι → ℝ) (M' : ℝ) (v : ι → EReal) :
    Ideal.exp2 (K.sup (fun k => (x k : EReal)) - (M' : EReal))
        * wsum K x (K.sup (fun k => (x k : EReal))) v
      = wsum K x (M' : EReal) v := by
  rcases K.eq_empty_or_nonempty with rfl | hK
  · simp [wsum]
  · obtain ⟨k₀, _, hM, _⟩ := sup_real K hK x
    rw [hM, exp2_sub]
    unfold wsum
    rw [coe_mul_sum _ _ (Real.rpow_nonneg (by norm_num) _)]
    refine Finset.sum_congr rfl fun k _ => ?_
    rw [exp2_sub, exp2_sub, ← mul_assoc, ← EReal.coe_mul, ← Real.rpow_add (by norm_num)]
    congr 3
    ring

/-- Maximum and sums of `K`, joined with a chunk of further keys. -/
theorem join {ι : Type} [DecidableEq ι] (K : Finset ι) {W : ℕ} [NeZero W] (x : ι → ℝ) (v : ι → EReal)
    (f : Fin W → ι) (hf : Function.Injective f) (hd : ∀ k, f k ∉ K) :
    max (K.sup fun k => (x k : EReal)) (top fun k : Fin W => (x (f k) : EReal))
        = (K ∪ Finset.univ.image f).sup (fun k => (x k : EReal))
    ∧ Ideal.exp2 (K.sup (fun k => (x k : EReal))
            - (K ∪ Finset.univ.image f).sup (fun k => (x k : EReal)))
          * wsum K x (K.sup (fun k => (x k : EReal))) v
        + ∑ k : Fin W, Ideal.exp2 ((x (f k) : EReal)
            - (K ∪ Finset.univ.image f).sup (fun k => (x k : EReal))) * v (f k)
      = wsum (K ∪ Finset.univ.image f) x
          ((K ∪ Finset.univ.image f).sup (fun k => (x k : EReal))) v := by
  have hdis : Disjoint K (Finset.univ.image f) := Finset.disjoint_right.mpr fun a ha => by
    obtain ⟨k, _, rfl⟩ := Finset.mem_image.mp ha; exact hd k
  have hne : (K ∪ Finset.univ.image f).Nonempty :=
    ⟨f 0, Finset.mem_union_right _ (Finset.mem_image_of_mem f (Finset.mem_univ 0))⟩
  refine ⟨?_, ?_⟩
  · rw [Finset.sup_union, Finset.sup_image]; rfl
  · obtain ⟨k₀, _, hM, _⟩ := sup_real _ hne x
    rw [hM, rescale]
    unfold wsum
    rw [Finset.sum_union hdis, Finset.sum_image fun a _ b _ h => hf h]

/-! ### The quotient -/

/-- With base-two scores `c` times the reference's and `2 ^ (c s) = e ^ (r s)`, the quotient of the
weighted sum and the sum of the weights is the sum weighted by the softmax of `s · r`. -/
theorem quotient {ι : Type} [Fintype ι] [Nonempty ι] (s : ι → ℝ) (v : ι → EReal) (r c : ℝ) (hr : 0 < r)
    (hc : c * Real.log 2 = r) :
    Ideal.div
        (wsum Finset.univ (fun k => s k * c) (Finset.univ.sup fun k => ((s k * c : ℝ) : EReal)) v)
        (wsum Finset.univ (fun k => s k * c) (Finset.univ.sup fun k => ((s k * c : ℝ) : EReal))
          fun _ => 1)
      = ∑ k, v k * Ideal.div
          (Ideal.exp (((s k * r : ℝ) : EReal) - Finset.univ.sup fun k => ((s k * r : ℝ) : EReal)))
          (∑ j, Ideal.exp (((s j * r : ℝ) : EReal)
            - Finset.univ.sup fun k => ((s k * r : ℝ) : EReal))) := by
  have hlog : 0 < Real.log 2 := Real.log_pos (by norm_num)
  have hc0 : 0 < c := by
    by_contra h
    have : c * Real.log 2 ≤ 0 := mul_nonpos_of_nonpos_of_nonneg (not_lt.mp h) hlog.le
    linarith
  obtain ⟨k₀, _, hM, hmax⟩ := sup_real Finset.univ Finset.univ_nonempty fun k => s k * r
  have hs : ∀ k, s k ≤ s k₀ := fun k => le_of_mul_le_mul_right (hmax k (Finset.mem_univ k)) hr
  have hM' : (Finset.univ.sup fun k => ((s k * c : ℝ) : EReal)) = ((s k₀ * c : ℝ) : EReal) :=
    le_antisymm (Finset.sup_le fun k _ => EReal.coe_le_coe_iff.mpr
      (mul_le_mul_of_nonneg_right (hs k) hc0.le))
      (Finset.le_sup (f := fun k => ((s k * c : ℝ) : EReal)) (Finset.mem_univ k₀))
  have he : ∀ k, (2 : ℝ) ^ (s k * c - s k₀ * c) = Real.exp (s k * r - s k₀ * r) := fun k => by
    rw [Real.rpow_def_of_pos (by norm_num), ← hc]
    congr 1
    ring
  unfold wsum
  rw [hM, hM']
  simp only [exp2_sub, exp_sub, he, mul_one]
  rw [← coe_sum]
  set L : ℝ := ∑ k, Real.exp (s k * r - s k₀ * r) with hL
  have hpos : 0 < L := Finset.sum_pos (fun k _ => Real.exp_pos _) Finset.univ_nonempty
  have hdiv : ∀ y : EReal, Ideal.div y (L : EReal) = y * ((L⁻¹ : ℝ) : EReal) := fun y => by
    have h0 : ((L : ℝ) : EReal) ≠ 0 := by exact_mod_cast hpos.ne'
    unfold Ideal.div
    rw [if_neg h0, EReal.coe_inv]
  rw [hdiv, mul_comm, coe_mul_sum _ _ (inv_nonneg.mpr hpos.le)]
  refine Finset.sum_congr rfl fun k _ => ?_
  rw [hdiv, ← mul_assoc, mul_comm (v k), ← EReal.coe_mul, ← EReal.coe_mul, mul_comm (L⁻¹)]

/-! ### All chunks -/

/-- The last 256 keys and those below `b`. -/
def upTo (b : ℕ) : Finset (Fin 16640) := Finset.univ.filter fun k => k.val < b ∨ 16384 ≤ k.val

/-- The keys of a chunk. -/
def chunk (base W : ℕ) : Finset (Fin 16640) :=
  Finset.univ.image fun k : Fin W => key (base + k.val)

theorem mem_chunk (base W : ℕ) (h : base + W ≤ 16640) (k : Fin 16640) :
    k ∈ chunk base W ↔ base ≤ k.val ∧ k.val < base + W := by
  unfold chunk
  rw [Finset.mem_image]
  constructor
  · rintro ⟨j, _, rfl⟩
    have e : (key (base + j.val)).val = base + j.val := Nat.mod_eq_of_lt (by have := j.isLt; omega)
    have := j.isLt
    omega
  · rintro ⟨h1, h2⟩
    refine ⟨⟨k.val - base, by omega⟩, Finset.mem_univ _, Fin.ext ?_⟩
    show (base + (k.val - base)) % 16640 = k.val
    rw [show base + (k.val - base) = k.val by omega]
    exact Nat.mod_eq_of_lt k.isLt

theorem upTo_zero : ∅ ∪ chunk 16384 256 = upTo 0 := by
  ext k
  rw [Finset.mem_union, mem_chunk _ _ (by decide)]
  unfold upTo
  rw [Finset.mem_filter]
  have := k.isLt
  simp only [Finset.notMem_empty, Finset.mem_univ, true_and, false_or]
  omega

theorem upTo_add (b : ℕ) (h : b + 2048 ≤ 16384) : upTo b ∪ chunk b 2048 = upTo (b + 2048) := by
  ext k
  rw [Finset.mem_union, mem_chunk _ _ (by omega)]
  unfold upTo
  rw [Finset.mem_filter, Finset.mem_filter]
  simp only [Finset.mem_univ, true_and]
  omega

theorem upTo_all : upTo 16384 = Finset.univ := by
  ext k
  unfold upTo
  rw [Finset.mem_filter]
  simp only [Finset.mem_univ, true_and, iff_true]
  omega

/-- `A` holds the maxima and the sums over the keys `K`, the scores being the real numbers `x`. -/
def Good (I : Ins Ideal) (x : Fin 1024 → Fin 16640 → ℝ) (K : Finset (Fin 16640)) (A : Acc) : Prop :=
  ∀ ρ, A.μ ρ = K.sup (fun k => (x ρ k : EReal))
    ∧ ∀ c, A.α ρ c = wsum K (x ρ) (K.sup fun k => (x ρ k : EReal)) fun k => col I.v k c

theorem good_add (I : Ins Ideal) (x : Fin 1024 → Fin 16640 → ℝ)
    (hx : ∀ ρ k, sc I ρ k = (x ρ k : EReal)) (K : Finset (Fin 16640)) (A : Acc) (hA : Good I x K A)
    (base W : ℕ) [NeZero W] (h : base + W ≤ 16640) (hK : ∀ k ∈ K, k.val < base ∨ base + W ≤ k.val) :
    Good I x (K ∪ chunk base W) (A.add I base W) := by
  intro ρ
  have hinj : Function.Injective fun k : Fin W => key (base + k.val) := fun a b hab => by
    have e := congrArg Fin.val hab
    have ea : (key (base + a.val)).val = base + a.val := Nat.mod_eq_of_lt (by have := a.isLt; omega)
    have eb : (key (base + b.val)).val = base + b.val := Nat.mod_eq_of_lt (by have := b.isLt; omega)
    have e' : (key (base + a.val)).val = (key (base + b.val)).val := e
    exact Fin.ext (by omega)
  have hd : ∀ k : Fin W, key (base + k.val) ∉ K := fun k hk => by
    have ek : (key (base + k.val)).val = base + k.val := Nat.mod_eq_of_lt (by have := k.isLt; omega)
    have := hK _ hk
    have := k.isLt
    omega
  have hm : A.max' I base W ρ = (K ∪ chunk base W).sup (fun k => (x ρ k : EReal)) := by
    unfold Acc.max'
    rw [(hA ρ).1]
    simp only [hx]
    exact (join K (x ρ) (fun _ => 1) (fun k : Fin W => key (base + k.val)) hinj hd).1
  refine ⟨hm, fun c => ?_⟩
  have hj := (join K (x ρ) (fun k => col I.v k c) (fun k : Fin W => key (base + k.val)) hinj hd).2
  refine Eq.trans ?_ hj
  show Ideal.exp2 (A.μ ρ - A.max' I base W ρ) * A.α ρ c
    + ∑ k : Fin W, Ideal.exp2 (sc I ρ (key (base + k.val)) - A.max' I base W ρ)
        * col I.v (key (base + k.val)) c = _
  rw [hm, (hA ρ).1, (hA ρ).2 c]
  simp only [hx]
  rfl

theorem good_start (I : Ins Ideal) (x : Fin 1024 → Fin 16640 → ℝ) : Good I x ∅ Acc.start :=
  fun ρ => ⟨rfl, fun c => by simp [wsum, Acc.start]⟩

theorem good_to (I : Ins Ideal) (x : Fin 1024 → Fin 16640 → ℝ)
    (hx : ∀ ρ k, sc I ρ k = (x ρ k : EReal)) (n : ℕ) (hn : n ≤ 4) :
    Good I x (upTo (4096 * n)) (accTo I n) := by
  have hin : ∀ b, ∀ k ∈ upTo b, k.val < b ∨ 16384 ≤ k.val := fun b k hk => (Finset.mem_filter.mp hk).2
  induction n with
  | zero =>
    have := good_add I x hx ∅ Acc.start (good_start I x) 16384 256 (by decide)
      fun k hk => absurd hk (Finset.notMem_empty k)
    rw [upTo_zero] at this
    exact this
  | succ n ih =>
    have h0 := ih (by omega)
    have h1 := good_add I x hx _ _ h0 (4096 * n) 2048 (by omega)
      fun k hk => (hin _ k hk).imp id fun h => by omega
    rw [upTo_add _ (by omega)] at h1
    have h2 := good_add I x hx _ _ h1 (4096 * n + 2048) 2048 (by omega)
      fun k hk => (hin _ k hk).imp id fun h => by omega
    rw [upTo_add _ (by omega)] at h2
    exact h2

/-- The running sums at the end: over all keys. -/
theorem acc_final (I : Ins Ideal) (x : Fin 1024 → Fin 16640 → ℝ)
    (hx : ∀ ρ k, sc I ρ k = (x ρ k : EReal)) (ρ : Fin 1024) (c : Fin 256) :
    (accTo I 4).α ρ c = wsum Finset.univ (x ρ) (Finset.univ.sup fun k => (x ρ k : EReal))
      fun k => col I.v k c := by
  have h := (good_to I x hx 4 (le_refl _) ρ).2 c
  rw [show 4096 * 4 = 16384 from rfl, upTo_all] at h
  exact h

end Cert.Proof.Flash
-- ==== Proof.Reference.lean ====
module

public import proofs.«01_k».proof.Proof.Gen.ReferenceIdeal.Read
public import Idealize.ShloMosaic.Lib.Pointwise

@[expose] public section

set_option backward.proofsInPublic true

noncomputable section

/-!
The reference read at one entry of its result.

Column `C` of the result belongs to query head `C / 128`, whose keys and values are those of head
`C / 512`. The entry is a sum over the keys of a value times a softmax weight, the weight taken from
`score`, the scaled product of the key's row with the query's row.
-/

namespace Cert.Proof.Reference

open Idealize.ShloMosaic Cert.ReferenceIdeal Cert.ReferenceIdeal.Gen
  Cert.ReferenceIdeal.Read

/-- The scale the reference multiplies its scores by. -/
abbrev scale : EReal := Ideal.ofBits .f32 0x3DB504F3#32

variable (q : Vec Ideal S16640x4096 .bf16) (k : Vec Ideal S16640x1024 .bf16)
  (v : Vec Ideal S16640x6144 .bf16)

/-- The product of key `n`'s row with the query row `R`, in the head of column `C`. -/
def dot (R : Fin 16384) (C : Fin 4096) (n : Fin 16640) : EReal :=
  ∑ d : Fin 128, k (ix2 n ⟨128 * (C.val / 512) + d.val, by omega⟩)
    * q (ix2 ⟨R.val, by omega⟩ ⟨128 * (C.val / 128) + d.val, by omega⟩)

/-- The index of the score of row `R`, column `C` and key `n`. -/
abbrev at4 (R : Fin 16384) (C : Fin 4096) (n : Fin 16640) : S8x4x16384x16640.Idx :=
  ix4 ⟨C.val / 512, by omega⟩ ⟨C.val / 128 % 4, by omega⟩ R n

abbrev at3 (R : Fin 16384) (C : Fin 4096) : S8x4x16384.Idx :=
  ix3 ⟨C.val / 512, by omega⟩ ⟨C.val / 128 % 4, by omega⟩ R

theorem score_apply (R : Fin 16384) (C : Fin 4096) (n : Fin 16640) :
    val_main_v11 (F := Ideal) q k (at4 R C n) = dot q k R C n * scale := by
  rw [val_main_v11_apply, val_main_v9_apply, val_main_v8_apply, val_main_v10_apply,
    val_main_cst_apply]
  unfold dot
  refine congrArg (· * scale) (Finset.sum_congr rfl fun d _ => ?_)
  rw [val_main_v4_apply, val_main_v3_apply, val_main_v2_apply, val_main_v1_apply,
    val_main_v0_apply]
  have hR := R.isLt
  have hC := C.isLt
  have hn := n.isLt
  have hd := d.isLt
  refine congr (congrArg HMul.hMul (congrArg k (funext fun a => Fin.ext ?_)))
    (congrArg q (funext fun a => Fin.ext ?_))
  · match a with
    | ⟨0, _⟩ => show ((n.val * 8 + C.val / 512) * 128 + d.val) / 1024 = n.val; omega
    | ⟨1, _⟩ =>
      show ((n.val * 8 + C.val / 512) * 128 + d.val) % 1024 = 128 * (C.val / 512) + d.val; omega
  · match a with
    | ⟨0, _⟩ =>
      show (((R.val * 8 + C.val / 512) * 4 + C.val / 128 % 4) * 128 + d.val) / 4096 = R.val; omega
    | ⟨1, _⟩ =>
      show (((R.val * 8 + C.val / 512) * 4 + C.val / 128 % 4) * 128 + d.val) % 4096
        = 128 * (C.val / 128) + d.val
      omega

theorem max_apply (R : Fin 16384) (C : Fin 4096) :
    val_main_v14 (F := Ideal) q k (at3 R C)
      = Finset.univ.sup fun n : Fin 16640 => dot q k R C n * scale := by
  rw [val_main_v14_apply, val_main_v13_apply, val_main_cst_1_apply]
  have lowest : (FloatOps.ofBits .f32 0xFF800000#32 : Ideal .f32) = ⊥ := by
    show Ideal.ofBits .f32 0xFF800000#32 = ⊥
    simp [Ideal.ofBits, Ideal.ieee]
  have h : val_main_v12 (F := Ideal) q k (at3 R C)
      = Finset.univ.sup fun n : Fin 16640 => val_main_v11 (F := Ideal) q k (at4 R C n) := by
    unfold val_main_v12 val_main_cst_0
    generalize val_main_v11 (F := Ideal) q k = y
    pointwise
    try simp only [lowest]
    rfl
  rw [h, lowest]
  simp only [score_apply]
  exact max_eq_right bot_le

theorem exp_apply (R : Fin 16384) (C : Fin 4096) (n : Fin 16640) :
    val_main_v18 (F := Ideal) q k (at4 R C n)
      = Ideal.exp (dot q k R C n * scale
          - Finset.univ.sup fun n : Fin 16640 => dot q k R C n * scale) := by
  rw [val_main_v18_apply, val_main_v17_apply, val_main_v16_apply, val_main_v15_apply, score_apply]
  rw [show idx_main_v15 (idx_main_v16 (at4 R C n)) = at3 R C from
    funext fun a => Fin.ext (by match a with | ⟨0, _⟩ => rfl | ⟨1, _⟩ => rfl | ⟨2, _⟩ => rfl),
    max_apply]
  rfl

theorem weight_apply (R : Fin 16384) (C : Fin 4096) (n : Fin 16640) :
    val_main_v22 (F := Ideal) q k (at4 R C n)
      = Ideal.div
          (Ideal.exp (dot q k R C n * scale
            - Finset.univ.sup fun n : Fin 16640 => dot q k R C n * scale))
          (∑ j : Fin 16640, Ideal.exp (dot q k R C j * scale
            - Finset.univ.sup fun n : Fin 16640 => dot q k R C n * scale)) := by
  rw [val_main_v22_apply, val_main_v21_apply, val_main_v20_apply, val_main_v19_apply, exp_apply]
  refine congrArg (Ideal.div _) ?_
  rw [val_main_cst_2_apply]
  have h0 : (FloatOps.ofBits .f32 0x00000000#32 : Ideal .f32) = 0 := by
    show Ideal.ofBits .f32 0x00000000#32 = 0
    simp [Ideal.ofBits, Ideal.ieee]
  rw [h0]
  refine (zero_add _).trans (Finset.sum_congr rfl fun j _ => ?_)
  rw [← exp_apply]
  exact congrArg _ (funext fun a => Fin.ext (by
    match a with | ⟨0, _⟩ => rfl | ⟨1, _⟩ => rfl | ⟨2, _⟩ => rfl | ⟨3, _⟩ => rfl))

/-- The reference's result at row `R` and column `C`. -/
theorem result_apply (R : Fin 16384) (C : Fin 4096) :
    val_main_v26 (F := Ideal) q k v (ix2 R C)
      = ∑ n : Fin 16640, v (ix2 n ⟨5120 + 128 * (C.val / 512) + C.val % 128, by omega⟩)
          * Ideal.div
              (Ideal.exp (dot q k R C n * scale
                - Finset.univ.sup fun n : Fin 16640 => dot q k R C n * scale))
              (∑ j : Fin 16640, Ideal.exp (dot q k R C j * scale
                - Finset.univ.sup fun n : Fin 16640 => dot q k R C n * scale)) := by
  rw [val_main_v26_apply, val_main_v25_apply, val_main_v24_apply, val_main_v23_apply]
  refine Finset.sum_congr rfl fun n _ => ?_
  rw [val_main_v7_apply, val_main_v6_apply, val_main_v5_apply, ← weight_apply]
  have hR := R.isLt
  have hC := C.isLt
  have hn := n.isLt
  refine congr (congrArg HMul.hMul (congrArg v (funext fun a => Fin.ext ?_)))
    (congrArg (val_main_v22 (F := Ideal) q k) (funext fun a => Fin.ext ?_))
  · match a with
    | ⟨0, _⟩ =>
      show ((n.val * 8 + (R.val * 4096 + C.val) / 512 % 8) * 128
        + (R.val * 4096 + C.val) % 128) / 1024 = n.val
      omega
    | ⟨1, _⟩ =>
      show 5120 + ((n.val * 8 + (R.val * 4096 + C.val) / 512 % 8) * 128
        + (R.val * 4096 + C.val) % 128) % 1024 = 5120 + 128 * (C.val / 512) + C.val % 128
      omega
  · match a with
    | ⟨0, _⟩ => show (R.val * 4096 + C.val) / 512 % 8 = C.val / 512; omega
    | ⟨1, _⟩ => show (R.val * 4096 + C.val) / 128 % 4 = C.val / 128 % 4; omega
    | ⟨2, _⟩ => show (R.val * 4096 + C.val) / 4096 = R.val; omega
    | ⟨3, _⟩ => rfl

end Cert.Proof.Reference

end

end
-- ==== Proof.Result.lean ====
module

public import proofs.«01_k».proof.Proof.Math
public import proofs.«01_k».proof.Proof.Reference

@[expose] public section

set_option backward.proofsInPublic true

/-!
What a grid point writes is the reference's result on its block, when the queries and keys are
finite.
-/

noncomputable section

namespace Cert.Proof.Flash

open Idealize.ShloMosaic
open Cert.KernelIdeal Cert.KernelIdeal.Gen
open Cert.Proof.Reference (dot scale result_apply)

/-- The scale of the scores. -/
abbrev sr : ℝ := 11863283 / 134217728

/-- The scale of the exponents of two. -/
abbrev sk : ℝ := 11863283 / 134217728 * (Real.log 2)⁻¹

theorem scale_real : scale = ((sr : ℝ) : EReal) := by
  simp [scale, sr, Ideal.ofBits, Ideal.ieee, -EReal.coe_mul]
  norm_num

theorem kap_real : kap = ((sk : ℝ) : EReal) := rfl

theorem sk_log : sk * Real.log 2 = sr := by
  have h : Real.log 2 ≠ 0 := (Real.log_pos (by norm_num)).ne'
  show sr * (Real.log 2)⁻¹ * Real.log 2 = sr
  rw [mul_assoc, inv_mul_cancel₀ h, mul_one]

variable (q : Vec Ideal S16640x4096 .bf16) (k : Vec Ideal S16640x1024 .bf16)
  (v : Vec Ideal S16640x6144 .bf16)

/-- The real product of row `R` and key `n` in the head of column `C`. -/
def dotR (R : Fin 16384) (C : Fin 4096) (n : Fin 16640) : ℝ :=
  ∑ d : Fin 128, (k (ix2 n ⟨128 * (C.val / 512) + d.val, by omega⟩) : EReal).toReal
    * (q (ix2 ⟨R.val, by omega⟩ ⟨128 * (C.val / 128) + d.val, by omega⟩) : EReal).toReal

variable (hq : ∀ y, (q y : EReal) = ((q y : EReal).toReal : EReal))
  (hk : ∀ y, (k y : EReal) = ((k y : EReal).toReal : EReal))

include hq hk in
theorem dot_real (R : Fin 16384) (C : Fin 4096) (n : Fin 16640) :
    dot q k R C n = (dotR q k R C n : EReal) := by
  unfold dot dotR
  rw [coe_sum]
  refine Finset.sum_congr rfl fun d _ => ?_
  rw [EReal.coe_mul, ← hq, ← hk]

variable (I : Ins Ideal) (g : Fin 8) (i : Fin 64)

/-- The row and the column of the result a stacked row stands for. -/
def rowOf (ρ : Fin 1024) : Fin 16384 := ⟨256 * i.val + ρ.val % 256, by omega⟩
def colOf (ρ : Fin 1024) : Fin 4096 := ⟨512 * g.val + 128 * (ρ.val / 256), by omega⟩

variable
  (iq : ∀ (a : Fin 256) (b : Fin 512), I.q (ix2 a b)
    = q (ix2 ⟨256 * i.val + a.val, by omega⟩ ⟨512 * g.val + b.val, by omega⟩))
  (ik : ∀ (d : Fin 128) (n : Fin 16640), I.k (ix2 d n) = k (ix2 n ⟨128 * g.val + d.val, by omega⟩))
  (iv : ∀ (n : Fin 16640) (d : Fin 128),
    I.v (ix2 n d) = v (ix2 n ⟨5120 + 128 * g.val + d.val, by omega⟩))

include hq hk iq ik in
theorem sc_real (ρ : Fin 1024) (n : Fin 16640) :
    sc I ρ n = ((dotR q k (rowOf i ρ) (colOf g ρ) n * sk : ℝ) : EReal) := by
  unfold sc dotR
  rw [Finset.sum_mul, coe_sum]
  refine Finset.sum_congr rfl fun d _ => ?_
  unfold qsv
  rw [iq, ik, kap_real, hq, hk, ← EReal.coe_mul, ← EReal.coe_mul]
  have e1 : (128 * g.val + d.val) = 128 * ((colOf g ρ).val / 512) + d.val := by
    unfold colOf; have := ρ.isLt; show _ = 128 * ((512 * g.val + 128 * (ρ.val / 256)) / 512) + d.val
    omega
  have e2 : 512 * g.val + (128 * (ρ.val / 256) + d.val) = 128 * ((colOf g ρ).val / 128) + d.val := by
    unfold colOf; show _ = 128 * ((512 * g.val + 128 * (ρ.val / 256)) / 128) + d.val
    omega
  have f1 : (⟨128 * g.val + d.val, by omega⟩ : Fin 1024)
      = ⟨128 * ((colOf g ρ).val / 512) + d.val, by have := (colOf g ρ).isLt; omega⟩ := Fin.ext e1
  have f2 : (⟨512 * g.val + (128 * (ρ.val / 256) + d.val), by omega⟩ : Fin 4096)
      = ⟨128 * ((colOf g ρ).val / 128) + d.val, by have := (colOf g ρ).isLt; omega⟩ := Fin.ext e2
  have f3 : (⟨256 * i.val + ρ.val % 256, by omega⟩ : Fin 16640)
      = ⟨(rowOf i ρ).val, by have := (rowOf i ρ).isLt; omega⟩ := rfl
  rw [← f1, ← f2, ← f3]
  exact congrArg _ (by ring)

include hq hk iq ik iv in
/-- The block of grid point `(g, i)` is the reference's. -/
theorem out_eq (a : Fin 256) (b : Fin 512) :
    out I (ix2 a b) = Cert.ReferenceIdeal.Read.val_main_v26 (F := Ideal) q k v
      (ix2 ⟨256 * i.val + a.val, by omega⟩ ⟨512 * g.val + b.val, by omega⟩) := by
  have ha := a.isLt
  have hb := b.isLt
  set R : Fin 16384 := ⟨256 * i.val + a.val, by omega⟩ with hR
  set C : Fin 4096 := ⟨512 * g.val + b.val, by omega⟩ with hC
  rw [result_apply]
  have hC1 : C.val / 512 = g.val := by show (512 * g.val + b.val) / 512 = g.val; omega
  have hC2 : C.val % 128 = b.val % 128 := by
    show (512 * g.val + b.val) % 128 = b.val % 128; omega
  have hC3 : C.val / 128 = 4 * g.val + b.val / 128 := by
    show (512 * g.val + b.val) / 128 = 4 * g.val + b.val / 128; omega
  have h : ∀ n : Fin 16640, dot q k R C n * scale = ((dotR q k R C n * sr : ℝ) : EReal) := fun n => by
    rw [dot_real q k hq hk, scale_real, EReal.coe_mul]
  simp only [h]
  rw [← quotient (fun n => dotR q k R C n)
    (fun n => v (ix2 n ⟨5120 + 128 * (C.val / 512) + C.val % 128, by have := C.isLt; omega⟩)) sr sk
    (by norm_num) sk_log]
  set ρ : Fin 1024 := ⟨256 * (b.val / 128) + a.val, by omega⟩ with hρ
  have hx : ∀ n, dotR q k (rowOf i ρ) (colOf g ρ) n = dotR q k R C n := fun n => by
    unfold dotR
    have r0 : rowOf i ρ = R := Fin.ext (by
      show 256 * i.val + (256 * (b.val / 128) + a.val) % 256 = 256 * i.val + a.val; omega)
    have c1 : (colOf g ρ).val / 512 = C.val / 512 := by
      show (512 * g.val + 128 * ((256 * (b.val / 128) + a.val) / 256)) / 512 = _; omega
    have c2 : (colOf g ρ).val / 128 = C.val / 128 := by
      show (512 * g.val + 128 * ((256 * (b.val / 128) + a.val) / 256)) / 128 = _; omega
    simp only [r0, c1, c2]
  have key := acc_final I (fun ρ n => dotR q k (rowOf i ρ) (colOf g ρ) n * sk)
    (fun ρ n => sc_real q k hq hk I g i iq ik ρ n) ρ
  simp only [hx] at key
  show Ideal.div ((accTo I 4).α ρ ⟨b.val % 128, by omega⟩)
    ((accTo I 4).α ρ ⟨128 + b.val % 128, by omega⟩) = _
  rw [key, key]
  refine congr (congrArg Ideal.div (congrArg _ (funext fun n => ?_)))
    (congrArg _ (funext fun n => ?_))
  · unfold col
    rw [dif_pos (show b.val % 128 < 128 by omega), iv]
    refine congrArg v (congrArg (ix2 n) (Fin.ext ?_))
    show 5120 + 128 * g.val + b.val % 128 = 5120 + 128 * (C.val / 512) + C.val % 128
    omega
  · unfold col
    rw [dif_neg (show ¬ (128 + b.val % 128 < 128) by omega)]

end Cert.Proof.Flash

end

end
-- ==== Proof.Online.lean ====
/-
The flash-attention body chunk by chunk, over the extended reals: the buffers follow the running
maxima and sums of Chunks.lean, and the output block is their quotient.
-/
module

public import proofs.«01_k».proof.Proof.Chunks

@[expose] public section

noncomputable section

namespace Cert.Proof.Flash

open Idealize.ShloMosaic
open Cert.KernelIdeal Cert.KernelIdeal.Gen
open VecWindow (window put)

/-! ### A chunk of keys -/

/-- The buffers hold the scaled queries and the maxima and sums `A`. -/
structure Inv (I : Ins Ideal) (A : Acc) (S : Mem Ideal) : Prop where
  qs : ∀ (ρ : Fin 1024) (d : Fin 128), (S.qs (ix2 ρ d) : EReal) = qsv I ρ d
  m : ∀ (ρ : Fin 1024) (l : Fin 128), (S.m (ix2 ρ l) : EReal) = A.μ ρ
  acc : ∀ (ρ : Fin 1024) (c : Fin 256), (S.acc (ix2 ρ c) : EReal) = A.α ρ c

/-- Slot `i` holds the scores of `W` keys from `base` on. -/
def Scored (I : Ins Ideal) {W : ℕ} (hW : W ≤ 2048) (i : Fin 2) (base : ℕ) (S : Mem Ideal) : Prop :=
  ∀ (ρ : Fin 1024) (k : Fin W), (S.s (ix3 i ρ (at' hW k)) : EReal) = sc I ρ (key (base + k.val))

/-- What a chunk's rows leave, in terms of the description. -/
theorem chunk_rows {W : ℕ} (hW : W ≤ 2048) (I : Ins Ideal) (i : Fin 2) (base : ℕ) (A : Acc)
    (S S' : Mem Ideal) (hI : Inv I A S) (hs : Scored I hW i base S)
    (hd : ∀ ρ, Done hW i S S' ρ) :
    (∀ (ρ : Fin 1024) (l : Fin 128), (S'.m (ix2 ρ l) : EReal) = (A.add I base W).μ ρ)
    ∧ (∀ (ρ : Fin 1024) (l : Fin 128), (S'.al (ix3 i ρ l) : EReal)
        = Ideal.exp2 (A.μ ρ - A.max' I base W ρ))
    ∧ (∀ (ρ : Fin 1024) (k : Fin W), (S'.p (ix3 i ρ (at' hW k)) : EReal)
        = Ideal.exp2 (sc I ρ (key (base + k.val)) - A.max' I base W ρ)) := by
  have hm : ∀ (ρ : Fin 1024) (l : Fin 128), (S'.m (ix2 ρ l) : EReal) = A.max' I base W ρ :=
    fun ρ l => by
      rw [(hd ρ).m l, hI.m]
      exact congrArg (max _) (congrArg top (funext fun k => hs ρ k))
  refine ⟨hm, fun ρ l => ?_, fun ρ k => ?_⟩
  · rw [(hd ρ).al l, hm, hI.m]
  · rw [(hd ρ).p k, hm, hs]

theorem mainRows_done (i : Fin 2) (S : Mem Ideal) (ρ : Fin 1024) :
    Done (W := 2048) (le_refl _) i S (blocksDo (mainRowDo i) 15 (by decide) S) ρ :=
  (rows_done (W := 2048) (le_refl _) i (blockIn i) (fun s => tileMax s 15 (by decide)) weights
    main_top weights_apply 15 (by decide) S ρ).1 (by omega)

theorem mainRows_keep (i : Fin 2) (S : Mem Ideal) :
    Keeps S (blocksDo (mainRowDo i) 15 (by decide) S) :=
  rows_keep (W := 2048) i (blockIn i) (fun s => tileMax s 15 (by decide)) weights 15 (by decide) S

theorem tailRows_done (S : Mem Ideal) (ρ : Fin 1024) :
    Done (W := 256) (by decide) 1 S (blocksDo tailRowDo 15 (by decide) S) ρ :=
  (rows_done (W := 256) (by decide) 1 (tailIn 1) (fun s => maximumf (tailTile0 s) (tailTile1 s))
    tailWeights tail_top tailWeights_apply 15 (by decide) S ρ).1 (by omega)

theorem tailRows_keep (S : Mem Ideal) : Keeps S (blocksDo tailRowDo 15 (by decide) S) :=
  rows_keep (W := 256) 1 (tailIn 1) (fun s => maximumf (tailTile0 s) (tailTile1 s)) tailWeights 15
    (by decide) S

theorem key_val (n : ℕ) (h : n < 16640) : (key n).val = n := Nat.mod_eq_of_lt h

theorem col_window {W : ℕ} (v : Vec Ideal S16640x128 .bf16) (base : ℕ) (off : Fin 2 → ℕ)
    (hoff : off = ![base, 0])
    (inb : ∀ a, off a + (![W, 128] : Fin 2 → ℕ) a ≤ S16640x128.size a) (k : Fin W) (c : Fin 256) :
    col (window v off ![W, 128] inb) k c = col v (key (base + k.val)) c := by
  subst hoff
  have hb : base + W ≤ 16640 := inb 0
  unfold col
  by_cases h : c.val < 128
  · rw [dif_pos h, dif_pos h]
    exact win2 v base 0 inb (key (base + k.val)) ⟨c.val, h⟩ k ⟨c.val, h⟩
      (key_val _ (by have := k.isLt; omega)) (Nat.zero_add _).symm
  · rw [dif_neg h, dif_neg h]

theorem al_window (al : Vec Ideal S2x1024x128 .f32) (i : Fin 2) (ρ : Fin 1024) (l : Fin 128) :
    window al ![i.val, 0, 0] S1x1024x128.size (slotAlIn i) (ix3 0 ρ l) = al (ix3 i ρ l) :=
  win3 al i.val 0 0 (slotAlIn i) i ρ l 0 ρ l rfl (Nat.zero_add _).symm (Nat.zero_add _).symm

theorem whole_window {n0 n1 : ℕ} (x : (⟨2, ![n0, n1]⟩ : Shape).Idx → EReal)
    (inb : ∀ a, (![0, 0] : Fin 2 → ℕ) a + (![n0, n1] : Fin 2 → ℕ) a ≤ (![n0, n1] : Fin 2 → ℕ) a)
    (ρ : Fin n0) (l : Fin n1) :
    window (s := ⟨2, ![n0, n1]⟩) x ![0, 0] ![n0, n1] inb (ix2 ρ l) = x (ix2 ρ l) :=
  win2 x 0 0 inb ρ l ρ l (Nat.zero_add _).symm (Nat.zero_add _).symm

theorem p_window {W : ℕ} (hW : W ≤ 2048) (p : Vec Ideal S2x1024x2048 .bf16) (i : Fin 2)
    (inb : ∀ a, (![i.val, 0, 0] : Fin 3 → ℕ) a + (![1, 1024, W] : Fin 3 → ℕ) a ≤ S2x1024x2048.size a)
    (ρ : Fin 1024) (k : Fin W) :
    window p ![i.val, 0, 0] ![1, 1024, W] inb (ix3 0 ρ k) = p (ix3 i ρ (at' hW k)) :=
  win3 p i.val 0 0 inb i ρ (at' hW k) 0 ρ k rfl (Nat.zero_add _).symm (Nat.zero_add _).symm

theorem whole_put {n0 n1 : ℕ} (x w : (⟨2, ![n0, n1]⟩ : Shape).Idx → EReal) (ρ : Fin n0) (l : Fin n1) :
    put (s := ⟨2, ![n0, n1]⟩) x ![0, 0] ![n0, n1] w (ix2 ρ l) = w (ix2 ρ l) :=
  put2_in x 0 0 w ρ l ρ l (Nat.zero_add _).symm (Nat.zero_add _).symm

/-- A chunk's accumulation, entry by entry. -/
theorem accDo_acc (I : Ins Ideal) (i : Fin 2) (base : ℕ) (off : Fin 2 → ℕ)
    (hoff : off = ![base, 0]) (inb : ∀ a, off a + S2048x128.size a ≤ S16640x128.size a)
    (T : Mem Ideal) (ρ : Fin 1024) (c : Fin 256) :
    ((accDo I i off inb T).acc (ix2 ρ c) : EReal)
      = T.al (ix3 i ρ ⟨c.val % 128, Nat.mod_lt _ (by decide)⟩) * T.acc (ix2 ρ c)
        + ∑ k : Fin 2048, T.p (ix3 i ρ (at' (le_refl 2048) k)) * col I.v (key (base + k.val)) c := by
  refine (whole_put T.acc _ ρ c).trans ?_
  refine (accum_apply _ _ _ _ ρ c).trans ?_
  rw [al_window]
  rw [whole_window T.acc inb_S1024x256_S1024x256_0_0 ρ c]
  congr 1
  apply Finset.sum_congr rfl
  intro k _
  rw [p_window (le_refl 2048) T.p i (slotIn i) ρ k]
  rw [col_window I.v base off hoff inb k c]

/-- The last keys' accumulation, entry by entry. -/
theorem tailAccDo_acc (I : Ins Ideal) (T : Mem Ideal) (ρ : Fin 1024) (c : Fin 256) :
    ((tailAccDo I T).acc (ix2 ρ c) : EReal)
      = T.al (ix3 1 ρ ⟨c.val % 128, Nat.mod_lt _ (by decide)⟩) * T.acc (ix2 ρ c)
        + ∑ k : Fin 256, T.p (ix3 1 ρ (at' (by decide) k)) * col I.v (key (16384 + k.val)) c := by
  refine (whole_put T.acc _ ρ c).trans ?_
  refine (tailAccum_apply _ _ _ _ ρ c).trans ?_
  rw [show window T.al ![1, 0, 0] S1x1024x128.size (slotAlIn 1)
      (ix3 0 ρ ⟨c.val % 128, Nat.mod_lt _ (by decide)⟩) = _ from al_window T.al 1 ρ _]
  rw [whole_window T.acc inb_S1024x256_S1024x256_0_0 ρ c]
  congr 1
  apply Finset.sum_congr rfl
  intro k _
  rw [show window T.p ![1, 0, 0] S1x1024x256.size inb_S2x1024x2048_S1x1024x256_1_0_0 (ix3 0 ρ k) = _
    from p_window (by decide) T.p 1 inb_S2x1024x2048_S1x1024x256_1_0_0 ρ k]
  rw [col_window I.v 16384 ![16384, 0] rfl inb_S16640x128_S256x128_16384_0 k c]

theorem Acc.add_α (I : Ins Ideal) (base W : ℕ) (A : Acc) (ρ : Fin 1024) (c : Fin 256) :
    (A.add I base W).α ρ c = Ideal.exp2 (A.μ ρ - A.max' I base W ρ) * A.α ρ c
    + ∑ k : Fin W, Ideal.exp2 (sc I ρ (key (base + k.val)) - A.max' I base W ρ)
        * col I.v (key (base + k.val)) c := rfl

/-- A chunk of 2048 keys, from what its rows left in `T`. -/
theorem chunk_main_of (I : Ins Ideal) (i : Fin 2) (base : ℕ) (off : Fin 2 → ℕ)
    (hoff : off = ![base, 0]) (inb : ∀ a, off a + S2048x128.size a ≤ S16640x128.size a) (A : Acc)
    (S T : Mem Ideal) (hI : Inv I A S) (hs : Scored I (W := 2048) (le_refl _) i base S)
    (hk : Keeps S T) (hd : ∀ ρ, Done (W := 2048) (le_refl _) i S T ρ) :
    Inv I (A.add I base 2048) (accDo I i off inb T) ∧ (accDo I i off inb T).s = S.s := by
  obtain ⟨hm, hal, hp⟩ := chunk_rows (le_refl _) I i base A S T hI hs hd
  refine ⟨⟨fun ρ d => ?_, hm, fun ρ c => ?_⟩, hk.s⟩
  · exact (congrFun hk.qs (ix2 ρ d)).trans (hI.qs ρ d)
  · rw [accDo_acc I i base off hoff inb T ρ c, Acc.add_α, hal, hk.acc, hI.acc]
    congr 1
    apply Finset.sum_congr rfl
    intro k _
    rw [hp]

theorem chunk_main (I : Ins Ideal) (i : Fin 2) (base : ℕ) (off : Fin 2 → ℕ)
    (hoff : off = ![base, 0]) (inb : ∀ a, off a + S2048x128.size a ≤ S16640x128.size a) (A : Acc)
    (S : Mem Ideal) (hI : Inv I A S) (hs : Scored I (W := 2048) (le_refl _) i base S) :
    Inv I (A.add I base 2048) (accDo I i off inb (blocksDo (mainRowDo i) 15 (by decide) S))
    ∧ (accDo I i off inb (blocksDo (mainRowDo i) 15 (by decide) S)).s = S.s :=
  chunk_main_of I i base off hoff inb A S _ hI hs (mainRows_keep i S) (mainRows_done i S)

/-- The chunk of the last 256 keys, from what its rows left in `T`. -/
theorem chunk_tail_of (I : Ins Ideal) (A : Acc)
    (S T : Mem Ideal) (hI : Inv I A S) (hs : Scored I (W := 256) (by decide) 1 16384 S)
    (hk : Keeps S T) (hd : ∀ ρ, Done (W := 256) (by decide) 1 S T ρ) :
    Inv I (A.add I 16384 256) (tailAccDo I T) ∧ (tailAccDo I T).s = S.s := by
  obtain ⟨hm, hal, hp⟩ := chunk_rows (by decide) I 1 16384 A S T hI hs hd
  refine ⟨⟨fun ρ d => ?_, hm, fun ρ c => ?_⟩, hk.s⟩
  · exact (congrFun hk.qs (ix2 ρ d)).trans (hI.qs ρ d)
  · rw [tailAccDo_acc I T ρ c, Acc.add_α, hal, hk.acc, hI.acc]
    congr 1
    apply Finset.sum_congr rfl
    intro k _
    rw [hp]

theorem chunk_tail (I : Ins Ideal) (A : Acc)
    (S : Mem Ideal) (hI : Inv I A S) (hs : Scored I (W := 256) (by decide) 1 16384 S) :
    Inv I (A.add I 16384 256) (tailAccDo I (blocksDo tailRowDo 15 (by decide) S))
    ∧ (tailAccDo I (blocksDo tailRowDo 15 (by decide) S)).s = S.s :=
  chunk_tail_of I A S _ hI hs (tailRows_keep S) (tailRows_done S)

end Cert.Proof.Flash
-- ==== Proof.Whole.lean ====
/-
The flash-attention body as a whole, over the extended reals: scores, trips, and the output block as
the quotient of the sums of Chunks.lean.
-/
module

public import proofs.«01_k».proof.Proof.Online

@[expose] public section

noncomputable section

namespace Cert.Proof.Flash

open Idealize.ShloMosaic
open Cert.KernelIdeal Cert.KernelIdeal.Gen
open VecWindow (window put)

/-! ### Scores -/

theorem k_window {W : ℕ} (k : Vec Ideal S128x16640 .bf16) (base : ℕ) (off : Fin 2 → ℕ)
    (hoff : off = ![0, base])
    (inb : ∀ a, off a + (![128, W] : Fin 2 → ℕ) a ≤ S128x16640.size a) (d : Fin 128) (j : Fin W) :
    window k off ![128, W] inb (ix2 d j) = k (ix2 d (key (base + j.val))) := by
  subst hoff
  have hb : base + W ≤ 16640 := inb 1
  exact win2 k 0 base inb d (key (base + j.val)) d j (Nat.zero_add _).symm
    (key_val _ (by have := j.isLt; omega))

theorem slot_put {W : ℕ} (hW : W ≤ 2048) (s : Vec Ideal S2x1024x2048 .f32) (i : Fin 2)
    (w : (⟨3, ![1, 1024, W]⟩ : Shape).Idx → EReal) (ρ : Fin 1024) (k : Fin W) :
    put (s := S2x1024x2048) s ![i.val, 0, 0] ![1, 1024, W] w (ix3 i ρ (at' hW k)) = w (ix3 0 ρ k) :=
  put3_in s i.val 0 0 w i ρ (at' hW k) 0 ρ k rfl (Nat.zero_add _).symm (Nat.zero_add _).symm

theorem slot_other {W : ℕ} (s : Vec Ideal S2x1024x2048 .f32) (i j : Fin 2) (hij : j ≠ i)
    (w : (⟨3, ![1, 1024, W]⟩ : Shape).Idx → EReal) (ρ : Fin 1024) (k : Fin 2048) :
    put (s := S2x1024x2048) s ![i.val, 0, 0] ![1, 1024, W] w (ix3 j ρ k) = s (ix3 j ρ k) :=
  put3_slot s i.val 0 0 w j ρ k (by
    have : j.val ≠ i.val := fun h => hij (Fin.ext h)
    omega)

theorem score_main (I : Ins Ideal) (i : Fin 2) (base : ℕ) (off : Fin 2 → ℕ)
    (hoff : off = ![0, base]) (inb : ∀ a, off a + S128x2048.size a ≤ S128x16640.size a) (A : Acc)
    (S : Mem Ideal) (hI : Inv I A S) :
    Inv I A (scoreDo I i off inb S)
    ∧ Scored I (W := 2048) (le_refl _) i base (scoreDo I i off inb S)
    ∧ ∀ (W : ℕ) (hW : W ≤ 2048) (j : Fin 2) (b : ℕ), j ≠ i → Scored I hW j b S →
        Scored I hW j b (scoreDo I i off inb S) := by
  refine ⟨⟨hI.qs, hI.m, hI.acc⟩, fun ρ k => ?_, fun W hW j b hj h ρ k => ?_⟩
  · refine (slot_put (le_refl _) S.s i _ ρ k).trans ?_
    rw [scores_apply]
    refine Finset.sum_congr rfl fun d _ => ?_
    exact congrArg₂ (fun x y : EReal => x * y) ((whole_window S.qs _ ρ d).trans (hI.qs ρ d))
      (k_window I.k base off hoff inb d k)
  · exact (slot_other S.s i j hj _ ρ (at' hW k)).trans (h ρ k)

theorem score_tail (I : Ins Ideal) (A : Acc) (S : Mem Ideal) (hI : Inv I A S) :
    Inv I A (tailScoreDo I S) ∧ Scored I (W := 256) (by decide) 1 16384 (tailScoreDo I S) := by
  refine ⟨⟨hI.qs, hI.m, hI.acc⟩, fun ρ k => ?_⟩
  refine (slot_put (by decide) S.s 1 _ ρ k).trans ?_
  rw [tailScores_apply]
  refine Finset.sum_congr rfl fun d _ => ?_
  exact congrArg₂ (fun x y : EReal => x * y) ((whole_window S.qs _ ρ d).trans (hI.qs ρ d))
    (k_window I.k 16384 ![0, 16384] rfl _ d k)

/-! ### Start, trips, quotient -/

theorem scale_at (I : Ins Ideal) (r : Fin 4) (S : Mem Ideal) (ρ : Fin 1024) (d : Fin 128)
    (h : ρ.val / 256 = r.val) : ((scaleDo I r S).qs (ix2 ρ d) : EReal) = qsv I ρ d := by
  have hr : ρ.val % 256 < 256 := Nat.mod_lt _ (by decide)
  refine (put2_in S.qs (256 * r.val) 0 _ ρ d ⟨ρ.val % 256, hr⟩ d
    (by show ρ.val = 256 * r.val + ρ.val % 256; omega) (Nat.zero_add _).symm).trans ?_
  refine (scaled_apply _ ⟨ρ.val % 256, hr⟩ d).trans ?_
  refine congrArg (fun x : EReal => x * kap) ?_
  exact win2 I.q 0 (128 * r.val) (headIn r) ⟨ρ.val % 256, by omega⟩
    ⟨128 * (ρ.val / 256) + d.val, by omega⟩ ⟨ρ.val % 256, hr⟩ d (Nat.zero_add _).symm
    (by show 128 * (ρ.val / 256) + d.val = 128 * r.val + d.val; omega)

theorem scale_off (I : Ins Ideal) (r : Fin 4) (S : Mem Ideal) (ρ : Fin 1024) (d : Fin 128)
    (h : ρ.val / 256 ≠ r.val) : (scaleDo I r S).qs (ix2 ρ d) = S.qs (ix2 ρ d) :=
  put2_row S.qs (256 * r.val) 0 _ ρ d (by omega)

theorem start_inv (I : Ins Ideal) (S : Mem Ideal) :
    Inv I Acc.start (startDo (scaleDo I 3 (scaleDo I 2 (scaleDo I 1 (scaleDo I 0 S))))) := by
  refine ⟨fun ρ d => ?_, fun ρ l => ?_, fun ρ c => ?_⟩
  · show ((scaleDo I 3 (scaleDo I 2 (scaleDo I 1 (scaleDo I 0 S)))).qs (ix2 ρ d) : EReal) = _
    by_cases h3 : ρ.val / 256 = 3
    · exact scale_at I 3 _ ρ d h3
    rw [scale_off I 3 _ ρ d h3]
    by_cases h2 : ρ.val / 256 = 2
    · exact scale_at I 2 _ ρ d h2
    rw [scale_off I 2 _ ρ d h2]
    by_cases h1 : ρ.val / 256 = 1
    · exact scale_at I 1 _ ρ d h1
    rw [scale_off I 1 _ ρ d h1]
    exact scale_at I 0 _ ρ d (by show ρ.val / 256 = 0; omega)
  · exact (whole_put _ _ ρ l).trans (startMax_apply ρ l)
  · exact (whole_put _ _ ρ c).trans (startAcc_apply ρ c)

theorem before_inv (I : Ins Ideal) (S : Mem Ideal) :
    Inv I (accTo I 0) (beforeDo I S) ∧ Scored I (W := 2048) (le_refl _) 0 0 (beforeDo I S) := by
  have h0 := start_inv I S
  obtain ⟨h1, s1⟩ := score_tail I _ _ h0
  obtain ⟨h2, s2, k2⟩ := score_main I 0 0 ![0, 0] rfl inb_S128x16640_S128x2048_0_0 _ _ h1
  obtain ⟨h3, e⟩ := chunk_tail I _ _ h2 (k2 256 (by decide) 1 16384 (by decide) s1)
  refine ⟨h3, fun ρ k => ?_⟩
  exact (congrFun e _).trans (s2 ρ k)

theorem trip_inv (I : Ins Ideal) (c : Fin k0_t1_loop.trips) (A : Acc) (S : Mem Ideal)
    (hI : Inv I A S) (hs : Scored I (W := 2048) (le_refl _) 0 (4096 * c.val) S) :
    Inv I ((A.add I (4096 * c.val) 2048).add I (4096 * c.val + 2048) 2048) (tripDo I c S)
    ∧ Scored I (W := 2048) (le_refl _) 0 (4096 * min (c.val + 1) 3) (tripDo I c S) := by
  obtain ⟨h1, s1, k1⟩ := score_main I 1 _ _ (k0_off1_eq c) (k0_off1_inb c) _ _ hI
  obtain ⟨h2, e2⟩ := chunk_main I 0 _ _ (k0_off2_eq c) (k0_off2_inb c) _ _ h1
    (k1 2048 (le_refl _) 0 _ (by decide) hs)
  obtain ⟨h3, s3, k3⟩ := score_main I 0 _ _ (k0_off3_eq c) (k0_off3_inb c) _ _ h2
  obtain ⟨h4, e4⟩ := chunk_main I 1 _ _ (k0_off4_eq c) (k0_off4_inb c) _ _ h3
    (k3 2048 (le_refl _) 1 _ (by decide) fun ρ k => (congrFun e2 _).trans (s1 ρ k))
  exact ⟨h4, fun ρ k => (congrFun e4 _).trans (s3 ρ k)⟩

theorem trips_four : k0_t1_loop.trips = 4 := by decide +kernel

theorem trips_inv (I : Ins Ideal) (S : Mem Ideal) (n : ℕ) (hn : n ≤ 4) :
    Inv I (accTo I n) (tripsDo I n (beforeDo I S))
    ∧ Scored I (W := 2048) (le_refl _) 0 (4096 * min n 3) (tripsDo I n (beforeDo I S)) := by
  induction n with
  | zero => exact before_inv I S
  | succ n ih =>
    obtain ⟨h, s⟩ := ih (by omega)
    have hn' : n < k0_t1_loop.trips := by rw [trips_four]; omega
    have e : tripsDo I (n + 1) (beforeDo I S) = tripDo I ⟨n, hn'⟩ (tripsDo I n (beforeDo I S)) :=
      dif_pos hn'
    rw [e]
    have e3 : min n 3 = n := by omega
    rw [e3] at s
    exact trip_inv I ⟨n, hn'⟩ _ _ h s

/-- Where head `r`'s quotient lands, and what it is. -/
theorem out_at (A : Acc) (r : Fin 4) (S : Mem Ideal)
    (hacc : ∀ (ρ : Fin 1024) (c : Fin 256), (S.acc (ix2 ρ c) : EReal) = A.α ρ c)
    (y : Fin 256) (x : Fin 512) (h : x.val / 128 = r.val) :
    ((outDo r S).o (ix2 y x) : EReal)
      = Ideal.div (A.α ⟨256 * (x.val / 128) + y.val, by omega⟩ ⟨x.val % 128, by omega⟩)
          (A.α ⟨256 * (x.val / 128) + y.val, by omega⟩ ⟨128 + x.val % 128, by omega⟩) := by
  have hx : x.val % 128 < 128 := Nat.mod_lt _ (by decide)
  have hy : 256 * (x.val / 128) + y.val < 1024 := by omega
  have hr : 256 * (x.val / 128) + y.val = 256 * r.val + y.val := by omega
  refine (put2_in S.o 0 (128 * r.val) _ y x y ⟨x.val % 128, hx⟩ (Nat.zero_add _).symm
    (by show x.val = 128 * r.val + x.val % 128; omega)).trans ?_
  refine (quot_apply _ _ y ⟨x.val % 128, hx⟩).trans ?_
  refine congrArg₂ Ideal.div (Eq.trans ?_ (hacc _ _)) (Eq.trans ?_ (hacc _ _))
  · exact win2 S.acc (256 * r.val) (128 * (0 : Fin 2).val) (sumIn r 0)
      ⟨256 * (x.val / 128) + y.val, hy⟩ ⟨x.val % 128, by omega⟩ y ⟨x.val % 128, hx⟩ hr
      (Nat.zero_add _).symm
  · exact win2 S.acc (256 * r.val) (128 * (1 : Fin 2).val) (sumIn r 1)
      ⟨256 * (x.val / 128) + y.val, hy⟩ ⟨128 + x.val % 128, by omega⟩ y ⟨x.val % 128, hx⟩ hr rfl

theorem out_off (r : Fin 4) (S : Mem Ideal) (y : Fin 256) (x : Fin 512) (h : x.val / 128 ≠ r.val) :
    (outDo r S).o (ix2 y x) = S.o (ix2 y x) :=
  put2_col S.o 0 (128 * r.val) _ y x (by omega)

theorem hout (I : Ins Ideal) (S : Mem Ideal) : (flashDo I S).o = out I := by
  have e : k0_t1_loop.trips = 4 := trips_four
  have hI := (trips_inv I S 4 (le_refl _)).1
  unfold flashDo
  rw [e]
  generalize tripsDo I 4 (beforeDo I S) = T at *
  funext z
  rw [eq_ix2 z]
  generalize z 0 = y
  generalize z 1 = x
  show ((outDo 3 (outDo 2 (outDo 1 (outDo 0 T)))).o (ix2 y x) : EReal) = _
  change Fin 256 at y
  change Fin 512 at x
  by_cases h3 : x.val / 128 = 3
  · exact out_at (accTo I 4) 3 (outDo 2 (outDo 1 (outDo 0 T))) hI.acc y x h3
  rw [out_off 3 _ y x h3]
  by_cases h2 : x.val / 128 = 2
  · exact out_at (accTo I 4) 2 (outDo 1 (outDo 0 T)) hI.acc y x h2
  rw [out_off 2 _ y x h2]
  by_cases h1 : x.val / 128 = 1
  · exact out_at (accTo I 4) 1 (outDo 0 T) hI.acc y x h1
  rw [out_off 1 _ y x h1]
  exact out_at (accTo I 4) 0 T hI.acc y x (by show x.val / 128 = 0; omega)

end Cert.Proof.Flash
-- ==== Proof.Trip.lean ====
module

public import proofs.«01_k».proof.Proof.Body

@[expose] public section

namespace Cert.Proof.Flash

open Idealize.ShloMosaic Idealize.SL.Sem Cert.KernelIdeal Cert.KernelIdeal.Gen

variable {F : FTy → Type} [FloatOps F] [Named F]

set_option maxRecDepth 65536 in
set_option maxHeartbeats 0 in
/-- The printed trip is `trip`. -/
theorem trip_eq (B : Bufs) (i : grid0.Coords) (v504 : FVec F S256x256 .bf16)
    (v507 : FVec F S1024x256 .f32) (c : Fin k0_t1_loop.trips) :
    k0_t1_body (F := F) i B.q B.hq B.k B.hk B.v B.hv B.o B.ho B.qs B.hqs B.s B.hs B.p B.hp
      B.al B.hal B.m B.hm B.acc B.hacc v504 v507 c () = trip B c := by
  have h : trip (F := F) B c = trip B c := rfl
  conv_rhs at h => simp only [trip, blocks, scoreStep, accStep, rowBlock, bind_assoc, pure_bind]
  rw [h]; clear h
  simp only [k0_t1_body, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, bind_assoc, pure_bind]
  rfl

set_option maxRecDepth 65536 in
set_option maxHeartbeats 0 in
/-- The printed body is `flash`. -/
theorem flash_eq (B : Bufs) (i : grid0.Coords) :
    cc0_gqa_flash_attention (F := F) i B.q B.hq B.k B.hk B.v B.hv B.o B.ho B.qs B.hqs B.s B.hs
      B.p B.hp B.al B.hal B.m B.hm B.acc B.hacc = flash B := by
  have hl : ∀ v504 v507, k0_t1_body (F := F) i B.q B.hq B.k B.hk B.v B.hv B.o B.ho B.qs B.hqs
      B.s B.hs B.p B.hp B.al B.hal B.m B.hm B.acc B.hacc v504 v507 = fun c _ => trip B c :=
    fun v504 v507 => funext fun c => funext fun _ => trip_eq B i v504 v507 c
  have h : flash (F := F) B = flash B := rfl
  conv_rhs at h => simp only [flash, before, finish, scaleStep, startStep, tailScoreStep,
    scoreStep, tailAccStep, outStep, blocks, rowBlock, bind_assoc, pure_bind]
  rw [h]; clear h
  simp only [cc0_gqa_flash_attention_eq_skeleton, cc0_gqa_flash_attention_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel, k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel,
    bind_assoc, pure_bind, hl]
  rfl

end Cert.Proof.Flash
-- ==== Proof.Run.lean ====
/-
The run of the flash-attention program: every grid point fills its output block with what
`Flash.flash` leaves there, so the program ends with the output array a function of its arguments.
-/
module

public import proofs.«01_k».proof.Proof.Steps
public import proofs.«01_k».proof.Proof.Trip
public import proofs.«01_k».proof.Proof.Gen.KernelIdeal.Frame
public import Idealize.ShloMosaic.Lib.Claim

@[expose] public section

noncomputable section

namespace Cert.Proof.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A buffer known to hold `X` is one held at `X`'s own contents, -/
theorem owns_pt (c : Dev nD) {s : Shape} {e : EltTy} (r : Memref sig .tc .vmem s e) (X : Vec F s e) :
    (owns (c : Thread nD τ) r fullShare X : sProp 𝕄) ⊢ pt c r X := by
  unfold owns
  iintro ⟨%f, %hf, H⟩
  iapply (pointsTo_rep_of_read (c : Thread nD τ) r f fullShare X hf)
  iexact H

/-- and back. -/
theorem pt_owns (c : Dev nD) {s : Shape} {e : EltTy} (r : Memref sig .tc .vmem s e) (X : Vec F s e) :
    (pt c r X : sProp 𝕄) ⊢ owns (c : Thread nD τ) r fullShare X := by
  unfold owns
  iintro H
  iexists _
  isplitr
  swap; · iexact H
  ipureintro
  exact View.read_rep _ _

/-- A scratch buffer held at anything. -/
abbrev anyAt (c : Dev nD) (b : Ref sig .tc) : sProp 𝕄 :=
  iprop(∃ f : Buf (Elt F) ((c : Thread nD τ).loc b), ((c : Thread nD τ).loc b) ↦{fullShare} f)

theorem any_owns (c : Dev nD) (b : Ref sig .tc) :
    (anyAt c b : sProp 𝕄) ⊢ iprop(∃ X, owns (c : Thread nD τ) (Memref.whole b) fullShare X) := by
  iintro ⟨%f, H⟩
  iexists f
  rw [owns_whole_eq]
  iexists f
  isplitr; · ipureintro; rfl
  iexact H

theorem owns_any (c : Dev nD) (b : Ref sig .tc) (X : b.ty.Contents (Elt F)) :
    (owns (c : Thread nD τ) (Memref.whole b) fullShare X : sProp 𝕄) ⊢ anyAt c b := by
  rw [owns_whole_eq]
  iintro ⟨%f, -, H⟩
  iexists f
  iexact H

variable (out : Ins F → Vec F S256x512 .bf16) (hout : ∀ I S, (flashDo I S).o = out I)

/-- The input blocks of grid point `t`. -/
def insAt (c : Dev nD) (t : Fin cfg0.N) : Ins F := ⟨iblk m c 0 t, iblk m c 1 t, iblk m c 2 t⟩

/-- The proof data: inputs stay at their blocks, the output block is `out` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out (insAt m c t)
  Φ _ := Pipeline.ΦA spec0 c
  q _ := fullShare
  owed _ := 0

theorem A_eq (c : Dev nD) (w : Fin cfg0.W) :
    (dats m out 0 c).A w = V m c (Pipeline.arrRef spec0 w) := by dsimp only [dats]
theorem after0_0 (c : Dev nD) (t : Fin cfg0.N) : (dats m out 0 c).after 0 t = iblk m c 0 t := by
  dsimp only [dats]
theorem after0_1 (c : Dev nD) (t : Fin cfg0.N) : (dats m out 0 c).after 1 t = iblk m c 1 t := by
  dsimp only [dats]
theorem after0_2 (c : Dev nD) (t : Fin cfg0.N) : (dats m out 0 c).after 2 t = iblk m c 2 t := by
  dsimp only [dats]
theorem after0_3 (c : Dev nD) (t : Fin cfg0.N) : (dats m out 0 c).after 3 t = out (insAt m c t) := by
  dsimp only [dats]

theorem before0_0 (c : Dev nD) (t : Fin cfg0.N) (d) : (dats m out 0 c).before 0 t d = iblk m c 0 t :=
  before0_0_of m (dats m out 0 c) (A_eq m out c 0) (after0_0 m out c) t d
theorem before0_1 (c : Dev nD) (t : Fin cfg0.N) (d) : (dats m out 0 c).before 1 t d = iblk m c 1 t :=
  before0_1_of m (dats m out 0 c) (A_eq m out c 1) (after0_1 m out c) t d
theorem before0_2 (c : Dev nD) (t : Fin cfg0.N) (d) : (dats m out 0 c).before 2 t d = iblk m c 2 t :=
  before0_2_of m (dats m out 0 c) (A_eq m out c 2) (after0_2 m out c) t d

/-- The body's buffers at grid point `t`. -/
def bufsAt (t : Fin cfg0.N) : Bufs where
  q := win0_0.stage (cfg0.slots t 0)
  hq := hstage0_0 ((cfg0.slots t 0).cast nbuf0_0)
  k := win0_1.stage (cfg0.slots t 1)
  hk := hstage0_1 ((cfg0.slots t 1).cast nbuf0_1)
  v := win0_2.stage (cfg0.slots t 2)
  hv := hstage0_2 ((cfg0.slots t 2).cast nbuf0_2)
  o := win0_3.stage (cfg0.slots t 3)
  ho := hstage0_3 ((cfg0.slots t 3).cast nbuf0_3)
  qs := Memref.whole cc0_scratch0
  hqs := Memref.isWhole_whole _
  s := Memref.whole cc0_scratch1
  hs := Memref.isWhole_whole _
  p := Memref.whole cc0_scratch2
  hp := Memref.isWhole_whole _
  al := Memref.whole cc0_scratch3
  hal := Memref.isWhole_whole _
  m := Memref.whole cc0_scratch4
  hm := Memref.isWhole_whole _
  acc := Memref.whole cc0_scratch5
  hacc := Memref.isWhole_whole _

theorem bodyAt0_eq (t : Fin cfg0.N) : bodyAt0 (F := F) t = flash (bufsAt t) := by
  rw [← flash_eq (bufsAt t) (grid0.coords t)]
  rfl

def bodyPre (c : Dev nD) (t : Fin cfg0.N) : sProp 𝕄 :=
  iprop((dats m out 0 c).Φ t.castSucc ∗ (dats m out 0 c).owesAt () t.castSucc
    ∗ (∃ d, owns (c : Thread nD τ) (st0_0 t) fullShare ((dats m out 0 c).before 0 t d))
    ∗ (∃ d, owns (c : Thread nD τ) (st0_1 t) fullShare ((dats m out 0 c).before 1 t d))
    ∗ (∃ d, owns (c : Thread nD τ) (st0_2 t) fullShare ((dats m out 0 c).before 2 t d))
    ∗ (∃ d, owns (c : Thread nD τ) (st0_3 t) fullShare ((dats m out 0 c).before 3 t d)))

def bodyPost (c : Dev nD) (t : Fin cfg0.N) : sProp 𝕄 :=
  iprop((dats m out 0 c).Φ t.succ ∗ (dats m out 0 c).owesAt () t.succ
    ∗ owns (c : Thread nD τ) (st0_0 t) fullShare ((dats m out 0 c).after 0 t)
    ∗ owns (c : Thread nD τ) (st0_1 t) fullShare ((dats m out 0 c).after 1 t)
    ∗ owns (c : Thread nD τ) (st0_2 t) fullShare ((dats m out 0 c).after 2 t)
    ∗ owns (c : Thread nD τ) (st0_3 t) fullShare ((dats m out 0 c).after 3 t))

include hout in
/-- The body at any point. -/
theorem body_does (c : Dev nD) (t : Fin cfg0.N) :
    bodyPre m out c t ⊢ wp frame (wpE (defs₀ (F := F)) Variants.none c none) Set.univ (bodyAt0 t)
      (fun _ => bodyPost m out c t) := by
  unfold bodyPre bodyPost
  rw [bodyAt0_eq]
  simp only [before0_0, before0_1, before0_2]
  rw [show (dats m out 0 c).Φ t.succ = Pipeline.ΦA spec0 c from rfl,
    show (dats m out 0 c).Φ t.castSucc = Pipeline.ΦA spec0 c from rfl,
    show (dats m out 0 c).owesAt () t.succ = (dats m out 0 c).owesAt () t.castSucc from rfl,
    after0_0, after0_1, after0_2, after0_3]
  unfold Pipeline.ΦA
  rw [scopedRest0_eq]
  iintro ⟨⟨⟨S0, S1, S2, S3, S4, S5⟩, Hr⟩, Ho, ⟨%d0, H0⟩, ⟨%d1, H1⟩, ⟨%d2, H2⟩, ⟨%d3, H3⟩⟩
  ihave ⟨%X0, S0⟩ := (any_owns c cc0_scratch0) $$ S0
  ihave ⟨%X1, S1⟩ := (any_owns c cc0_scratch1) $$ S1
  ihave ⟨%X2, S2⟩ := (any_owns c cc0_scratch2) $$ S2
  ihave ⟨%X3, S3⟩ := (any_owns c cc0_scratch3) $$ S3
  ihave ⟨%X4, S4⟩ := (any_owns c cc0_scratch4) $$ S4
  ihave ⟨%X5, S5⟩ := (any_owns c cc0_scratch5) $$ S5
  iapply ((does_flash (bufsAt t) (insAt m c t)).run c Variants.none none Set.univ
    ⟨(dats m out 0 c).before 3 t d3, X0, X1, X2, X3, X4, X5⟩ _)
  unfold own
  isplitl [H0 H1 H2 H3 S0 S1 S2 S3 S4 S5]
  · isplitl [H0]; · iapply (owns_pt c _ _); iexact H0
    isplitl [H1]; · iapply (owns_pt c _ _); iexact H1
    isplitl [H2]; · iapply (owns_pt c _ _); iexact H2
    isplitl [H3]; · iapply (owns_pt c _ _); iexact H3
    isplitl [S0]; · iapply (owns_pt c _ _); iexact S0
    isplitl [S1]; · iapply (owns_pt c _ _); iexact S1
    isplitl [S2]; · iapply (owns_pt c _ _); iexact S2
    isplitl [S3]; · iapply (owns_pt c _ _); iexact S3
    isplitl [S4]; · iapply (owns_pt c _ _); iexact S4
    iapply (owns_pt c _ _); iexact S5
  rw [hout]
  iintro ⟨H0, H1, H2, H3, S0, S1, S2, S3, S4, S5⟩
  isplitl [S0 S1 S2 S3 S4 S5 Hr]
  · isplitr [Hr]
    · isplitl [S0]; · iapply (owns_any c cc0_scratch0 _); iapply (pt_owns c _ _); iexact S0
      isplitl [S1]; · iapply (owns_any c cc0_scratch1 _); iapply (pt_owns c _ _); iexact S1
      isplitl [S2]; · iapply (owns_any c cc0_scratch2 _); iapply (pt_owns c _ _); iexact S2
      isplitl [S3]; · iapply (owns_any c cc0_scratch3 _); iapply (pt_owns c _ _); iexact S3
      isplitl [S4]; · iapply (owns_any c cc0_scratch4 _); iapply (pt_owns c _ _); iexact S4
      iapply (owns_any c cc0_scratch5 _); iapply (pt_owns c _ _); iexact S5
    · iexact Hr
  isplitl [Ho]; · iexact Ho
  isplitl [H0]; · iapply (pt_owns c _ _); iexact H0
  isplitl [H1]; · iapply (pt_owns c _ _); iexact H1
  isplitl [H2]; · iapply (pt_owns c _ _); iexact H2
  iapply (pt_owns c _ _); iexact H3

theorem defs₀_row (t : Fin cfg0.N) :
    defs₀ (F := F) .tc cfg0.body (cfg0.bodyArgs t (cfg0.slots t)) = bodyAt0 t := by
  unfold defs₀; rw [Defs.onTc_tc]

include hout in
theorem body_obligation (c : Dev nD) :
    BodyObligation (dats (F := F) m out 0 c) (defs₀ (F := F)) Variants.none () Set.univ := fun t => by
  rw [bigSep_W0, bigSep_W0, defs₀_row]
  exact triple_restated (body_does m out hout c t) rfl .rfl fun _ => .rfl

include hout in
set_option backward.isDefEq.respectTransparency.types false in
/-- Every execution ends with the output array assembled from the blocks, everything else as it was
    and the counters at zero. -/
theorem run_main : θ_run defs (onTc (τ := τ) (main (F := F))) (s₀ m ρ)
    (fun r => Pipeline.FramePost cfgs (dats m out) 0 (V m) r ∧ r.2.sem = fun _ => 0) :=
  Pipeline.θ_run_frame (Q' := _) cfgs (dats m out) (0 : Fin 1) launch0 defs₀ Variants.none m ρ main
    (hbody := fun c => (body_obligation m out hout c).loose)
    (hshare := fun c => (dats m out 0 c).share_full fun _ => rfl)
    (howed := fun _ _ => rfl) (V := V m) (hmain := hmain m Variants.none) (hA := A_eq m out)
    (hΦ := fun _ _ => rfl)

include hout in
/-- The arguments end unchanged and the counters at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m out) (A_eq m out)
      ((θ_run defs _ _).mono (fun _ h => h.1) (run_main m ρ out hout)))
    ((θ_run defs _ _).mono (fun _ h => h.2) (run_main m ρ out hout))

end Cert.Proof.Flash
-- ==== Proof.Array.lean ====
module

public import proofs.«01_k».proof.Proof.Result
public import proofs.«01_k».proof.Proof.Whole
public import proofs.«01_k».proof.Proof.Run
public import Idealize.ShloMosaic.Lib.Pipeline.ValueKit

@[expose] public section

set_option backward.proofsInPublic true

/-!
The array the program leaves: every grid point writes its block of the reference's result.
-/

noncomputable section

namespace Cert.Proof.Flash

open Idealize.ShloMosaic Idealize.ShloMosaic.TcCoe Idealize.ShloMosaic.Tactic
open Idealize.SL.Sem
open Cert.KernelIdeal Cert.KernelIdeal.Gen

variable (m : (ℓ : Loc nD τ sig) → Buf (Elt Ideal) ℓ)

/-- The arguments of a device. -/
abbrev argQ (c : Dev nD) : Vec Ideal S16640x4096 .bf16 := m ((c : Thread nD τ).loc main_arg0)
abbrev argK (c : Dev nD) : Vec Ideal S16640x1024 .bf16 := m ((c : Thread nD τ).loc main_arg1)
abbrev argV (c : Dev nD) : Vec Ideal S16640x6144 .bf16 := m ((c : Thread nD τ).loc main_arg2)

theorem idx0 (t : Fin cfg0.N) :
    win0_0.index t = ![(grid0.coords t 1).val, (grid0.coords t 0).val] := by
  revert t; decide +kernel
theorem idx1 (t : Fin cfg0.N) : win0_1.index t = ![(grid0.coords t 0).val, 0] := by
  revert t; decide +kernel
theorem idx2 (t : Fin cfg0.N) : win0_2.index t = ![0, 40 + (grid0.coords t 0).val] := by
  revert t; decide +kernel
theorem idx3 (t : Fin cfg0.N) :
    win0_3.index t = ![(grid0.coords t 1).val, (grid0.coords t 0).val] := by
  revert t; decide +kernel

theorem q_block (c : Dev nD) (t : Fin cfg0.N) (a : Fin 256) (b : Fin 512) :
    (insAt m c t).q (ix2 a b) = argQ m c (ix2 ⟨256 * (grid0.coords t 1).val + a.val, by
        have : (grid0.coords t 1).val < 64 := (grid0.coords t 1).isLt; omega⟩
      ⟨512 * (grid0.coords t 0).val + b.val, by
        have : (grid0.coords t 0).val < 8 := (grid0.coords t 0).isLt; omega⟩) := by
  show iblk m c 0 t (ix2 a b) = _
  blk_ext [iblk, V_main_arg0, idx0 t]

theorem k_block (c : Dev nD) (t : Fin cfg0.N) (d : Fin 128) (n : Fin 16640) :
    (insAt m c t).k (ix2 d n) = argK m c (ix2 n ⟨128 * (grid0.coords t 0).val + d.val, by
        have : (grid0.coords t 0).val < 8 := (grid0.coords t 0).isLt; omega⟩) := by
  show iblk m c 1 t (ix2 d n) = _
  blk_ext! [iblk, V, idx1 t]

theorem v_block (c : Dev nD) (t : Fin cfg0.N) (n : Fin 16640) (d : Fin 128) :
    (insAt m c t).v (ix2 n d) = argV m c (ix2 n ⟨5120 + 128 * (grid0.coords t 0).val + d.val, by
        have : (grid0.coords t 0).val < 8 := (grid0.coords t 0).isLt; omega⟩) := by
  show iblk m c 2 t (ix2 n d) = _
  blk_ext [iblk, V_main_arg2, idx2 t]

/-- The reference's result at a device's arguments. -/
def result (c : Dev nD) : Vec Ideal S16384x4096 .bf16 :=
  Cert.ReferenceIdeal.Read.val_main_v26 (F := Ideal) (argQ m c) (argK m c) (argV m c)

/-- An entry of the block of a grid point. -/
theorem block_eq (c : Dev nD)
    (hq : ∀ y, (argQ m c y : EReal) = ((argQ m c y : EReal).toReal : EReal))
    (hk : ∀ y, (argK m c y : EReal) = ((argK m c y : EReal).toReal : EReal))
    (t : Fin cfg0.N) (y : S256x512.Idx) :
    out (insAt m c t) y = result m c (ix2 ⟨256 * (grid0.coords t 1).val + (y 0).val, by
        have : (grid0.coords t 1).val < 64 := (grid0.coords t 1).isLt
        have : (y 0).val < 256 := (y 0).isLt
        omega⟩
      ⟨512 * (grid0.coords t 0).val + (y 1).val, by
        have : (grid0.coords t 0).val < 8 := (grid0.coords t 0).isLt
        have : (y 1).val < 512 := (y 1).isLt
        omega⟩) := by
  have hy : y = ix2 (n0 := 256) (n1 := 512) (y 0) (y 1) := by
    funext a; match a with | ⟨0, _⟩ => rfl | ⟨1, _⟩ => rfl
  exact (congrArg (out (insAt m c t)) hy).trans
    (out_eq (argQ m c) (argK m c) (argV m c) hq hk (insAt m c t)
      (grid0.coords t 0) (grid0.coords t 1)
      (fun a b => q_block m c t a b) (fun d n => k_block m c t d n) (fun n d => v_block m c t n d)
      (y 0) (y 1))

/-- An array every grid point writes its block of is the array the program leaves. -/
theorem arr_of (c : Dev nD) (G : Vec Ideal S16384x4096 .bf16)
    (hG : ∀ (t : Fin cfg0.N) (y : S256x512.Idx),
      out (insAt m c t) y = G (ix2 ⟨256 * (grid0.coords t 1).val + (y 0).val, by
        have : (grid0.coords t 1).val < 64 := (grid0.coords t 1).isLt
        have : (y 0).val < 256 := (y 0).isLt
        omega⟩
      ⟨512 * (grid0.coords t 0).val + (y 1).val, by
        have : (grid0.coords t 0).val < 8 := (grid0.coords t 0).isLt
        have : (y 1).val < 512 := (y 1).isLt
        omega⟩)) :
    (dats m out 0 c).arrAt 3 (cfgs 0).N = G := by
  refine (dats m out 0 c).arrAt_eq_of_covers 3 _ (by decide +kernel) fun t hf y => ?_
  blk_simp
  rw [after0_3]
  refine (hG t y).trans ?_
  clear hG
  blk_ext [idx3 t]

theorem arr_eq (c : Dev nD)
    (hq : ∀ y, (argQ m c y : EReal) = ((argQ m c y : EReal).toReal : EReal))
    (hk : ∀ y, (argK m c y : EReal) = ((argK m c y : EReal).toReal : EReal)) :
    (dats m out 0 c).arrAt 3 (cfgs 0).N = result m c :=
  arr_of m c _ (block_eq m c hq hk)

end Cert.Proof.Flash

end

end
-- ==== Proof.Bits.lean ====
/-
The run of the flash-attention program at the machine's own numbers: it ends, its arguments are
unchanged and every counter is back at zero. What it computes is not stated here.
-/
module

public import proofs.«01_k».proof.Proof.Gen.Kernel.Frame
public import proofs.«01_k».proof.Proof.Gen.Kernel.Loops
public import Idealize.ShloMosaic.Lib.Claim

@[expose] public section

set_option maxRecDepth 16384

noncomputable section

namespace Cert.Proof.Bits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer held whole with something in it. -/
abbrev some' (c : Dev nD) {s : Shape} {e : EltTy} (r : Memref sig .tc .vmem s e) : sProp 𝕄 :=
  iprop(∃ X : Vec F s e, owns (c : Thread nD τ) r fullShare X)

set_option maxHeartbeats 4000000 in
/-- The body leaves its three inputs as they are and keeps the other buffers whole. -/
theorem body_keeps (c : Dev nD) (E : Set ℕ) (i : grid0.Coords)
    (q : Memref sig .tc .vmem S256x512 .bf16) (hq : q.IsWhole)
    (k : Memref sig .tc .vmem S128x16640 .bf16) (hk : k.IsWhole)
    (v : Memref sig .tc .vmem S16640x128 .bf16) (hv : v.IsWhole)
    (o : Memref sig .tc .vmem S256x512 .bf16) (ho : o.IsWhole)
    (qs : Memref sig .tc .vmem S1024x128 .bf16) (hqs : qs.IsWhole)
    (s : Memref sig .tc .vmem S2x1024x2048 .f32) (hs : s.IsWhole)
    (p : Memref sig .tc .vmem S2x1024x2048 .bf16) (hp : p.IsWhole)
    (al : Memref sig .tc .vmem S2x1024x128 .f32) (hal : al.IsWhole)
    (mx : Memref sig .tc .vmem S1024x128 .f32) (hmx : mx.IsWhole)
    (acc : Memref sig .tc .vmem S1024x256 .f32) (hacc : acc.IsWhole)
    (X : Vec F S256x512 .bf16) (Y : Vec F S128x16640 .bf16) (Z : Vec F S16640x128 .bf16)
    (Q : PUnit → sProp 𝕄) :
    iprop(owns (c : Thread nD τ) q fullShare X ∗ owns (c : Thread nD τ) k fullShare Y
      ∗ owns (c : Thread nD τ) v fullShare Z
      ∗ some' c o ∗ some' c qs ∗ some' c s ∗ some' c p ∗ some' c al ∗ some' c mx ∗ some' c acc
      ∗ (iprop(owns (c : Thread nD τ) q fullShare X ∗ owns (c : Thread nD τ) k fullShare Y
        ∗ owns (c : Thread nD τ) v fullShare Z
        ∗ some' c o ∗ some' c qs ∗ some' c s ∗ some' c p ∗ some' c al ∗ some' c mx ∗ some' c acc)
        -∗ Q ⟨⟩))
    ⊢ wp frame (wpE (defs₀ (F := F)) Variants.none (c : Thread nD τ) none) E
      (cc0_gqa_flash_attention i q hq k hk v hv o ho qs hqs s hs p hp al hal mx hmx acc hacc) Q := by
  simp only [cc0_gqa_flash_attention_eq_skeleton]; unfold cc0_gqa_flash_attention_skel
  unfold some' owns
  iintro ⟨⟨%a0, %h0, Hq⟩, ⟨%a1, %h1, Hk⟩, ⟨%a2, %h2, Hv⟩, ⟨%_, %f0, -, Ho⟩, ⟨%_, %f1, -, Hqs⟩, ⟨%_, %f2, -, Hs⟩, ⟨%_, %f3, -, Hp⟩, ⟨%_, %f4, -, Hal⟩, ⟨%_, %f5, -, Hm⟩, ⟨%_, %f6, -, Hacc⟩, HQ⟩
  sl_exec
  sl_step
  iapply HQ
  isplitl [Hq]
  · iexists a0; isplitr; · ipureintro; exact h0
    iexact Hq
  isplitl [Hk]
  · iexists a1; isplitr; · ipureintro; exact h1
    iexact Hk
  isplitl [Hv]
  · iexists a2; isplitr; · ipureintro; exact h2
    iexact Hv
  isplitl [Ho]
  · iexists _, _; isplitr
    swap; · iexact Ho
    ipureintro; rfl
  isplitl [Hqs]
  · iexists _, _; isplitr
    swap; · iexact Hqs
    ipureintro; rfl
  isplitl [Hs]
  · iexists _, _; isplitr
    swap; · iexact Hs
    ipureintro; rfl
  isplitl [Hp]
  · iexists _, _; isplitr
    swap; · iexact Hp
    ipureintro; rfl
  isplitl [Hal]
  · iexists _, _; isplitr
    swap; · iexact Hal
    ipureintro; rfl
  isplitl [Hm]
  · iexists _, _; isplitr
    swap; · iexact Hm
    ipureintro; rfl
  iexists _, _; isplitr
  swap; · iexact Hacc
  ipureintro; rfl

/-- A scratch buffer held at anything, as a buffer held whole, -/
theorem any_some (c : Dev nD) (b : Ref sig .tc) :
    (iprop(∃ f : Buf (Elt F) ((c : Thread nD τ).loc b), ((c : Thread nD τ).loc b) ↦{fullShare} f)
      : sProp 𝕄) ⊢ iprop(∃ X, owns (c : Thread nD τ) (Memref.whole b) fullShare X) := by
  iintro ⟨%f, H⟩
  iexists f
  rw [owns_whole_eq]
  iexists f
  isplitr; · ipureintro; rfl
  iexact H

/-- and back. -/
theorem some_any (c : Dev nD) (b : Ref sig .tc) :
    (iprop(∃ X, owns (c : Thread nD τ) (Memref.whole b) fullShare X) : sProp 𝕄)
    ⊢ iprop(∃ f : Buf (Elt F) ((c : Thread nD τ).loc b), ((c : Thread nD τ).loc b) ↦{fullShare} f) := by
  have h : ∀ X : b.ty.Contents (Elt F),
      (owns (c : Thread nD τ) (Memref.whole b) fullShare X : sProp 𝕄) ⊢
        iprop(∃ f : Buf (Elt F) ((c : Thread nD τ).loc b), ((c : Thread nD τ).loc b) ↦{fullShare} f) := by
    intro X
    rw [owns_whole_eq]
    iintro ⟨%f, -, H⟩
    iexists f
    iexact H
  iintro ⟨%X, H⟩
  iapply (h X)
  iexact H

/-- The proof data: the inputs stay at their blocks; the output is not followed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => constant S256x512 .bf16 0x0000#16
  Φ _ := Pipeline.ΦA spec0 c
  q _ := fullShare
  owed _ := 0

/-- The window not followed. -/
def free (w : Fin 4) : Bool := w == 3

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by
  dsimp only [dats]
theorem after0_1 (c : Dev nD) (t : Fin cfg0.N) : (dats m 0 c).after 1 t = iblk m c 1 t := by
  dsimp only [dats]
theorem after0_2 (c : Dev nD) (t : Fin cfg0.N) : (dats m 0 c).after 2 t = iblk m c 2 t := by
  dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

/-- The body at any point. -/
theorem body_runs (c : Dev nD) (t : Fin cfg0.N) :
    bodyPre m c t ⊢ wp frame (wpE (defs₀ (F := F)) Variants.none c none) Set.univ (bodyAt0 t)
      (fun _ => bodyPost m c t) := by
  unfold bodyPre bodyPost bodyAt0
  simp only [before0_0, before0_1, before0_2]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0_0, after0_1, after0_2]
  unfold Pipeline.ΦA
  rw [scopedRest0_eq]
  iintro ⟨⟨⟨S0, S1, S2, S3, S4, S5⟩, Hr⟩, Ho, ⟨%d0, H0⟩, ⟨%d1, H1⟩, ⟨%d2, H2⟩, H3⟩
  iapply (body_keeps c Set.univ _ _ _ _ _ _ _ _ _ _ _ _ _ _ _ _ _ _ _ _ _ (iblk m c 0 t)
    (iblk m c 1 t) (iblk m c 2 t) _)
  isplitl [H0]; · iexact H0
  isplitl [H1]; · iexact H1
  isplitl [H2]; · iexact H2
  isplitl [H3]; · iexact H3
  isplitl [S0]; · iapply (any_some c cc0_scratch0); iexact S0
  isplitl [S1]; · iapply (any_some c cc0_scratch1); iexact S1
  isplitl [S2]; · iapply (any_some c cc0_scratch2); iexact S2
  isplitl [S3]; · iapply (any_some c cc0_scratch3); iexact S3
  isplitl [S4]; · iapply (any_some c cc0_scratch4); iexact S4
  isplitl [S5]; · iapply (any_some c cc0_scratch5); iexact S5
  iintro ⟨H0, H1, H2, H3, S0, S1, S2, S3, S4, S5⟩
  isplitl [S0 S1 S2 S3 S4 S5 Hr]
  · isplitr [Hr]
    · isplitl [S0]; · iapply (some_any c cc0_scratch0); iexact S0
      isplitl [S1]; · iapply (some_any c cc0_scratch1); iexact S1
      isplitl [S2]; · iapply (some_any c cc0_scratch2); iexact S2
      isplitl [S3]; · iapply (some_any c cc0_scratch3); iexact S3
      isplitl [S4]; · iapply (some_any c cc0_scratch4); iexact S4
      iapply (some_any c cc0_scratch5); iexact S5
    · iexact Hr
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ free := fun t => by
  rw [bigSep_W0, bigSep_W0, defs₀_row]
  exact triple_restated (body_runs m c t) rfl .rfl fun _ => .rfl

set_option backward.isDefEq.respectTransparency.types false in
/-- Every execution ends, the inputs as they were and the counters at zero. -/
theorem run_main : θ_run defs (onTc (τ := τ) (main (F := F))) (s₀ m ρ)
    (fun r => Pipeline.RDat.FramePost cfg0 (fun c => (dats m 0 c).toRForget free) (V m) r
      ∧ r.2.sem = fun _ => 0) :=
  Pipeline.θ_run_frame_forget (Q' := _) cfgs (dats m) (0 : Fin 1) launch0 defs₀ Variants.none free m ρ
    main (hbody := fun c => (body_obligation m c).loose)
    (hshare := fun c => (dats m 0 c).share_full fun _ => rfl)
    (howed := fun _ _ => rfl) (V := V m) (hmain := hmain m Variants.none) (hA := A_eq m)
    (hΦ := fun _ _ => rfl)

/-- The arguments end unchanged and the counters at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1.arr_in c 0 rfl).trans ((A_eq m c 0).trans (V_main_arg0 m c)),
      ((h.1 c).2 main_arg1 (Pipeline.mem_restRefs_of main_arg1 (by decide) (by decide))).trans
        (V_main_arg1 m c),
      (h.1.arr_in c 2 rfl).trans ((A_eq m c 2).trans (V_main_arg2 m c))⟩, h.2⟩) (run_main m ρ)

end Cert.Proof.Bits
-- ==== Proof.Claims.lean ====
module

public import proofs.«01_k».proof.Defs
public import proofs.«01_k».proof.Proof.Array
public import proofs.«01_k».proof.Proof.Bits
public import proofs.«01_k».proof.Proof.Gen.ReferenceIdeal.Run
public import Idealize.ShloMosaic.Lib.Quiescent

@[expose] public section

set_option backward.proofsInPublic true

/-!
The claims.
-/

noncomputable section

namespace Cert.Proof

open Idealize.ShloMosaic Idealize.ShloMosaic.TcCoe Idealize.SL.Sem
open Cert.Proof.Flash (argQ argK argV)

/-- The shape facts of the precondition. -/
theorem finiteFacts : Cert.Pre_finite.Facts :=
  ⟨by decide, by decide, by decide⟩

/-- A value whose magnitude lies below the infinite pattern is real. -/
theorem real_of_lt (x : EReal)
    (h : (FloatOps.cmpf (F := Ideal) (φ := .f32) .olt
      (FloatOps.hostAbsf (F := Ideal) (φ := .f32) x) (FloatOps.ofBits .f32 0x7F800000#32))
        = 1#1) :
    x = (x.toReal : EReal) := by
  have top : (FloatOps.ofBits .f32 0x7F800000#32 : Ideal .f32) = (⊤ : EReal) := by
    show Ideal.ofBits .f32 0x7F800000#32 = ⊤
    simp [Ideal.ofBits, Ideal.ieee]
  rw [top] at h
  have above : ∀ z : Ideal .f32, z = (⊤ : EReal) →
      ¬ FloatOps.cmpf (F := Ideal) (φ := .f32) .olt z (⊤ : EReal) = 1#1 := by
    rintro _ rfl
    show ¬ Ideal.cmp .olt ⊤ ⊤ = 1#1
    simp [Ideal.cmp]
  induction x using EReal.rec with
  | bot => exact absurd h (above _ (by show max (⊥ : EReal) (-⊥) = ⊤; simp))
  | coe r => rfl
  | top => exact absurd h (above _ (by show max (⊤ : EReal) (-⊤) = ⊤; simp))

variable (m : (ℓ : Loc Cert.KernelIdeal.nD Cert.KernelIdeal.τ Cert.KernelIdeal.sig) → Buf (Elt Ideal) ℓ)

attribute [local instance] finiteFacts

theorem q_real (h : Cert.Pre_KernelIdeal_finite m) (c : Dev Cert.KernelIdeal.nD)
    (y : Cert.KernelIdeal.S16640x4096.Idx) :
    (argQ m c y : EReal) = ((argQ m c y : EReal).toReal : EReal) :=
  real_of_lt _ (congrFun (h c).1 y)

theorem k_real (h : Cert.Pre_KernelIdeal_finite m) (c : Dev Cert.KernelIdeal.nD)
    (y : Cert.KernelIdeal.S16640x1024.Idx) :
    (argK m c y : EReal) = ((argK m c y : EReal).toReal : EReal) :=
  real_of_lt _ (congrFun (h c).2 y)

theorem frame_p : Cert.quiescent_Kernel := fun m ρ _ => Bits.quiet m ρ

theorem frame_pi : Cert.quiescent_KernelIdeal := fun m ρ _ => Flash.quiet m ρ Flash.out Flash.hout

theorem frame_pi_finite : Cert.quiescent_KernelIdeal_pre_finite := fun m ρ _ =>
  Flash.quiet m ρ Flash.out Flash.hout

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_ri_finite : Cert.quiescent_ReferenceIdeal_pre_finite := fun m ρ _ =>
  frame_ri m ρ trivial

theorem preserves : Cert.preserves_Kernel_KernelIdeal :=
  IdealRules.named_const.statement Cert.KernelIdeal.κ "scale_log2e" .f32 0x3E0293EE#32
    (((11863283 / 134217728) * (Real.log 2)⁻¹ : ℝ) : EReal) rfl

/-- The program ends with the reference's result in its output array. -/
theorem run_result (ρ : Dev Cert.KernelIdeal.nD → PrngReg) (h : Cert.Pre_KernelIdeal_finite m) :
    θ_run (Cert.KernelIdeal.defs (F := Ideal))
      (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v1)
          = Flash.result m c) :=
  (θ_run Cert.KernelIdeal.defs _ _).mono
    (fun r hr c => ((hr.1 c).1 3).trans (Flash.arr_eq m c (q_real m h c) (k_real m h c)))
    (Flash.run_main m ρ Flash.out Flash.hout)

theorem algebraic : Cert.algebraic_KernelIdeal_ReferenceIdeal_pre_finite := by
  intro m ρ m' ρ' hpre hagree
  refine ⟨fun c => Flash.result m c, ?_, ?_⟩
  · refine (θ_run Cert.KernelIdeal.defs _ _).mono (fun _ h c => ⟨h.1 c, h.2.1 c⟩)
      (θ_run_and (run_result m ρ hpre) (Flash.quiet m ρ Flash.out Flash.hout))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v26_eq, (hagree c).1, (hagree c).2.1, (hagree c).2.2]
    rfl

end Cert.Proof

end

end
-- ==== Proof.Product.lean ====
module

public import proofs.«01_k».proof.Proof.Gen.OutProjIdeal.Value
public import Idealize.ShloMosaic.Lib.Pipeline.ValueKit
public import Idealize.ShloMosaic.Lib.Pointwise

@[expose] public section

set_option backward.proofsInPublic true

/-!
What one grid point of a projection computes: the product of its block of rows with its block of
columns. The blocks are the same for every projection, whatever its weight's width.
-/

noncomputable section

namespace Cert.Proof.Product

open Idealize.ShloMosaic Idealize.ShloMosaic.Tactic
open Cert.OutProjIdeal Cert.OutProjIdeal.Gen

/-- The product of a block of rows and a block of columns. -/
def product (a : Vec Ideal S1280x4096 .bf16) (b : Vec Ideal S4096x1024 .bf16) :
    FVec Ideal S1280x1024 .f32 :=
  matmul (φ₁ := .bf16) (φ₂ := .bf16) dot_S1280x4096_S4096x1024_S1280x1024_1_0_0_1_n_n none a
    (shapeCast S4096x1024 b shapeCasts_S4096x1024_S4096x1024)
    (constant S1280x1024 .f32 0x00000000#32)

theorem product_apply (a : Vec Ideal S1280x4096 .bf16) (b : Vec Ideal S4096x1024 .bf16)
    (r : Fin 1280) (j : Fin 1024) :
    product a b (ix2 r j) = ∑ k : Fin 4096, (a (ix2 r k) * b (ix2 k j) : EReal) := by
  unfold product
  pointwise

/-- What a grid point without an activation stores. -/
theorem stored (a : Vec Ideal S1280x4096 .bf16) (b : Vec Ideal S4096x1024 .bf16) :
    out0_2 (F := Ideal) a b = truncf .bf16 (product a b) bitsLt_bf16_f32 := by
  have z : ![0, 0] = (fun _ => 0 : Fin 2 → ℕ) := by decide
  unfold out0_2
  rw [View.canon_unit_zero z, View.ld_unit_zero z, View.ld_unit_zero z]
  rfl

/-- An entry of what a grid point without an activation stores. -/
theorem stored_apply (a : Vec Ideal S1280x4096 .bf16) (b : Vec Ideal S4096x1024 .bf16)
    (r : Fin 1280) (j : Fin 1024) :
    out0_2 (F := Ideal) a b (ix2 r j) = ∑ k : Fin 4096, (a (ix2 r k) * b (ix2 k j) : EReal) := by
  rw [stored]
  exact product_apply a b r j

/-- A block's index by its two coordinates. -/
theorem at_coords (y : S1280x1024.Idx) : y = ix2 (n0 := 1280) (n1 := 1024) (y 0) (y 1) := by
  funext a; match a with | ⟨0, _⟩ => rfl | ⟨1, _⟩ => rfl

end Cert.Proof.Product

end

end
-- ==== Proof.GmlpIn.lean ====
module

public import proofs.«01_k».proof.Defs
public import proofs.«01_k».proof.Proof.Product
public import proofs.«01_k».proof.Proof.Gen.GmlpInIdeal.Value
public import proofs.«01_k».proof.Proof.Gen.GmlpInReferenceIdeal.Run
public import proofs.«01_k».proof.Proof.Gen.GmlpInReferenceIdeal.Read
public import Idealize.ShloMosaic.Lib.Quiescent

@[expose] public section

set_option backward.proofsInPublic true

/-!
The input projection of the gMLP layer, with its gelu: every grid point writes its block of the product.
-/

noncomputable section

namespace Cert.Proof.GmlpIn

open Idealize.ShloMosaic Idealize.ShloMosaic.TcCoe Idealize.ShloMosaic.Tactic
open Idealize.SL.Sem
open Cert.GmlpInIdeal Cert.GmlpInIdeal.Gen

variable (m : (ℓ : Loc nD τ sig) → Buf (Elt Ideal) ℓ)

/-- The arguments of a device. -/
abbrev argH (c : Dev nD) : Vec Ideal S16640x4096 .bf16 := m ((c : Thread nD τ).loc main_arg0)
abbrev argW (c : Dev nD) : Vec Ideal S4096x8192 .f32 := m ((c : Thread nD τ).loc main_arg1)

/-- The gelu by the hyperbolic tangent, as the reference groups its factors. -/
def gelu (x : EReal) : EReal :=
  x * (Ideal.ofBits .f32 0x3F000000#32 * (Ideal.ofBits .f32 0x3F800000#32
    + Ideal.tanh (Ideal.ofBits .f32 0x3F4C422A#32
      * (x + Ideal.ofBits .f32 0x3D372713#32 * (x * x * x)))))

/-- An entry of what a grid point stores: the gelu of the product. -/
theorem stored_apply (a : Vec Ideal S1280x4096 .bf16) (b : Vec Ideal S4096x1024 .bf16)
    (r : Fin 1280) (j : Fin 1024) :
    out0_2 (F := Ideal) a b (ix2 r j)
      = gelu (∑ k : Fin 4096, (a (ix2 r k) * b (ix2 k j) : EReal)) := by
  have z : ![0, 0] = (fun _ => 0 : Fin 2 → ℕ) := by decide
  unfold out0_2
  rw [View.canon_unit_zero z, View.ld_unit_zero z, View.ld_unit_zero z, ← Product.product_apply]
  unfold gelu
  rw [mul_assoc (Product.product a b (ix2 r j)) _ _]
  rfl

theorem idx0 (t : Fin cfg0.N) : win0_0.index t = ![(grid0.coords t 0).val, 0] := by
  revert t; decide +kernel
theorem idx1 (t : Fin cfg0.N) : win0_1.index t = ![0, (grid0.coords t 1).val] := by
  revert t; decide +kernel
theorem idx2 (t : Fin cfg0.N) :
    win0_2.index t = ![(grid0.coords t 0).val, (grid0.coords t 1).val] := by
  revert t; decide +kernel

theorem h_block (c : Dev nD) (t : Fin cfg0.N) (a : Fin 1280) (k : Fin 4096) :
    iblk m c 0 t (ix2 a k) = argH m c (ix2 ⟨1280 * (grid0.coords t 0).val + a.val, by
        have : (grid0.coords t 0).val < 13 := (grid0.coords t 0).isLt; omega⟩ k) := by
  blk_ext [iblk, V_main_arg0, idx0 t]

theorem w_block (c : Dev nD) (t : Fin cfg0.N) (k : Fin 4096) (b : Fin 1024) :
    iblk m c 1 t (ix2 k b) = (argW m c (ix2 k ⟨1024 * (grid0.coords t 1).val + b.val, by
        have : (grid0.coords t 1).val < 8 := (grid0.coords t 1).isLt; omega⟩) : EReal) := by
  blk_ext! [iblk, V, idx1 t]

/-- The reference's result at a device's arguments. -/
def result (c : Dev nD) : Vec Ideal S16640x8192 .bf16 :=
  Cert.GmlpInReferenceIdeal.Read.val_main_v15 (F := Ideal) (argH m c) (argW m c)

theorem result_apply (c : Dev nD) (R : Fin 16640) (C : Fin 8192) :
    result m c (ix2 R C)
      = gelu (∑ k : Fin 4096, (argH m c (ix2 R k) * argW m c (ix2 k C) : EReal)) := by
  have e : result m c (ix2 R C) = gelu (Cert.GmlpInReferenceIdeal.Read.val_main_v1 (F := Ideal)
      (argH m c) (argW m c) (ix2 R C)) := rfl
  rw [e]
  refine congrArg gelu ((Cert.GmlpInReferenceIdeal.Read.val_main_v1_apply _ _ _).trans
    (Finset.sum_congr rfl fun k _ => ?_))
  refine congr (congrArg HMul.hMul (congrArg (argH m c) (funext fun a => ?_)))
    (congrArg (argW m c) (funext fun a => ?_)) <;>
  match a with | ⟨0, _⟩ => rfl | ⟨1, _⟩ => rfl

/-- Every grid point writes its block of the reference's result. -/
theorem block_eq (c : Dev nD) (t : Fin cfg0.N) (r : Fin 1280) (j : Fin 1024) :
    out0_2 (F := Ideal) (iblk m c 0 t) (iblk m c 1 t) (ix2 r j)
      = result m c (ix2 ⟨1280 * (grid0.coords t 0).val + r.val, by
          have : (grid0.coords t 0).val < 13 := (grid0.coords t 0).isLt; omega⟩
        ⟨1024 * (grid0.coords t 1).val + j.val, by
          have : (grid0.coords t 1).val < 8 := (grid0.coords t 1).isLt; omega⟩) := by
  rw [result_apply]
  refine (stored_apply _ _ r j).trans (congrArg gelu <| Finset.sum_congr rfl fun k _ => ?_)
  exact congr (congrArg HMul.hMul (h_block m c t r k)) (w_block m c t k j)

/-- The array the program leaves is the reference's result. -/
theorem arr_eq (c : Dev nD) : (dats m 0 c).arrAt 2 (cfgs 0).N = result m c := by
  refine (dats m 0 c).arrAt_eq_of_covers 2 _ (by decide +kernel) fun t hf y => ?_
  blk_simp
  rw [after0_2]
  refine ((congrArg (out0_2 (iblk m c 0 t) (iblk m c 1 t)) (Product.at_coords y)).trans
    (block_eq m c t (y 0) (y 1))).trans ?_
  generalize result m c = G
  blk_ext [idx2 t]

theorem frame_ri : Cert.quiescent_GmlpInReferenceIdeal := fun m ρ _ =>
  (θ_run Cert.GmlpInReferenceIdeal.defs _ _).mono (fun r h => ⟨fun c => (h c).2,
      Idealize.ShloMosaic.sem_eq_zero_of_no_sems (by decide) r.2⟩)
    (Cert.GmlpInReferenceIdeal.Value.run (F := Ideal) m ρ)

theorem algebraic : Cert.algebraic_GmlpInIdeal_GmlpInReferenceIdeal := by
  intro m ρ m' ρ' _ hagree
  refine ⟨fun c => result m c, ?_, ?_⟩
  · exact (θ_run Cert.GmlpInIdeal.defs _ _).mono
      (fun _ h c => ⟨(h c).1.trans (arr_eq m c), (h c).2⟩)
      (Cert.GmlpInIdeal.Value.run_blocks (F := Ideal) m ρ)
  · refine (θ_run Cert.GmlpInReferenceIdeal.defs _ _).mono (fun _ h c => ⟨(h c).1.trans ?_, (h c).2⟩)
      (Cert.GmlpInReferenceIdeal.Value.run (F := Ideal) m' ρ')
    rw [Cert.GmlpInReferenceIdeal.Read.val_main_v15_eq, (hagree c).1, (hagree c).2]
    rfl

end Cert.Proof.GmlpIn

end

end
-- ==== Proof.NaQkv.lean ====
module

public import proofs.«01_k».proof.Defs
public import proofs.«01_k».proof.Proof.Product
public import proofs.«01_k».proof.Proof.Gen.NaQkvIdeal.Value
public import proofs.«01_k».proof.Proof.Gen.NaQkvReferenceIdeal.Run
public import proofs.«01_k».proof.Proof.Gen.NaQkvReferenceIdeal.Read
public import Idealize.ShloMosaic.Lib.Quiescent

@[expose] public section

set_option backward.proofsInPublic true

/-!
The joint projection of the neighbourhood attention: every grid point writes its block of the product.
-/

noncomputable section

namespace Cert.Proof.NaQkv

open Idealize.ShloMosaic Idealize.ShloMosaic.TcCoe Idealize.ShloMosaic.Tactic
open Idealize.SL.Sem
open Cert.NaQkvIdeal Cert.NaQkvIdeal.Gen

variable (m : (ℓ : Loc nD τ sig) → Buf (Elt Ideal) ℓ)

/-- The arguments of a device. -/
abbrev argH (c : Dev nD) : Vec Ideal S16640x4096 .bf16 := m ((c : Thread nD τ).loc main_arg0)
abbrev argW (c : Dev nD) : Vec Ideal S4096x12288 .f32 := m ((c : Thread nD τ).loc main_arg1)

theorem idx0 (t : Fin cfg0.N) : win0_0.index t = ![(grid0.coords t 0).val, 0] := by
  revert t; decide +kernel
theorem idx1 (t : Fin cfg0.N) : win0_1.index t = ![0, (grid0.coords t 1).val] := by
  revert t; decide +kernel
theorem idx2 (t : Fin cfg0.N) :
    win0_2.index t = ![(grid0.coords t 0).val, (grid0.coords t 1).val] := by
  revert t; decide +kernel

theorem h_block (c : Dev nD) (t : Fin cfg0.N) (a : Fin 1280) (k : Fin 4096) :
    iblk m c 0 t (ix2 a k) = argH m c (ix2 ⟨1280 * (grid0.coords t 0).val + a.val, by
        have : (grid0.coords t 0).val < 13 := (grid0.coords t 0).isLt; omega⟩ k) := by
  blk_ext [iblk, V_main_arg0, idx0 t]

theorem w_block (c : Dev nD) (t : Fin cfg0.N) (k : Fin 4096) (b : Fin 1024) :
    iblk m c 1 t (ix2 k b) = (argW m c (ix2 k ⟨1024 * (grid0.coords t 1).val + b.val, by
        have : (grid0.coords t 1).val < 12 := (grid0.coords t 1).isLt; omega⟩) : EReal) := by
  blk_ext! [iblk, V, idx1 t]

/-- The reference's result at a device's arguments. -/
def result (c : Dev nD) : Vec Ideal S16640x12288 .bf16 :=
  Cert.NaQkvReferenceIdeal.Read.val_main_v2 (F := Ideal) (argH m c) (argW m c)

theorem result_apply (c : Dev nD) (R : Fin 16640) (C : Fin 12288) :
    result m c (ix2 R C) = ∑ k : Fin 4096, (argH m c (ix2 R k) * argW m c (ix2 k C) : EReal) := by
  unfold result
  rw [Cert.NaQkvReferenceIdeal.Read.val_main_v2_apply]
  refine (Cert.NaQkvReferenceIdeal.Read.val_main_v1_apply _ _ _).trans
    (Finset.sum_congr rfl fun k _ => ?_)
  refine congr (congrArg HMul.hMul (congrArg (argH m c) (funext fun a => ?_)))
    (congrArg (argW m c) (funext fun a => ?_)) <;>
  match a with | ⟨0, _⟩ => rfl | ⟨1, _⟩ => rfl

/-- Every grid point writes its block of the reference's result. -/
theorem block_eq (c : Dev nD) (t : Fin cfg0.N) (r : Fin 1280) (j : Fin 1024) :
    out0_2 (F := Ideal) (iblk m c 0 t) (iblk m c 1 t) (ix2 r j)
      = result m c (ix2 ⟨1280 * (grid0.coords t 0).val + r.val, by
          have : (grid0.coords t 0).val < 13 := (grid0.coords t 0).isLt; omega⟩
        ⟨1024 * (grid0.coords t 1).val + j.val, by
          have : (grid0.coords t 1).val < 12 := (grid0.coords t 1).isLt; omega⟩) := by
  rw [result_apply]
  refine (Product.stored_apply _ _ r j).trans (Finset.sum_congr rfl fun k _ => ?_)
  exact congr (congrArg HMul.hMul (h_block m c t r k)) (w_block m c t k j)

/-- The array the program leaves is the reference's result. -/
theorem arr_eq (c : Dev nD) : (dats m 0 c).arrAt 2 (cfgs 0).N = result m c := by
  refine (dats m 0 c).arrAt_eq_of_covers 2 _ (by decide +kernel) fun t hf y => ?_
  blk_simp
  rw [after0_2]
  refine ((congrArg (out0_2 (iblk m c 0 t) (iblk m c 1 t)) (Product.at_coords y)).trans
    (block_eq m c t (y 0) (y 1))).trans ?_
  generalize result m c = G
  blk_ext [idx2 t]

theorem frame_ri : Cert.quiescent_NaQkvReferenceIdeal := fun m ρ _ =>
  (θ_run Cert.NaQkvReferenceIdeal.defs _ _).mono (fun r h => ⟨fun c => (h c).2,
      Idealize.ShloMosaic.sem_eq_zero_of_no_sems (by decide) r.2⟩)
    (Cert.NaQkvReferenceIdeal.Value.run (F := Ideal) m ρ)

theorem algebraic : Cert.algebraic_NaQkvIdeal_NaQkvReferenceIdeal := by
  intro m ρ m' ρ' _ hagree
  refine ⟨fun c => result m c, ?_, ?_⟩
  · exact (θ_run Cert.NaQkvIdeal.defs _ _).mono
      (fun _ h c => ⟨(h c).1.trans (arr_eq m c), (h c).2⟩)
      (Cert.NaQkvIdeal.Value.run_blocks (F := Ideal) m ρ)
  · refine (θ_run Cert.NaQkvReferenceIdeal.defs _ _).mono (fun _ h c => ⟨(h c).1.trans ?_, (h c).2⟩)
      (Cert.NaQkvReferenceIdeal.Value.run (F := Ideal) m' ρ')
    rw [Cert.NaQkvReferenceIdeal.Read.val_main_v2_eq, (hagree c).1, (hagree c).2]
    rfl

end Cert.Proof.NaQkv

end

end
-- ==== Proof.GaQkv.lean ====
module

public import proofs.«01_k».proof.Defs
public import proofs.«01_k».proof.Proof.Product
public import proofs.«01_k».proof.Proof.Gen.GaQkvIdeal.Value
public import proofs.«01_k».proof.Proof.Gen.GaQkvReferenceIdeal.Run
public import proofs.«01_k».proof.Proof.Gen.GaQkvReferenceIdeal.Read
public import Idealize.ShloMosaic.Lib.Quiescent

@[expose] public section

set_option backward.proofsInPublic true

/-!
The joint projection of the grouped-query attention: every grid point writes its block of the product.
-/

noncomputable section

namespace Cert.Proof.GaQkv

open Idealize.ShloMosaic Idealize.ShloMosaic.TcCoe Idealize.ShloMosaic.Tactic
open Idealize.SL.Sem
open Cert.GaQkvIdeal Cert.GaQkvIdeal.Gen

variable (m : (ℓ : Loc nD τ sig) → Buf (Elt Ideal) ℓ)

/-- The arguments of a device. -/
abbrev argH (c : Dev nD) : Vec Ideal S16640x4096 .bf16 := m ((c : Thread nD τ).loc main_arg0)
abbrev argW (c : Dev nD) : Vec Ideal S4096x6144 .f32 := m ((c : Thread nD τ).loc main_arg1)

theorem idx0 (t : Fin cfg0.N) : win0_0.index t = ![(grid0.coords t 0).val, 0] := by
  revert t; decide +kernel
theorem idx1 (t : Fin cfg0.N) : win0_1.index t = ![0, (grid0.coords t 1).val] := by
  revert t; decide +kernel
theorem idx2 (t : Fin cfg0.N) :
    win0_2.index t = ![(grid0.coords t 0).val, (grid0.coords t 1).val] := by
  revert t; decide +kernel

theorem h_block (c : Dev nD) (t : Fin cfg0.N) (a : Fin 1280) (k : Fin 4096) :
    iblk m c 0 t (ix2 a k) = argH m c (ix2 ⟨1280 * (grid0.coords t 0).val + a.val, by
        have : (grid0.coords t 0).val < 13 := (grid0.coords t 0).isLt; omega⟩ k) := by
  blk_ext [iblk, V_main_arg0, idx0 t]

theorem w_block (c : Dev nD) (t : Fin cfg0.N) (k : Fin 4096) (b : Fin 1024) :
    iblk m c 1 t (ix2 k b) = (argW m c (ix2 k ⟨1024 * (grid0.coords t 1).val + b.val, by
        have : (grid0.coords t 1).val < 6 := (grid0.coords t 1).isLt; omega⟩) : EReal) := by
  blk_ext! [iblk, V, idx1 t]

/-- The reference's result at a device's arguments. -/
def result (c : Dev nD) : Vec Ideal S16640x6144 .bf16 :=
  Cert.GaQkvReferenceIdeal.Read.val_main_v2 (F := Ideal) (argH m c) (argW m c)

theorem result_apply (c : Dev nD) (R : Fin 16640) (C : Fin 6144) :
    result m c (ix2 R C) = ∑ k : Fin 4096, (argH m c (ix2 R k) * argW m c (ix2 k C) : EReal) := by
  unfold result
  rw [Cert.GaQkvReferenceIdeal.Read.val_main_v2_apply]
  refine (Cert.GaQkvReferenceIdeal.Read.val_main_v1_apply _ _ _).trans
    (Finset.sum_congr rfl fun k _ => ?_)
  refine congr (congrArg HMul.hMul (congrArg (argH m c) (funext fun a => ?_)))
    (congrArg (argW m c) (funext fun a => ?_)) <;>
  match a with | ⟨0, _⟩ => rfl | ⟨1, _⟩ => rfl

/-- Every grid point writes its block of the reference's result. -/
theorem block_eq (c : Dev nD) (t : Fin cfg0.N) (r : Fin 1280) (j : Fin 1024) :
    out0_2 (F := Ideal) (iblk m c 0 t) (iblk m c 1 t) (ix2 r j)
      = result m c (ix2 ⟨1280 * (grid0.coords t 0).val + r.val, by
          have : (grid0.coords t 0).val < 13 := (grid0.coords t 0).isLt; omega⟩
        ⟨1024 * (grid0.coords t 1).val + j.val, by
          have : (grid0.coords t 1).val < 6 := (grid0.coords t 1).isLt; omega⟩) := by
  rw [result_apply]
  refine (Product.stored_apply _ _ r j).trans (Finset.sum_congr rfl fun k _ => ?_)
  exact congr (congrArg HMul.hMul (h_block m c t r k)) (w_block m c t k j)

/-- The array the program leaves is the reference's result. -/
theorem arr_eq (c : Dev nD) : (dats m 0 c).arrAt 2 (cfgs 0).N = result m c := by
  refine (dats m 0 c).arrAt_eq_of_covers 2 _ (by decide +kernel) fun t hf y => ?_
  blk_simp
  rw [after0_2]
  refine ((congrArg (out0_2 (iblk m c 0 t) (iblk m c 1 t)) (Product.at_coords y)).trans
    (block_eq m c t (y 0) (y 1))).trans ?_
  generalize result m c = G
  blk_ext [idx2 t]

theorem frame_ri : Cert.quiescent_GaQkvReferenceIdeal := fun m ρ _ =>
  (θ_run Cert.GaQkvReferenceIdeal.defs _ _).mono (fun r h => ⟨fun c => (h c).2,
      Idealize.ShloMosaic.sem_eq_zero_of_no_sems (by decide) r.2⟩)
    (Cert.GaQkvReferenceIdeal.Value.run (F := Ideal) m ρ)

theorem algebraic : Cert.algebraic_GaQkvIdeal_GaQkvReferenceIdeal := by
  intro m ρ m' ρ' _ hagree
  refine ⟨fun c => result m c, ?_, ?_⟩
  · exact (θ_run Cert.GaQkvIdeal.defs _ _).mono
      (fun _ h c => ⟨(h c).1.trans (arr_eq m c), (h c).2⟩)
      (Cert.GaQkvIdeal.Value.run_blocks (F := Ideal) m ρ)
  · refine (θ_run Cert.GaQkvReferenceIdeal.defs _ _).mono (fun _ h c => ⟨(h c).1.trans ?_, (h c).2⟩)
      (Cert.GaQkvReferenceIdeal.Value.run (F := Ideal) m' ρ')
    rw [Cert.GaQkvReferenceIdeal.Read.val_main_v2_eq, (hagree c).1, (hagree c).2]
    rfl

end Cert.Proof.GaQkv

end

end
-- ==== Proof.OutProj.lean ====
module

public import proofs.«01_k».proof.Defs
public import proofs.«01_k».proof.Proof.Product
public import proofs.«01_k».proof.Proof.Gen.OutProjReferenceIdeal.Run
public import proofs.«01_k».proof.Proof.Gen.OutProjReferenceIdeal.Read
public import Idealize.ShloMosaic.Lib.Quiescent

@[expose] public section

set_option backward.proofsInPublic true

/-!
The output projection: every grid point writes its block of the product.
-/

noncomputable section

namespace Cert.Proof.OutProj

open Idealize.ShloMosaic Idealize.ShloMosaic.TcCoe Idealize.ShloMosaic.Tactic
open Idealize.SL.Sem
open Cert.OutProjIdeal Cert.OutProjIdeal.Gen

variable (m : (ℓ : Loc nD τ sig) → Buf (Elt Ideal) ℓ)

/-- The arguments of a device. -/
abbrev argH (c : Dev nD) : Vec Ideal S16640x4096 .bf16 := m ((c : Thread nD τ).loc main_arg0)
abbrev argW (c : Dev nD) : Vec Ideal S4096x4096 .f32 := m ((c : Thread nD τ).loc main_arg1)

theorem idx0 (t : Fin cfg0.N) : win0_0.index t = ![(grid0.coords t 0).val, 0] := by
  revert t; decide +kernel
theorem idx1 (t : Fin cfg0.N) : win0_1.index t = ![0, (grid0.coords t 1).val] := by
  revert t; decide +kernel
theorem idx2 (t : Fin cfg0.N) :
    win0_2.index t = ![(grid0.coords t 0).val, (grid0.coords t 1).val] := by
  revert t; decide +kernel

theorem h_block (c : Dev nD) (t : Fin cfg0.N) (a : Fin 1280) (k : Fin 4096) :
    iblk m c 0 t (ix2 a k) = argH m c (ix2 ⟨1280 * (grid0.coords t 0).val + a.val, by
        have : (grid0.coords t 0).val < 13 := (grid0.coords t 0).isLt; omega⟩ k) := by
  blk_ext [iblk, V_main_arg0, idx0 t]

theorem w_block (c : Dev nD) (t : Fin cfg0.N) (k : Fin 4096) (b : Fin 1024) :
    iblk m c 1 t (ix2 k b) = (argW m c (ix2 k ⟨1024 * (grid0.coords t 1).val + b.val, by
        have : (grid0.coords t 1).val < 4 := (grid0.coords t 1).isLt; omega⟩) : EReal) := by
  blk_ext! [iblk, V, idx1 t]

/-- The reference's result at a device's arguments. -/
def result (c : Dev nD) : Vec Ideal S16640x4096 .bf16 :=
  Cert.OutProjReferenceIdeal.Read.val_main_v2 (F := Ideal) (argH m c) (argW m c)

theorem result_apply (c : Dev nD) (R : Fin 16640) (C : Fin 4096) :
    result m c (ix2 R C) = ∑ k : Fin 4096, (argH m c (ix2 R k) * argW m c (ix2 k C) : EReal) := by
  unfold result
  rw [Cert.OutProjReferenceIdeal.Read.val_main_v2_apply]
  refine (Cert.OutProjReferenceIdeal.Read.val_main_v1_apply _ _ _).trans
    (Finset.sum_congr rfl fun k _ => ?_)
  refine congr (congrArg HMul.hMul (congrArg (argH m c) (funext fun a => ?_)))
    (congrArg (argW m c) (funext fun a => ?_)) <;>
  match a with | ⟨0, _⟩ => rfl | ⟨1, _⟩ => rfl

/-- Every grid point writes its block of the reference's result. -/
theorem block_eq (c : Dev nD) (t : Fin cfg0.N) (r : Fin 1280) (j : Fin 1024) :
    out0_2 (F := Ideal) (iblk m c 0 t) (iblk m c 1 t) (ix2 r j)
      = result m c (ix2 ⟨1280 * (grid0.coords t 0).val + r.val, by
          have : (grid0.coords t 0).val < 13 := (grid0.coords t 0).isLt; omega⟩
        ⟨1024 * (grid0.coords t 1).val + j.val, by
          have : (grid0.coords t 1).val < 4 := (grid0.coords t 1).isLt; omega⟩) := by
  rw [result_apply]
  refine (Product.stored_apply _ _ r j).trans (Finset.sum_congr rfl fun k _ => ?_)
  exact congr (congrArg HMul.hMul (h_block m c t r k)) (w_block m c t k j)

/-- The array the program leaves is the reference's result. -/
theorem arr_eq (c : Dev nD) : (dats m 0 c).arrAt 2 (cfgs 0).N = result m c := by
  refine (dats m 0 c).arrAt_eq_of_covers 2 _ (by decide +kernel) fun t hf y => ?_
  blk_simp
  rw [after0_2]
  refine ((congrArg (out0_2 (iblk m c 0 t) (iblk m c 1 t)) (Product.at_coords y)).trans
    (block_eq m c t (y 0) (y 1))).trans ?_
  generalize result m c = G
  blk_ext [idx2 t]

theorem frame_ri : Cert.quiescent_OutProjReferenceIdeal := fun m ρ _ =>
  (θ_run Cert.OutProjReferenceIdeal.defs _ _).mono (fun r h => ⟨fun c => (h c).2,
      Idealize.ShloMosaic.sem_eq_zero_of_no_sems (by decide) r.2⟩)
    (Cert.OutProjReferenceIdeal.Value.run (F := Ideal) m ρ)

theorem algebraic : Cert.algebraic_OutProjIdeal_OutProjReferenceIdeal := by
  intro m ρ m' ρ' _ hagree
  refine ⟨fun c => result m c, ?_, ?_⟩
  · exact (θ_run Cert.OutProjIdeal.defs _ _).mono
      (fun _ h c => ⟨(h c).1.trans (arr_eq m c), (h c).2⟩)
      (Cert.OutProjIdeal.Value.run_blocks (F := Ideal) m ρ)
  · refine (θ_run Cert.OutProjReferenceIdeal.defs _ _).mono (fun _ h c => ⟨(h c).1.trans ?_, (h c).2⟩)
      (Cert.OutProjReferenceIdeal.Value.run (F := Ideal) m' ρ')
    rw [Cert.OutProjReferenceIdeal.Read.val_main_v2_eq, (hagree c).1, (hagree c).2]
    rfl

end Cert.Proof.OutProj

end

end
-- ==== Proof.MoeRow.lean ====
module

public import Idealize.ShloMosaic.PureOps.Ideal

@[expose] public section

set_option backward.proofsInPublic true

/-!
One row of the combination of the experts, by its mathematics: the shared expert's result of the row's
tokens, the weighted results of the four routed experts, the gate over the residual, the layer norm and
the modulation.
-/

noncomputable section

namespace Cert.Proof.Moe

open Idealize.ShloMosaic

/-- What a row's result is computed from, weights apart. -/
structure Row where
  /-- The residual stream. -/
  x : Fin 4096 → EReal
  /-- The tokens, two values to a word. -/
  tok : Fin 2048 → BitVec 32
  /-- The results of the four routed experts, two values to a word. -/
  y : Fin 4 → Fin 2048 → BitVec 32
  /-- The weights of the four. -/
  w : Fin 4 → EReal
  /-- The gate. -/
  gate : Fin 4096 → EReal

/-- The weights all rows share. -/
structure Weights where
  /-- The shared expert's gate projection. -/
  g : Fin 4096 → Fin 384 → EReal
  /-- The shared expert's up projection. -/
  u : Fin 4096 → Fin 384 → EReal
  /-- The shared expert's down projection. -/
  d : Fin 384 → Fin 4096 → EReal
  /-- The layer norm's gain. -/
  gain : Fin 4096 → EReal
  /-- The layer norm's bias. -/
  bias : Fin 4096 → EReal

/-- The values in a row of words: the low halves, then the high halves. -/
def unp (u : Fin 2048 → BitVec 32) (k : Fin 4096) : EReal :=
  if h : k.val < 2048 then Ideal.ofBits .f32 (u ⟨k.val, h⟩ <<< (16 : ℕ))
  else Ideal.ofBits .f32 (u ⟨k.val - 2048, by omega⟩ &&& 4294901760#32)

/-- A hidden value of the shared expert, from its two projections. -/
def swish (a b : EReal) : EReal := a * Ideal.logistic a * b

/-- The shared expert's result. -/
def shared (W : Weights) (tok : Fin 2048 → BitVec 32) (C : Fin 4096) : EReal :=
  ∑ j : Fin 384, swish (∑ k : Fin 4096, unp tok k * W.g k j) (∑ k : Fin 4096, unp tok k * W.u k j)
    * W.d j C

/-- The gated sum over the residual, before the layer norm. -/
def pre (W : Weights) (r : Row) (C : Fin 4096) : EReal :=
  Ideal.ofBits .f32 0x3FD744FD#32 * r.x C
    + r.gate C * (shared W r.tok C + r.w 0 * unp (r.y 0) C + r.w 1 * unp (r.y 1) C
        + r.w 2 * unp (r.y 2) C + r.w 3 * unp (r.y 3) C)

/-- The mean of a row. -/
def mean (z : Fin 4096 → EReal) : EReal :=
  Ideal.div (∑ k : Fin 4096, z k) (Ideal.ofBits .f32 0x45800000#32)

/-- The layer norm of a row, without gain and bias. -/
def norm (z : Fin 4096 → EReal) (C : Fin 4096) : EReal :=
  (z C - mean z) * Ideal.rsqrt (mean (fun k => (z k - mean z) * (z k - mean z))
    + Ideal.ofBits .f32 0x3727C5AC#32)

/-- The row the layer leaves. -/
def out (W : Weights) (r : Row) (C : Fin 4096) : EReal :=
  norm (pre W r) C * W.gain C + W.bias C

/-- The modulated row, the next layer's operand. -/
def next (W : Weights) (r : Row) (scale shift : Fin 4096 → EReal) (C : Fin 4096) : EReal :=
  out W r C * (Ideal.ofBits .f32 0x3F800000#32 + scale C) + shift C

end Cert.Proof.Moe

end

end
-- ==== Proof.MoeBlock.lean ====
module

public import proofs.«01_k».proof.Proof.MoeRow
public import proofs.«01_k».proof.Proof.Gen.CombineIdeal.Value
public import Idealize.ShloMosaic.Lib.Pipeline.ValueKit
public import Idealize.ShloMosaic.Lib.Pointwise

@[expose] public section

set_option backward.proofsInPublic true

/-!
What one grid point of the combination computes: each row of its blocks by the row's mathematics.
-/

noncomputable section

namespace Cert.Proof.Moe

open Idealize.ShloMosaic Idealize.ShloMosaic.Tactic
open Cert.CombineIdeal Cert.CombineIdeal.Gen

/-- The values in a block of words. -/
def unpV (u : Vec Ideal S128x2048 .i32) : FVec Ideal S128x4096 .f32 :=
  concatenate S128x4096 1
    [⟨S128x2048, bitcastToFloat (F := Ideal) .f32 (shli u (broadcast S128x2048 16#32))⟩,
      ⟨S128x2048, bitcastToFloat (F := Ideal) .f32 (andi u (broadcast S128x2048 4294901760#32))⟩]
    concatenates_S128x2048_S128x2048_S128x4096_d1

theorem shift_word (u : ArithUnit) (x : BitVec 32) : IntOp.shli u x 16#32 = x <<< (16 : ℕ) := by
  unfold IntOp.shli
  rw [if_pos (by decide)]
  rfl

theorem unpV_apply (u : Vec Ideal S128x2048 .i32) (r : Fin 128) (k : Fin 4096) :
    unpV u (ix2 r k) = unp (fun j => u (ix2 r j)) k := by
  unfold unpV unp
  pointwise
  split
  · exact congrArg (Ideal.ofBits .f32) (shift_word _ _)
  · rfl

/-- Both projections of the tokens, side by side. -/
def projV (t : FVec Ideal S128x4096 .f32) (gu : Vec Ideal S4096x768 .bf16) :
    FVec Ideal S128x768 .f32 :=
  matmul (φ₁ := .bf16) (φ₂ := .bf16) dot_S128x4096_S4096x768_S128x768_1_0_0_1_n_n none
    (truncf .bf16 t bitsLt_bf16_f32) (shapeCast S4096x768 gu shapeCasts_S4096x768_S4096x768)
    (constant S128x768 .f32 0x00000000#32)

theorem projV_apply (t : FVec Ideal S128x4096 .f32) (gu : Vec Ideal S4096x768 .bf16)
    (r : Fin 128) (j : Fin 768) :
    projV t gu (ix2 r j) = ∑ k : Fin 4096, (t (ix2 r k) * gu (ix2 k j) : EReal) := by
  unfold projV
  pointwise

/-- The hidden values of the shared expert. -/
def hidV (p : FVec Ideal S128x768 .f32) : FVec Ideal S128x384 .f32 :=
  mulf (mulf (extractStridedSlice S128x384 ![0, 0] p slices_S128x768_o0_0_S128x384)
      (logistic (extractStridedSlice S128x384 ![0, 0] p slices_S128x768_o0_0_S128x384)))
    (extractStridedSlice S128x384 ![0, 384] p slices_S128x768_o0_384_S128x384)

theorem hidV_apply (p : FVec Ideal S128x768 .f32) (r : Fin 128) (j : Fin 384) :
    hidV p (ix2 r j) = swish (p (ix2 r ⟨j.val, by omega⟩)) (p (ix2 r ⟨384 + j.val, by omega⟩)) := by
  unfold hidV swish
  pointwise

/-- The product with the down projection. -/
def downV (h : FVec Ideal S128x384 .f32) (d : Vec Ideal S384x4096 .bf16) :
    FVec Ideal S128x4096 .f32 :=
  matmul (φ₁ := .bf16) (φ₂ := .bf16) dot_S128x384_S384x4096_S128x4096_1_0_0_1_n_n none
    (truncf .bf16 h bitsLt_bf16_f32) (shapeCast S384x4096 d shapeCasts_S384x4096_S384x4096)
    (constant S128x4096 .f32 0x00000000#32)

theorem downV_apply (h : FVec Ideal S128x384 .f32) (d : Vec Ideal S384x4096 .bf16)
    (r : Fin 128) (C : Fin 4096) :
    downV h d (ix2 r C) = ∑ j : Fin 384, (h (ix2 r j) * d (ix2 j C) : EReal) := by
  unfold downV
  pointwise

/-- The gated sum of a block, from the unpacked operands and the shared expert's result. -/
def gatedV (w : Vec Ideal S128x4 .f32) (s y0 y1 y2 y3 : FVec Ideal S128x4096 .f32)
    (x : Vec Ideal S128x4096 .f32) (gate : Vec Ideal S1x1x1x4096 .f32) :
    FVec Ideal S128x4096 .f32 :=
  addf (mulf (broadcast S128x4096 (Scalar.ofBits (F := Ideal) .f32 0x3FD744FD#32)) x)
    (mulf (broadcastTo S128x4096 (shapeCast S1x4096 gate shapeCasts_S1x1x1x4096_S1x4096)
        broadcasts_S1x4096_S128x4096)
      (addf (addf (addf (addf s
        (mulf (broadcastTo S128x4096 (extractStridedSlice S128x1 ![0, 0] w slices_S128x4_o0_0_S128x1)
          broadcasts_S128x1_S128x4096) y0))
        (mulf (broadcastTo S128x4096 (extractStridedSlice S128x1 ![0, 1] w slices_S128x4_o0_1_S128x1)
          broadcasts_S128x1_S128x4096) y1))
        (mulf (broadcastTo S128x4096 (extractStridedSlice S128x1 ![0, 2] w slices_S128x4_o0_2_S128x1)
          broadcasts_S128x1_S128x4096) y2))
        (mulf (broadcastTo S128x4096 (extractStridedSlice S128x1 ![0, 3] w slices_S128x4_o0_3_S128x1)
          broadcasts_S128x1_S128x4096) y3)))

theorem gatedV_apply (w : Vec Ideal S128x4 .f32) (s y0 y1 y2 y3 : FVec Ideal S128x4096 .f32)
    (x : Vec Ideal S128x4096 .f32) (gate : Vec Ideal S1x1x1x4096 .f32) (r : Fin 128) (C : Fin 4096) :
    gatedV w s y0 y1 y2 y3 x gate (ix2 r C)
      = (Ideal.ofBits .f32 0x3FD744FD#32 * x (ix2 r C)
        + gate (ix4 0 0 0 C) * (s (ix2 r C) + w (ix2 r 0) * y0 (ix2 r C) + w (ix2 r 1) * y1 (ix2 r C)
          + w (ix2 r 2) * y2 (ix2 r C) + w (ix2 r 3) * y3 (ix2 r C)) : EReal) := by
  unfold gatedV
  pointwise

/-- The mean of each row of a block. -/
def meanV (z : FVec Ideal S128x4096 .f32) : FVec Ideal S128x1 .f32 :=
  divf (shapeCast S128x1 (multiReduction .add [1] S128 z 0x00000000#32 reduces_S128x4096_S128
      (.inl rfl) rfl) shapeCasts_S128_S128x1)
    (broadcast S128x1 (Scalar.ofBits (F := Ideal) .f32 0x45800000#32))

theorem meanV_apply (z : FVec Ideal S128x4096 .f32) (r : Fin 128) (q : Fin 1) :
    meanV z (ix2 r q) = mean (fun k => z (ix2 r k)) := by
  unfold meanV mean
  pointwise

/-- A block with each row's mean taken away. -/
def centreV (z : FVec Ideal S128x4096 .f32) : FVec Ideal S128x4096 .f32 :=
  subf z (broadcastTo S128x4096 (meanV z) broadcasts_S128x1_S128x4096)

theorem centreV_apply (z : FVec Ideal S128x4096 .f32) (r : Fin 128) (C : Fin 4096) :
    centreV z (ix2 r C) = (z (ix2 r C) - mean (fun k => z (ix2 r k)) : EReal) := by
  unfold centreV
  pointwise [meanV_apply]

/-- The layer norm of a block. -/
def normV (z : FVec Ideal S128x4096 .f32) (g b : FVec Ideal S1x4096 .f32) :
    FVec Ideal S128x4096 .f32 :=
  addf (mulf (mulf (centreV z)
      (broadcastTo S128x4096 (rsqrt (addf (meanV (mulf (centreV z) (centreV z)))
        (broadcast S128x1 (Scalar.ofBits (F := Ideal) .f32 0x3727C5AC#32))))
        broadcasts_S128x1_S128x4096))
      (broadcastTo S128x4096 g broadcasts_S1x4096_S128x4096))
    (broadcastTo S128x4096 b broadcasts_S1x4096_S128x4096)

theorem normV_apply (z : FVec Ideal S128x4096 .f32) (g b : FVec Ideal S1x4096 .f32)
    (r : Fin 128) (C : Fin 4096) :
    normV z g b (ix2 r C)
      = (norm (fun k => z (ix2 r k)) C * g (ix2 0 C) + b (ix2 0 C) : EReal) := by
  unfold normV norm
  pointwise [meanV_apply, centreV_apply]

/-- A block modulated. -/
def modV (n : FVec Ideal S128x4096 .f32) (scale shift : Vec Ideal S1x1x1x4096 .f32) :
    FVec Ideal S128x4096 .f32 :=
  addf (mulf n (broadcastTo S128x4096 (addf
      (broadcast S1x4096 (Scalar.ofBits (F := Ideal) .f32 0x3F800000#32))
      (shapeCast S1x4096 scale shapeCasts_S1x1x1x4096_S1x4096)) broadcasts_S1x4096_S128x4096))
    (broadcastTo S128x4096 (shapeCast S1x4096 shift shapeCasts_S1x1x1x4096_S1x4096)
      broadcasts_S1x4096_S128x4096)

theorem modV_apply (n : FVec Ideal S128x4096 .f32) (scale shift : Vec Ideal S1x1x1x4096 .f32)
    (r : Fin 128) (C : Fin 4096) :
    modV n scale shift (ix2 r C)
      = (n (ix2 r C) * (Ideal.ofBits .f32 0x3F800000#32 + scale (ix4 0 0 0 C))
        + shift (ix4 0 0 0 C) : EReal) := by
  unfold modV
  pointwise

/-- The gated sum of a block. -/
def preV (x : Vec Ideal S128x4096 .f32) (tok : Vec Ideal S128x2048 .i32)
    (gu : Vec Ideal S4096x768 .bf16) (d : Vec Ideal S384x4096 .bf16)
    (y0 y1 y2 y3 : Vec Ideal S128x2048 .i32) (w : Vec Ideal S128x4 .f32)
    (gate : Vec Ideal S1x1x1x4096 .f32) : FVec Ideal S128x4096 .f32 :=
  gatedV w (downV (hidV (projV (unpV tok) gu)) d) (unpV y0) (unpV y1) (unpV y2) (unpV y3) x gate

/-- The weights as a block of them holds them: the two projections side by side. -/
def weights (gu : Vec Ideal S4096x768 .bf16) (d : Vec Ideal S384x4096 .bf16)
    (g b : FVec Ideal S1x4096 .f32) : Weights where
  g k j := gu (ix2 k ⟨j.val, by omega⟩)
  u k j := gu (ix2 k ⟨384 + j.val, by omega⟩)
  d j C := d (ix2 j C)
  gain C := g (ix2 0 C)
  bias C := b (ix2 0 C)

/-- A row of the blocks. -/
def row (x : Vec Ideal S128x4096 .f32) (tok : Vec Ideal S128x2048 .i32)
    (y0 y1 y2 y3 : Vec Ideal S128x2048 .i32) (w : Vec Ideal S128x4 .f32)
    (gate : Vec Ideal S1x1x1x4096 .f32) (r : Fin 128) : Row where
  x C := x (ix2 r C)
  tok j := tok (ix2 r j)
  y k j := ![y0, y1, y2, y3] k (ix2 r j)
  w k := w (ix2 r k)
  gate C := gate (ix4 0 0 0 C)

theorem preV_apply (x : Vec Ideal S128x4096 .f32) (tok : Vec Ideal S128x2048 .i32)
    (gu : Vec Ideal S4096x768 .bf16) (d : Vec Ideal S384x4096 .bf16)
    (y0 y1 y2 y3 : Vec Ideal S128x2048 .i32) (w : Vec Ideal S128x4 .f32)
    (gate : Vec Ideal S1x1x1x4096 .f32) (g b : FVec Ideal S1x4096 .f32)
    (r : Fin 128) (C : Fin 4096) :
    preV x tok gu d y0 y1 y2 y3 w gate (ix2 r C)
      = pre (weights gu d g b) (row x tok y0 y1 y2 y3 w gate r) C := by
  have hs : downV (hidV (projV (unpV tok) gu)) d (ix2 r C)
      = shared (weights gu d g b) (fun j => tok (ix2 r j)) C := by
    rw [downV_apply]
    refine Finset.sum_congr rfl fun j _ => ?_
    rw [hidV_apply, projV_apply, projV_apply]
    simp only [unpV_apply]
    rfl
  unfold preV
  rw [gatedV_apply, hs, unpV_apply, unpV_apply, unpV_apply, unpV_apply]
  rfl

/-- A row of the block the layer leaves. -/
theorem outV_apply (x : Vec Ideal S128x4096 .f32) (tok : Vec Ideal S128x2048 .i32)
    (gu : Vec Ideal S4096x768 .bf16) (d : Vec Ideal S384x4096 .bf16)
    (y0 y1 y2 y3 : Vec Ideal S128x2048 .i32) (w : Vec Ideal S128x4 .f32)
    (gate : Vec Ideal S1x1x1x4096 .f32) (g b : FVec Ideal S1x4096 .f32)
    (r : Fin 128) (C : Fin 4096) :
    normV (preV x tok gu d y0 y1 y2 y3 w gate) g b (ix2 r C)
      = out (weights gu d g b) (row x tok y0 y1 y2 y3 w gate r) C := by
  rw [normV_apply]
  simp only [preV_apply x tok gu d y0 y1 y2 y3 w gate g b]
  rfl

/-- A row of the modulated block. -/
theorem nextV_apply (x : Vec Ideal S128x4096 .f32) (tok : Vec Ideal S128x2048 .i32)
    (gu : Vec Ideal S4096x768 .bf16) (d : Vec Ideal S384x4096 .bf16)
    (y0 y1 y2 y3 : Vec Ideal S128x2048 .i32) (w : Vec Ideal S128x4 .f32)
    (gate : Vec Ideal S1x1x1x4096 .f32) (g b : FVec Ideal S1x4096 .f32)
    (scale shift : Vec Ideal S1x1x1x4096 .f32) (r : Fin 128) (C : Fin 4096) :
    modV (normV (preV x tok gu d y0 y1 y2 y3 w gate) g b) scale shift (ix2 r C)
      = next (weights gu d g b) (row x tok y0 y1 y2 y3 w gate r) (fun k => scale (ix4 0 0 0 k))
        (fun k => shift (ix4 0 0 0 k)) C := by
  rw [modV_apply, outV_apply]
  rfl

theorem same_cast (g : Vec Ideal S1x4096 .f32) :
    shapeCast S1x4096 g shapeCasts_S1x4096_S1x4096 = g := by
  funext i
  pointwise

set_option maxRecDepth 65536 in
theorem gated_payload (x0 : Vec Ideal S128x4096 .f32) (x1 : Vec Ideal S128x2048 .i32)
    (x2 : Vec Ideal S4096x768 .bf16) (x3 : Vec Ideal S384x4096 .bf16)
    (x4 x5 x6 x7 : Vec Ideal S128x2048 .i32) (x8 : Vec Ideal S128x4 .f32)
    (x9 : Vec Ideal S1x1x1x4096 .f32) :
    k0_pay6 (F := Ideal) x8 (k0_pay3 x8 x1 x2 x3 x4) (k0_pay4 x8) x5 (k0_pay5 x5) 4294901760#32
      x6 x7 x0 x9 = preV x0 x1 x2 x3 x4 x5 x6 x7 x8 x9 := by
  rfl

theorem norm_payload (z : FVec Ideal S128x4096 .f32) (x10 x11 : Vec Ideal S1x4096 .f32) :
    k0_pay1 (F := Ideal) z (k0_pay7 x10) x11 = normV z x10 x11 := by
  rw [show k0_pay7 x10 = x10 from same_cast x10]
  refine Eq.trans ?_ (congrArg (normV z x10) (same_cast x11))
  rfl

/-- What a grid point stores of the residual stream. -/
theorem stored_out (x0 : Vec Ideal S128x4096 .f32) (x1 : Vec Ideal S128x2048 .i32)
    (x2 : Vec Ideal S4096x768 .bf16) (x3 : Vec Ideal S384x4096 .bf16)
    (x4 x5 x6 x7 : Vec Ideal S128x2048 .i32) (x8 : Vec Ideal S128x4 .f32)
    (x9 : Vec Ideal S1x1x1x4096 .f32) (x10 x11 : Vec Ideal S1x4096 .f32)
    (x12 x13 : Vec Ideal S1x1x1x4096 .f32) (r : Fin 128) (C : Fin 4096) :
    out0_14 (F := Ideal) x0 x1 x2 x3 x4 x5 x6 x7 x8 x9 x10 x11 x12 x13 (ix2 r C)
      = out (weights x2 x3 x10 x11) (row x0 x1 x4 x5 x6 x7 x8 x9 r) C := by
  have z : ![0, 0] = (fun _ => 0 : Fin 2 → ℕ) := by decide
  have z4 : ![0, 0, 0, 0] = (fun _ => 0 : Fin 4 → ℕ) := by decide
  refine Eq.trans ?_ (outV_apply x0 x1 x2 x3 x4 x5 x6 x7 x8 x9 x10 x11 r C)
  refine congrFun ?_ _
  unfold out0_14 k0_pay8 k0_pay9
  rw [View.canon_unit_zero z]
  repeat rw [View.ld_unit_zero z]
  repeat rw [View.ld_unit_zero z4]
  rw [gated_payload, norm_payload]
  exact congrArg₂ (normV _) (View.ld_unit_zero z _ x10) (View.ld_unit_zero z _ x11)

theorem mod_payload (z : FVec Ideal S128x4096 .f32) (x10 x11 : Vec Ideal S1x4096 .f32)
    (x12 x13 : Vec Ideal S1x1x1x4096 .f32) :
    k0_pay2 (F := Ideal) z (k0_pay7 x10) x11 x12 x13
      = truncf .bf16 (modV (normV z x10 x11) x12 x13) bitsLt_bf16_f32 := by
  rw [← norm_payload]
  rfl

/-- What a grid point stores of the next layer's operand. -/
theorem stored_next (x0 : Vec Ideal S128x4096 .f32) (x1 : Vec Ideal S128x2048 .i32)
    (x2 : Vec Ideal S4096x768 .bf16) (x3 : Vec Ideal S384x4096 .bf16)
    (x4 x5 x6 x7 : Vec Ideal S128x2048 .i32) (x8 : Vec Ideal S128x4 .f32)
    (x9 : Vec Ideal S1x1x1x4096 .f32) (x10 x11 : Vec Ideal S1x4096 .f32)
    (x12 x13 : Vec Ideal S1x1x1x4096 .f32) (r : Fin 128) (C : Fin 4096) :
    out0_15 (F := Ideal) x0 x1 x2 x3 x4 x5 x6 x7 x8 x9 x10 x11 x12 x13 (ix2 r C)
      = next (weights x2 x3 x10 x11) (row x0 x1 x4 x5 x6 x7 x8 x9 r) (fun k => x12 (ix4 0 0 0 k))
        (fun k => x13 (ix4 0 0 0 k)) C := by
  have z : ![0, 0] = (fun _ => 0 : Fin 2 → ℕ) := by decide
  have z4 : ![0, 0, 0, 0] = (fun _ => 0 : Fin 4 → ℕ) := by decide
  refine Eq.trans ?_ (nextV_apply x0 x1 x2 x3 x4 x5 x6 x7 x8 x9 x10 x11 x12 x13 r C)
  unfold out0_15 k0_pay8 k0_pay9
  rw [View.canon_unit_zero z]
  repeat rw [View.ld_unit_zero z]
  repeat rw [View.ld_unit_zero z4]
  rw [gated_payload, mod_payload]
  refine congrFun (congr (congrArg₂ modV (congrArg₂ (normV _) (View.ld_unit_zero z _ x10)
    (View.ld_unit_zero z _ x11)) (View.ld_unit_zero z4 _ x12)) (View.ld_unit_zero z4 _ x13)) _

end Cert.Proof.Moe

end

end
-- ==== Proof.CombineRef.lean ====
module

public import proofs.«01_k».proof.Proof.MoeRow
public import proofs.«01_k».proof.Proof.Gen.CombineReferenceIdeal.Read
public import Idealize.ShloMosaic.Lib.Pipeline.ValueKit
public import Idealize.ShloMosaic.Lib.Pointwise
public import Idealize.ShloMosaic.Lib.IdealHost

@[expose] public section

set_option backward.proofsInPublic true

/-!
The reference of the combination: each of its rows by the row's mathematics.
-/

noncomputable section

namespace Cert.Proof.CombineRef

open Idealize.ShloMosaic Idealize.ShloMosaic.Tactic
open Cert.CombineReferenceIdeal Cert.CombineReferenceIdeal.Read
open Cert.Proof.Moe

variable (x : Vec Ideal S16640x4096 .f32) (tok : Vec Ideal S16640x2048 .i32)
  (g u : Vec Ideal S4096x384 .f32) (d : Vec Ideal S384x4096 .f32)
  (ys : Vec Ideal S67072x2048 .i32) (w : Vec Ideal S16640x4 .f32)
  (mods : Vec Ideal S2x6x1x4096 .f32) (gain bias : Vec Ideal S4096 .f32)
  (nexts : Vec Ideal S2x6x1x4096 .f32)

/-- The weights, from the reference's arguments. -/
def weights : Weights where
  g k j := g (ix2 k j)
  u k j := u (ix2 k j)
  d j C := d (ix2 j C)
  gain C := gain (ix1 C)
  bias C := bias (ix1 C)

/-- The modulation's half of a row: the latent rows first, then the context. -/
def half (R : Fin 16640) : Fin 2 := ⟨R.val / 16384, by omega⟩

/-- A row, from the reference's arguments. -/
def row (R : Fin 16640) : Row where
  x C := x (ix2 R C)
  tok j := tok (ix2 R j)
  y k j := ys (ix2 ⟨16640 * k.val + R.val, by omega⟩ j)
  w k := w (ix2 R k)
  gate C := mods (ix4 (half R) 5 0 C)

theorem shift_word (x : BitVec 32) : IntOp.shli .host x 16#32 = x <<< (16 : ℕ) := by
  unfold IntOp.shli
  rw [if_pos (by decide)]
  rfl

theorem tok_apply (R : Fin 16640) (k : Fin 4096) :
    val_main_v6 (F := Ideal) tok (ix2 R k) = unp (fun j => tok (ix2 R j)) k := by
  unfold val_main_v6 val_main_v5 val_main_v4 val_main_v3 val_main_v2 val_main_v1 val_main_v0
    val_main_c_0 val_main_c unp
  pointwise
  split
  · exact congrArg (Ideal.ofBits .f32) (shift_word _)
  · rfl

theorem slot_apply (k : Fin 4) (R : Fin 16640) (C : Fin 4096) :
    val_main_v20 (F := Ideal) ys (ix3 k R C)
      = unp (fun j => ys (ix2 ⟨16640 * k.val + R.val, by omega⟩ j)) C := by
  have h : val_main_v20 (F := Ideal) ys (ix3 k R C)
      = val_main_v19 (F := Ideal) ys (ix2 ⟨16640 * k.val + R.val, by omega⟩ C) := by
    rw [val_main_v20_apply]
    refine congrArg _ (funext fun a => Fin.ext ?_)
    have := C.isLt
    match a with
    | ⟨0, _⟩ =>
      show ((k.val * 16640 + R.val) * 4096 + C.val) / 4096 = 16640 * k.val + R.val; omega
    | ⟨1, _⟩ => show ((k.val * 16640 + R.val) * 4096 + C.val) % 4096 = C.val; omega
  rw [h]
  unfold val_main_v19 val_main_v18 val_main_v17 val_main_v16 val_main_v15 val_main_v14 val_main_v13
    val_main_v12 val_main_c_1 val_main_c_2 unp
  pointwise
  split
  · exact congrArg (Ideal.ofBits .f32) (shift_word _)
  · rfl

theorem one_word : (FloatOps.ofBits .f32 0x3F800000#32 : Ideal .f32) = 1 :=
  Ideal.ofBits_one_f32

theorem hidden_apply (R : Fin 16640) (j : Fin 384) :
    val_main_v10 (F := Ideal) tok g u (ix2 R j)
      = swish (val_main_v7 (F := Ideal) tok g (ix2 R j)) (val_main_v9 (F := Ideal) tok u (ix2 R j)) := by
  rw [val_main_v10_apply, val_main_v8_apply, val_main_call0_v5_apply, val_main_call0_v4_apply,
    val_main_call0_v3_apply, val_main_call0_v2_apply, val_main_call0_v1_apply,
    val_main_call0_v0_apply, val_main_call0_cst_apply, val_main_call0_cst_0_apply, one_word]
  rfl

theorem shared_apply (R : Fin 16640) (C : Fin 4096) :
    val_main_v11 (F := Ideal) tok g u d (ix2 R C)
      = shared (weights g u d gain bias) (fun j => tok (ix2 R j)) C := by
  unfold val_main_v11 shared
  pointwise
  refine Finset.sum_congr rfl fun j _ => ?_
  rw [hidden_apply]
  unfold val_main_v7 val_main_v9
  pointwise [tok_apply]
  rfl

theorem zero_word : (FloatOps.ofBits .f32 0x00000000#32 : Ideal .f32) = 0 :=
  Ideal.ofBits_zero_f32

theorem routed_apply (R : Fin 16640) (C : Fin 4096) :
    val_main_v25 (F := Ideal) ys w (ix2 R C)
      = ∑ k : Fin 4, (w (ix2 R k) * unp (fun j => ys (ix2 ⟨16640 * k.val + R.val, by omega⟩ j)) C
          : EReal) := by
  rw [val_main_v25_apply, val_main_cst_apply]
  refine (congrArg (· + _) zero_word).trans ((zero_add _).trans (Finset.sum_congr rfl fun k _ => ?_))
  rw [val_main_v24_apply, val_main_v23_apply, val_main_v22_apply, val_main_v21_apply,
    ← slot_apply ys k R C]
  refine congr (congrArg HMul.hMul (congrArg w (funext fun a => ?_)))
    (congrArg (val_main_v20 (F := Ideal) ys) (funext fun a => ?_))
  · match a with | ⟨0, _⟩ => rfl | ⟨1, _⟩ => rfl
  · match a with | ⟨0, _⟩ => rfl | ⟨1, _⟩ => rfl | ⟨2, _⟩ => rfl

theorem gate_apply (R : Fin 16640) (C : Fin 4096) :
    val_main_v35 (F := Ideal) mods (ix2 R C) = mods (ix4 (half R) 5 0 C) := by
  unfold val_main_v35 val_main_v34 val_main_v33 val_main_v32 val_main_v31 val_main_v30 val_main_v29
    half
  pointwise
  split
  · refine congrArg (fun a : Fin 2 => mods (ix4 a 5 0 C)) (Fin.ext ?_)
    show 0 = R.val / 16384
    omega
  · refine congrArg (fun a : Fin 2 => mods (ix4 a 5 0 C)) (Fin.ext ?_)
    show 1 = R.val / 16384
    omega

theorem pre_apply (R : Fin 16640) (C : Fin 4096) :
    val_main_v37 (F := Ideal) x tok g u d ys w mods (ix2 R C)
      = pre (weights g u d gain bias) (row x tok ys w mods R) C := by
  rw [val_main_v37_apply, val_main_v36_apply, val_main_v28_apply, val_main_v27_apply,
    val_main_v26_apply, gate_apply, routed_apply, shared_apply tok g u d gain bias,
    val_main_cst_3_apply, Fin.sum_univ_four]
  unfold pre
  simp only [row, add_assoc]
  rfl

theorem mean_apply (R : Fin 16640) (q : Fin 1) :
    val_main_v41 (F := Ideal) x tok g u d ys w mods (ix2 R q)
      = mean (pre (weights g u d gain bias) (row x tok ys w mods R)) := by
  rw [show pre (weights g u d gain bias) (row x tok ys w mods R)
      = fun k => val_main_v37 (F := Ideal) x tok g u d ys w mods (ix2 R k) from
    funext fun k => (pre_apply x tok g u d ys w mods gain bias R k).symm]
  unfold val_main_v41 val_main_v40 val_main_v39 val_main_v38 val_main_cst_4 val_main_cst_5 mean
  generalize val_main_v37 (F := Ideal) x tok g u d ys w mods = y
  pointwise

theorem centre_apply (R : Fin 16640) (C : Fin 4096) :
    val_main_v43 (F := Ideal) x tok g u d ys w mods (ix2 R C)
      = (pre (weights g u d gain bias) (row x tok ys w mods R) C
          - mean (pre (weights g u d gain bias) (row x tok ys w mods R)) : EReal) := by
  rw [val_main_v43_apply, val_main_v42_apply, pre_apply x tok g u d ys w mods gain bias,
    show idx_main_v42 (ix2 R C) = ix2 R 0 from
      funext fun a => by match a with | ⟨0, _⟩ => rfl | ⟨1, _⟩ => rfl,
    mean_apply x tok g u d ys w mods gain bias]
  rfl

theorem spread_apply (R : Fin 16640) (q : Fin 1) :
    val_main_v48 (F := Ideal) x tok g u d ys w mods (ix2 R q)
      = mean (fun k => (pre (weights g u d gain bias) (row x tok ys w mods R) k
          - mean (pre (weights g u d gain bias) (row x tok ys w mods R)))
        * (pre (weights g u d gain bias) (row x tok ys w mods R) k
          - mean (pre (weights g u d gain bias) (row x tok ys w mods R)))) := by
  simp only [← centre_apply x tok g u d ys w mods gain bias]
  unfold val_main_v48 val_main_v47 val_main_v46 val_main_v45 val_main_v44 val_main_cst_6
    val_main_cst_7 mean
  generalize val_main_v43 (F := Ideal) x tok g u d ys w mods = y
  pointwise

/-- A row of the reference's first result. -/
theorem out_apply (R : Fin 16640) (C : Fin 4096) :
    val_main_v61 (F := Ideal) x tok g u d ys w mods gain bias (ix2 R C)
      = out (weights g u d gain bias) (row x tok ys w mods R) C := by
  have hb : val_main_v60 (F := Ideal) bias (ix2 R C) = bias (ix1 C) := by
    unfold val_main_v60 val_main_v59
    pointwise
  have hg : val_main_v57 (F := Ideal) gain (ix2 R C) = gain (ix1 C) := by
    unfold val_main_v57 val_main_v56
    pointwise
  rw [val_main_v61_apply, val_main_v58_apply, val_main_v55_apply, hb, hg, val_main_v54_apply,
    val_main_v53_apply, val_main_v52_apply, val_main_v51_apply, val_main_cst_8_apply,
    show idx_main_v54 (ix2 R C) = ix2 R 0 from
      funext fun a => by match a with | ⟨0, _⟩ => rfl | ⟨1, _⟩ => rfl,
    spread_apply x tok g u d ys w mods gain bias,
    show val_main_v50 (F := Ideal) x tok g u d ys w mods (ix2 R C)
      = val_main_v43 (F := Ideal) x tok g u d ys w mods (ix2 R C) from rfl,
    centre_apply x tok g u d ys w mods gain bias]
  rfl

/-- A row of the reference's second result. -/
theorem next_apply (R : Fin 16640) (C : Fin 4096) :
    val_main_v80 (F := Ideal) x tok g u d ys w mods gain bias nexts (ix2 R C)
      = next (weights g u d gain bias) (row x tok ys w mods R) (fun k => nexts (ix4 (half R) 1 0 k))
        (fun k => nexts (ix4 (half R) 0 0 k)) C := by
  have hs : val_main_v68 (F := Ideal) nexts (ix2 R C) = nexts (ix4 (half R) 1 0 C) := by
    unfold val_main_v68 val_main_v67 val_main_v66 val_main_v65 val_main_v64 val_main_v63
      val_main_v62 half
    pointwise
    split
    · refine congrArg (fun a : Fin 2 => nexts (ix4 a 1 0 C)) (Fin.ext ?_)
      show 0 = R.val / 16384
      omega
    · refine congrArg (fun a : Fin 2 => nexts (ix4 a 1 0 C)) (Fin.ext ?_)
      show 1 = R.val / 16384
      omega
  have ht : val_main_v78 (F := Ideal) nexts (ix2 R C) = nexts (ix4 (half R) 0 0 C) := by
    unfold val_main_v78 val_main_v77 val_main_v76 val_main_v75 val_main_v74 val_main_v73
      val_main_v72 half
    pointwise
    split
    · refine congrArg (fun a : Fin 2 => nexts (ix4 a 0 0 C)) (Fin.ext ?_)
      show 0 = R.val / 16384
      omega
    · refine congrArg (fun a : Fin 2 => nexts (ix4 a 0 0 C)) (Fin.ext ?_)
      show 1 = R.val / 16384
      omega
  rw [val_main_v80_apply, val_main_v79_apply, val_main_v71_apply, val_main_v70_apply,
    val_main_v69_apply, val_main_cst_9_apply, hs, ht, out_apply]
  rfl

end Cert.Proof.CombineRef

end

end
-- ==== Proof.Combine.lean ====
module

public import proofs.«01_k».proof.Defs
public import proofs.«01_k».proof.Proof.MoeBlock
public import proofs.«01_k».proof.Proof.CombineRef
public import proofs.«01_k».proof.Proof.Gen.CombineIdeal.Value
public import proofs.«01_k».proof.Proof.Gen.CombineReferenceIdeal.Run
public import Idealize.ShloMosaic.Lib.Quiescent

@[expose] public section

set_option backward.proofsInPublic true

/-!
The combination of the experts: every grid point writes its block of rows of both results.
-/

noncomputable section

namespace Cert.Proof.Combine

open Idealize.ShloMosaic Idealize.ShloMosaic.TcCoe Idealize.ShloMosaic.Tactic
open Idealize.SL.Sem
open Cert.CombineIdeal Cert.CombineIdeal.Gen
open Cert.Proof.Moe

/-- Blocks that hold the reference's weights are the reference's weights. -/
theorem weights_of (gu : Vec Ideal S4096x768 .bf16) (dn : Vec Ideal S384x4096 .bf16)
    (gb bb : Vec Ideal S1x4096 .f32) (g u : Vec Ideal S4096x384 .f32) (d : Vec Ideal S384x4096 .f32)
    (gain bias : Vec Ideal S4096 .f32)
    (hg : ∀ (k : Fin 4096) (j : Fin 384),
      gu (ix2 k (⟨j.val, by omega⟩ : Fin 768)) = (g (ix2 k j) : EReal))
    (hu : ∀ (k : Fin 4096) (j : Fin 384),
      gu (ix2 k (⟨384 + j.val, by omega⟩ : Fin 768)) = (u (ix2 k j) : EReal))
    (hd : ∀ (j : Fin 384) (k : Fin 4096), dn (ix2 j k) = (d (ix2 j k) : EReal))
    (ha : ∀ k : Fin 4096, gb (ix2 0 k) = gain (ix1 k))
    (hb : ∀ k : Fin 4096, bb (ix2 0 k) = bias (ix1 k)) :
    Moe.weights gu dn gb bb = CombineRef.weights g u d gain bias := by
  unfold Moe.weights CombineRef.weights
  congr 1
  · funext k j; exact hg k j
  · funext k j; exact hu k j
  · funext j k; exact hd j k
  · funext k; exact ha k
  · funext k; exact hb k

/-- Blocks that hold a row of the reference's arguments at `r` have the reference's row there. -/
theorem row_of (xb : Vec Ideal S128x4096 .f32) (tb y0 y1 y2 y3 : Vec Ideal S128x2048 .i32)
    (wb : Vec Ideal S128x4 .f32) (gb : Vec Ideal S1x1x1x4096 .f32)
    (x : Vec Ideal S16640x4096 .f32) (tok : Vec Ideal S16640x2048 .i32)
    (ys : Vec Ideal S67072x2048 .i32) (w : Vec Ideal S16640x4 .f32)
    (mods : Vec Ideal S2x6x1x4096 .f32) (r : Fin 128) (R : Fin 16640)
    (hx : ∀ k : Fin 4096, xb (ix2 r k) = x (ix2 R k))
    (ht : ∀ k : Fin 2048, tb (ix2 r k) = tok (ix2 R k))
    (h0 : ∀ k : Fin 2048, y0 (ix2 r k) = ys (ix2 ⟨R.val, by omega⟩ k))
    (h1 : ∀ k : Fin 2048, y1 (ix2 r k) = ys (ix2 ⟨16640 + R.val, by omega⟩ k))
    (h2 : ∀ k : Fin 2048, y2 (ix2 r k) = ys (ix2 ⟨33280 + R.val, by omega⟩ k))
    (h3 : ∀ k : Fin 2048, y3 (ix2 r k) = ys (ix2 ⟨49920 + R.val, by omega⟩ k))
    (hw : ∀ k : Fin 4, wb (ix2 r k) = w (ix2 R k))
    (hm : ∀ k : Fin 4096, gb (ix4 0 0 0 k) = mods (ix4 (CombineRef.half R) 5 0 k)) :
    Moe.row xb tb y0 y1 y2 y3 wb gb r = CombineRef.row x tok ys w mods R := by
  unfold Moe.row CombineRef.row
  congr 1
  · funext k; exact hx k
  · funext k; exact ht k
  · funext k j
    match k with
    | ⟨0, _⟩ =>
      exact (h0 j).trans (congrArg (fun a => ys (ix2 a j)) (Fin.ext (by
        show R.val = 16640 * 0 + R.val; omega)))
    | ⟨1, _⟩ =>
      exact (h1 j).trans (congrArg (fun a => ys (ix2 a j)) (Fin.ext (by
        show 16640 + R.val = 16640 * 1 + R.val; omega)))
    | ⟨2, _⟩ =>
      exact (h2 j).trans (congrArg (fun a => ys (ix2 a j)) (Fin.ext (by
        show 33280 + R.val = 16640 * 2 + R.val; omega)))
    | ⟨3, _⟩ =>
      exact (h3 j).trans (congrArg (fun a => ys (ix2 a j)) (Fin.ext (by
        show 49920 + R.val = 16640 * 3 + R.val; omega)))
  · funext k; exact hw k
  · funext k; exact hm k

/-- The shared expert's two projections side by side, as the host lays them out. -/
def joined (g u : Vec Ideal S4096x384 .f32) : Vec Ideal S4096x768 .bf16 :=
  truncf (F := Ideal) (φ := .f32) .bf16 (concatenate S4096x768 1
    [⟨S4096x384, g⟩, ⟨S4096x384, u⟩] concatenates_S4096x384_S4096x384_S4096x768_d1)
    bitsLt_bf16_f32

theorem joined_left (g u : Vec Ideal S4096x384 .f32) (k : Fin 4096) (j : Fin 384) :
    joined g u (ix2 k (⟨j.val, by omega⟩ : Fin 768)) = (g (ix2 k j) : EReal) := by
  unfold joined
  pointwise

theorem joined_right (g u : Vec Ideal S4096x384 .f32) (k : Fin 4096) (j : Fin 384) :
    joined g u (ix2 k (⟨384 + j.val, by omega⟩ : Fin 768)) = (u (ix2 k j) : EReal) := by
  unfold joined
  pointwise

variable (m : (ℓ : Loc nD τ sig) → Buf (Elt Ideal) ℓ)

/-- The arguments of a device. -/
abbrev argX (c : Dev nD) : Vec Ideal S16640x4096 .f32 := m ((c : Thread nD τ).loc main_arg0)
abbrev argT (c : Dev nD) : Vec Ideal S16640x2048 .i32 := m ((c : Thread nD τ).loc main_arg1)
abbrev argG (c : Dev nD) : Vec Ideal S4096x384 .f32 := m ((c : Thread nD τ).loc main_arg2)
abbrev argU (c : Dev nD) : Vec Ideal S4096x384 .f32 := m ((c : Thread nD τ).loc main_arg3)
abbrev argD (c : Dev nD) : Vec Ideal S384x4096 .f32 := m ((c : Thread nD τ).loc main_arg4)
abbrev argY (c : Dev nD) : Vec Ideal S67072x2048 .i32 := m ((c : Thread nD τ).loc main_arg5)
abbrev argW (c : Dev nD) : Vec Ideal S16640x4 .f32 := m ((c : Thread nD τ).loc main_arg6)
abbrev argM (c : Dev nD) : Vec Ideal S2x6x1x4096 .f32 := m ((c : Thread nD τ).loc main_arg7)
abbrev argGain (c : Dev nD) : Vec Ideal S4096 .f32 := m ((c : Thread nD τ).loc main_arg8)
abbrev argBias (c : Dev nD) : Vec Ideal S4096 .f32 := m ((c : Thread nD τ).loc main_arg9)
abbrev argN (c : Dev nD) : Vec Ideal S2x6x1x4096 .f32 := m ((c : Thread nD τ).loc main_arg10)

theorem idx0 (t : Fin cfg0.N) : win0_0.index t = ![(grid0.coords t 0).val, 0] := by
  revert t; decide +kernel
theorem idx1 (t : Fin cfg0.N) : win0_1.index t = ![(grid0.coords t 0).val, 0] := by
  revert t; decide +kernel
theorem idx2 (t : Fin cfg0.N) : win0_2.index t = ![0, 0] := by
  revert t; decide +kernel
theorem idx3 (t : Fin cfg0.N) : win0_3.index t = ![0, 0] := by
  revert t; decide +kernel
theorem idx4 (t : Fin cfg0.N) : win0_4.index t = ![(grid0.coords t 0).val, 0] := by
  revert t; decide +kernel
theorem idx5 (t : Fin cfg0.N) : win0_5.index t = ![130 + (grid0.coords t 0).val, 0] := by
  revert t; decide +kernel
theorem idx6 (t : Fin cfg0.N) : win0_6.index t = ![260 + (grid0.coords t 0).val, 0] := by
  revert t; decide +kernel
theorem idx7 (t : Fin cfg0.N) : win0_7.index t = ![390 + (grid0.coords t 0).val, 0] := by
  revert t; decide +kernel
theorem idx8 (t : Fin cfg0.N) : win0_8.index t = ![(grid0.coords t 0).val, 0] := by
  revert t; decide +kernel
theorem idx9 (t : Fin cfg0.N) : win0_9.index t = ![(grid0.coords t 0).val / 128, 5, 0, 0] := by
  revert t; decide +kernel
theorem idx10 (t : Fin cfg0.N) : win0_10.index t = ![0, 0] := by
  revert t; decide +kernel
theorem idx11 (t : Fin cfg0.N) : win0_11.index t = ![0, 0] := by
  revert t; decide +kernel
theorem idx12 (t : Fin cfg0.N) : win0_12.index t = ![(grid0.coords t 0).val / 128, 1, 0, 0] := by
  revert t; decide +kernel
theorem idx13 (t : Fin cfg0.N) : win0_13.index t = ![(grid0.coords t 0).val / 128, 0, 0, 0] := by
  revert t; decide +kernel
theorem idx14 (t : Fin cfg0.N) : win0_14.index t = ![(grid0.coords t 0).val, 0] := by
  revert t; decide +kernel
theorem idx15 (t : Fin cfg0.N) : win0_15.index t = ![(grid0.coords t 0).val, 0] := by
  revert t; decide +kernel

/-- A grid point is below 130. -/
theorem point_lt (t : Fin cfg0.N) : (grid0.coords t 0).val < 130 := (grid0.coords t 0).isLt

/-- The row of the arrays that a row of a grid point's blocks is. -/
def at_row (t : Fin cfg0.N) (r : Fin 128) : Fin 16640 :=
  ⟨128 * (grid0.coords t 0).val + r.val, by have := point_lt t; omega⟩

theorem x_block (c : Dev nD) (t : Fin cfg0.N) (r : Fin 128) (k : Fin 4096) :
    iblk m c 0 t (ix2 r k) = argX m c (ix2 (at_row t r) k) := by
  unfold at_row
  blk_ext [iblk, V_main_arg0, idx0 t]

theorem tok_block (c : Dev nD) (t : Fin cfg0.N) (r : Fin 128) (k : Fin 2048) :
    iblk m c 1 t (ix2 r k) = argT m c (ix2 (at_row t r) k) := by
  unfold at_row
  blk_ext [iblk, V_main_arg1, idx1 t]

theorem V_joined (c : Dev nD) : V m c main_v1 = joined (argG m c) (argU m c) := by
  rfl

theorem joined_block (c : Dev nD) (t : Fin cfg0.N) (k : Fin 4096) (j : Fin 768) :
    iblk m c 2 t (ix2 k j) = joined (argG m c) (argU m c) (ix2 k j) := by
  blk_ext [iblk, V_joined, idx2 t]

theorem g_block (c : Dev nD) (t : Fin cfg0.N) (k : Fin 4096) (j : Fin 384) :
    iblk m c 2 t (ix2 k (⟨j.val, by omega⟩ : Fin 768)) = (argG m c (ix2 k j) : EReal) :=
  (joined_block m c t k ⟨j.val, by omega⟩).trans (joined_left _ _ k j)

theorem u_block (c : Dev nD) (t : Fin cfg0.N) (k : Fin 4096) (j : Fin 384) :
    iblk m c 2 t (ix2 k (⟨384 + j.val, by omega⟩ : Fin 768)) = (argU m c (ix2 k j) : EReal) :=
  (joined_block m c t k ⟨384 + j.val, by omega⟩).trans (joined_right _ _ k j)

theorem d_block (c : Dev nD) (t : Fin cfg0.N) (j : Fin 384) (k : Fin 4096) :
    iblk m c 3 t (ix2 j k) = (argD m c (ix2 j k) : EReal) := by
  blk_ext! [iblk, V, idx3 t]

theorem y0_block (c : Dev nD) (t : Fin cfg0.N) (r : Fin 128) (k : Fin 2048) :
    iblk m c 4 t (ix2 r k) = argY m c (ix2 ⟨(at_row t r).val, by omega⟩ k) := by
  unfold at_row
  blk_ext [iblk, V_main_arg5, idx4 t]

theorem y1_block (c : Dev nD) (t : Fin cfg0.N) (r : Fin 128) (k : Fin 2048) :
    iblk m c 5 t (ix2 r k) = argY m c (ix2 ⟨16640 + (at_row t r).val, by omega⟩ k) := by
  unfold at_row
  blk_ext [iblk, V_main_arg5, idx5 t]

theorem y2_block (c : Dev nD) (t : Fin cfg0.N) (r : Fin 128) (k : Fin 2048) :
    iblk m c 6 t (ix2 r k) = argY m c (ix2 ⟨33280 + (at_row t r).val, by omega⟩ k) := by
  unfold at_row
  blk_ext [iblk, V_main_arg5, idx6 t]

theorem y3_block (c : Dev nD) (t : Fin cfg0.N) (r : Fin 128) (k : Fin 2048) :
    iblk m c 7 t (ix2 r k) = argY m c (ix2 ⟨49920 + (at_row t r).val, by omega⟩ k) := by
  unfold at_row
  blk_ext [iblk, V_main_arg5, idx7 t]

theorem w_block (c : Dev nD) (t : Fin cfg0.N) (r : Fin 128) (k : Fin 4) :
    iblk m c 8 t (ix2 r k) = argW m c (ix2 (at_row t r) k) := by
  unfold at_row
  blk_ext [iblk, V_main_arg6, idx8 t]

/-- The modulation's half of a grid point. -/
def half (t : Fin cfg0.N) : Fin 2 := ⟨(grid0.coords t 0).val / 128, by have := point_lt t; omega⟩

theorem half_eq (t : Fin cfg0.N) (r : Fin 128) : CombineRef.half (at_row t r) = half t := by
  refine Fin.ext ?_
  show (128 * (grid0.coords t 0).val + r.val) / 16384 = (grid0.coords t 0).val / 128
  omega

theorem gate_block (c : Dev nD) (t : Fin cfg0.N) (k : Fin 4096) :
    iblk m c 9 t (ix4 0 0 0 k) = argM m c (ix4 (half t) 5 0 k) := by
  unfold half
  blk_ext [iblk, V_main_arg7, idx9 t]

theorem gain_block (c : Dev nD) (t : Fin cfg0.N) (k : Fin 4096) :
    iblk m c 10 t (ix2 0 k) = argGain m c (ix1 k) := by
  blk_ext! [iblk, V, idx10 t]

theorem bias_block (c : Dev nD) (t : Fin cfg0.N) (k : Fin 4096) :
    iblk m c 11 t (ix2 0 k) = argBias m c (ix1 k) := by
  blk_ext! [iblk, V, idx11 t]

theorem scale_block (c : Dev nD) (t : Fin cfg0.N) (k : Fin 4096) :
    iblk m c 12 t (ix4 0 0 0 k) = argN m c (ix4 (half t) 1 0 k) := by
  unfold half
  blk_ext [iblk, V_main_arg10, idx12 t]

theorem shift_block (c : Dev nD) (t : Fin cfg0.N) (k : Fin 4096) :
    iblk m c 13 t (ix4 0 0 0 k) = argN m c (ix4 (half t) 0 0 k) := by
  unfold half
  blk_ext [iblk, V_main_arg10, idx13 t]

/-- The weights a grid point reads are the reference's. -/
theorem weights_eq (c : Dev nD) (t : Fin cfg0.N) :
    Moe.weights (iblk m c 2 t) (iblk m c 3 t) (iblk m c 10 t) (iblk m c 11 t)
      = CombineRef.weights (argG m c) (argU m c) (argD m c) (argGain m c) (argBias m c) :=
  weights_of _ _ _ _ _ _ _ _ _ (g_block m c t) (u_block m c t) (d_block m c t) (gain_block m c t)
    (bias_block m c t)

/-- A row of a grid point's blocks is the reference's. -/
theorem row_eq (c : Dev nD) (t : Fin cfg0.N) (r : Fin 128) :
    Moe.row (iblk m c 0 t) (iblk m c 1 t) (iblk m c 4 t) (iblk m c 5 t) (iblk m c 6 t)
        (iblk m c 7 t) (iblk m c 8 t) (iblk m c 9 t) r
      = CombineRef.row (argX m c) (argT m c) (argY m c) (argW m c) (argM m c) (at_row t r) :=
  row_of _ _ _ _ _ _ _ _ _ _ _ _ _ r (at_row t r) (x_block m c t r) (tok_block m c t r)
    (y0_block m c t r) (y1_block m c t r) (y2_block m c t r) (y3_block m c t r) (w_block m c t r)
    fun k => by
      rw [half_eq]
      exact gate_block m c t k

/-- The reference's results at a device's arguments. -/
def resultX (c : Dev nD) : Vec Ideal S16640x4096 .f32 :=
  Cert.CombineReferenceIdeal.Read.val_main_v61 (F := Ideal) (argX m c) (argT m c) (argG m c)
    (argU m c) (argD m c) (argY m c) (argW m c) (argM m c) (argGain m c) (argBias m c)
def resultH (c : Dev nD) : Vec Ideal S16640x4096 .bf16 :=
  Cert.CombineReferenceIdeal.Read.val_main_v80 (F := Ideal) (argX m c) (argT m c) (argG m c)
    (argU m c) (argD m c) (argY m c) (argW m c) (argM m c) (argGain m c) (argBias m c) (argN m c)

/-- Every grid point writes its block of the first result. -/
theorem blockX (c : Dev nD) (t : Fin cfg0.N) (r : Fin 128) (k : Fin 4096) :
    out0_14 (F := Ideal) (iblk m c 0 t) (iblk m c 1 t) (iblk m c 2 t) (iblk m c 3 t) (iblk m c 4 t)
        (iblk m c 5 t) (iblk m c 6 t) (iblk m c 7 t) (iblk m c 8 t) (iblk m c 9 t) (iblk m c 10 t)
        (iblk m c 11 t) (iblk m c 12 t) (iblk m c 13 t) (ix2 r k)
      = resultX m c (ix2 (at_row t r) k) := by
  refine (stored_out _ _ _ _ _ _ _ _ _ _ _ _ _ _ r k).trans ?_
  rw [weights_eq, row_eq]
  exact (CombineRef.out_apply _ _ _ _ _ _ _ _ _ _ (at_row t r) k).symm

/-- Every grid point writes its block of the second result. -/
theorem blockH (c : Dev nD) (t : Fin cfg0.N) (r : Fin 128) (k : Fin 4096) :
    out0_15 (F := Ideal) (iblk m c 0 t) (iblk m c 1 t) (iblk m c 2 t) (iblk m c 3 t) (iblk m c 4 t)
        (iblk m c 5 t) (iblk m c 6 t) (iblk m c 7 t) (iblk m c 8 t) (iblk m c 9 t) (iblk m c 10 t)
        (iblk m c 11 t) (iblk m c 12 t) (iblk m c 13 t) (ix2 r k)
      = resultH m c (ix2 (at_row t r) k) := by
  refine (stored_next _ _ _ _ _ _ _ _ _ _ _ _ _ _ r k).trans ?_
  rw [weights_eq, row_eq]
  refine Eq.trans ?_ (CombineRef.next_apply _ _ _ _ _ _ _ _ _ _ _ (at_row t r) k).symm
  rw [half_eq]
  simp only [scale_block, shift_block]

/-- A block's index by its two coordinates. -/
theorem at_coords (y : S128x4096.Idx) : y = ix2 (n0 := 128) (n1 := 4096) (y 0) (y 1) := by
  funext a; match a with | ⟨0, _⟩ => rfl | ⟨1, _⟩ => rfl

/-- The arrays the program leaves are the reference's results. -/
theorem arrX (c : Dev nD) : (dats m 0 c).arrAt 14 (cfgs 0).N = resultX m c := by
  refine (dats m 0 c).arrAt_eq_of_covers 14 _ (by decide +kernel) fun t hf y => ?_
  blk_simp
  rw [after0_14]
  refine ((congrArg (out0_14 _ _ _ _ _ _ _ _ _ _ _ _ _ _) (at_coords y)).trans
    (blockX m c t (y 0) (y 1))).trans ?_
  generalize resultX m c = G
  unfold at_row
  blk_ext [idx14 t]

theorem arrH (c : Dev nD) : (dats m 0 c).arrAt 15 (cfgs 0).N = resultH m c := by
  refine (dats m 0 c).arrAt_eq_of_covers 15 _ (by decide +kernel) fun t hf y => ?_
  blk_simp
  rw [after0_15]
  refine ((congrArg (out0_15 _ _ _ _ _ _ _ _ _ _ _ _ _ _) (at_coords y)).trans
    (blockH m c t (y 0) (y 1))).trans ?_
  generalize resultH m c = G
  unfold at_row
  blk_ext [idx15 t]

theorem frame_ri : Cert.quiescent_CombineReferenceIdeal := fun m ρ _ =>
  (θ_run Cert.CombineReferenceIdeal.defs _ _).mono (fun r h => ⟨fun c => (h c).2.2,
      Idealize.ShloMosaic.sem_eq_zero_of_no_sems (by decide) r.2⟩)
    (Cert.CombineReferenceIdeal.Value.run (F := Ideal) m ρ)

theorem algebraic : Cert.algebraic_CombineIdeal_CombineReferenceIdeal := by
  intro m ρ m' ρ' _ hagree
  refine ⟨fun c => resultX m c, fun c => resultH m c, ?_, ?_⟩
  · exact (θ_run Cert.CombineIdeal.defs _ _).mono
      (fun _ h c => ⟨(h c).1.trans (arrX m c), (h c).2.1.trans (arrH m c), (h c).2.2⟩)
      (Cert.CombineIdeal.Value.run_blocks (F := Ideal) m ρ)
  · refine (θ_run Cert.CombineReferenceIdeal.defs _ _).mono
      (fun _ h c => ⟨(h c).1.trans ?_, (h c).2.1.trans ?_, (h c).2.2⟩)
      (Cert.CombineReferenceIdeal.Value.run (F := Ideal) m' ρ')
    · obtain ⟨h0, h1, h2, h3, h4, h5, h6, h7, h8, h9, h10⟩ := hagree c
      rw [Cert.CombineReferenceIdeal.Read.val_main_v61_eq, h0, h1, h2, h3, h4, h5, h6, h7, h8, h9]
      rfl
    · obtain ⟨h0, h1, h2, h3, h4, h5, h6, h7, h8, h9, h10⟩ := hagree c
      rw [Cert.CombineReferenceIdeal.Read.val_main_v80_eq, h0, h1, h2, h3, h4, h5, h6, h7, h8, h9,
        h10]
      rfl

end Cert.Proof.Combine

end

end
-- ==== Proof.CombineLastRef.lean ====
module

public import proofs.«01_k».proof.Proof.CombineRef
public import proofs.«01_k».proof.Proof.Gen.CombineLastReferenceIdeal.Read

@[expose] public section

set_option backward.proofsInPublic true

/-!
The reference of the last layer's combination, which keeps the latent rows and stops at the layer
norm: each of its rows by the row's mathematics.
-/

noncomputable section

namespace Cert.Proof.CombineLastRef

open Idealize.ShloMosaic Idealize.ShloMosaic.Tactic
open Cert.CombineLastReferenceIdeal Cert.CombineLastReferenceIdeal.Read
open Cert.Proof.Moe
open Cert.Proof.CombineRef (weights row shift_word one_word zero_word)

variable (x : Vec Ideal S16640x4096 .f32) (tok : Vec Ideal S16640x2048 .i32)
  (g u : Vec Ideal S4096x384 .f32) (d : Vec Ideal S384x4096 .f32)
  (ys : Vec Ideal S67072x2048 .i32) (w : Vec Ideal S16640x4 .f32)
  (mods : Vec Ideal S2x6x1x4096 .f32) (gain bias : Vec Ideal S4096 .f32)

/-- A latent row among all the rows. -/
def up (R : Fin 16384) : Fin 16640 := ⟨R.val, by omega⟩

/-- The gated sum of a latent row. -/
abbrev preRow (R : Fin 16384) : Fin 4096 → EReal :=
  pre (weights g u d gain bias) (row x tok ys w mods (up R))

theorem tok_apply (R : Fin 16384) (k : Fin 4096) :
    val_main_v7 (F := Ideal) tok (ix2 R k) = unp (fun j => tok (ix2 (up R) j)) k := by
  unfold val_main_v7 val_main_v6 val_main_v5 val_main_v4 val_main_v3 val_main_v2 val_main_v1
    val_main_v0 val_main_c_0 val_main_c unp up
  pointwise
  split
  · exact congrArg (Ideal.ofBits .f32) (shift_word _)
  · rfl

/-- The slots' rows are unpacked as in the other layers. -/
theorem slots_eq : val_main_v21 (F := Ideal) ys
    = Cert.CombineReferenceIdeal.Read.val_main_v20 (F := Ideal) ys := by
  rfl

theorem hidden_apply (R : Fin 16384) (j : Fin 384) :
    val_main_v11 (F := Ideal) tok g u (ix2 R j)
      = swish (val_main_v8 (F := Ideal) tok g (ix2 R j))
          (val_main_v10 (F := Ideal) tok u (ix2 R j)) := by
  rw [val_main_v11_apply, val_main_v9_apply, val_main_call0_v5_apply, val_main_call0_v4_apply,
    val_main_call0_v3_apply, val_main_call0_v2_apply, val_main_call0_v1_apply,
    val_main_call0_v0_apply, val_main_call0_cst_apply, val_main_call0_cst_0_apply, one_word]
  rfl

theorem shared_apply (R : Fin 16384) (C : Fin 4096) :
    val_main_v12 (F := Ideal) tok g u d (ix2 R C)
      = shared (weights g u d gain bias) (fun j => tok (ix2 (up R) j)) C := by
  unfold val_main_v12 shared
  pointwise
  refine Finset.sum_congr rfl fun j _ => ?_
  rw [hidden_apply]
  unfold val_main_v8 val_main_v10
  pointwise [tok_apply]
  rfl

theorem routed_apply (R : Fin 16384) (C : Fin 4096) :
    val_main_v28 (F := Ideal) ys w (ix2 R C)
      = ∑ k : Fin 4, (w (ix2 (up R) k)
          * unp (fun j => ys (ix2 ⟨16640 * k.val + (up R).val, by omega⟩ j)) C : EReal) := by
  rw [val_main_v28_apply, val_main_cst_apply]
  refine (congrArg (· + _) zero_word).trans ((zero_add _).trans (Finset.sum_congr rfl fun k _ => ?_))
  rw [val_main_v27_apply, val_main_v26_apply, val_main_v25_apply, val_main_v24_apply,
    val_main_v23_apply, val_main_v22_apply, slots_eq, ← CombineRef.slot_apply ys k (up R) C]
  refine congr (congrArg HMul.hMul (congrArg w (funext fun a => ?_))) (congrArg
    (Cert.CombineReferenceIdeal.Read.val_main_v20 (F := Ideal) ys) (funext fun a => ?_))
  · match a with | ⟨0, _⟩ => rfl | ⟨1, _⟩ => rfl
  · match a with | ⟨0, _⟩ => rfl | ⟨1, _⟩ => rfl | ⟨2, _⟩ => rfl

theorem gate_apply (R : Fin 16384) (C : Fin 4096) :
    val_main_v35 (F := Ideal) mods (ix2 R C) = mods (ix4 (CombineRef.half (up R)) 5 0 C) := by
  rw [show CombineRef.half (up R) = 0 from Fin.ext (by
    show R.val / 16384 = 0
    omega)]
  unfold val_main_v35 val_main_v34 val_main_v33
  pointwise

theorem pre_apply (R : Fin 16384) (C : Fin 4096) :
    val_main_v37 (F := Ideal) x tok g u d ys w mods (ix2 R C)
      = preRow x tok g u d ys w mods gain bias R C := by
  have hx : val_main_v30 (F := Ideal) x (ix2 R C) = x (ix2 (up R) C) := by
    unfold val_main_v30 up
    pointwise
  rw [val_main_v37_apply, val_main_v36_apply, val_main_v32_apply, val_main_v31_apply,
    val_main_v29_apply, gate_apply, routed_apply, shared_apply tok g u d gain bias, hx,
    val_main_cst_3_apply, Fin.sum_univ_four]
  unfold preRow pre
  simp only [row, add_assoc]
  rfl

theorem mean_apply (R : Fin 16384) (q : Fin 1) :
    val_main_v41 (F := Ideal) x tok g u d ys w mods (ix2 R q)
      = mean (preRow x tok g u d ys w mods gain bias R) := by
  rw [show preRow x tok g u d ys w mods gain bias R
      = fun k => val_main_v37 (F := Ideal) x tok g u d ys w mods (ix2 R k) from
    funext fun k => (pre_apply x tok g u d ys w mods gain bias R k).symm]
  unfold val_main_v41 val_main_v40 val_main_v39 val_main_v38 val_main_cst_4 val_main_cst_5 mean
  generalize val_main_v37 (F := Ideal) x tok g u d ys w mods = y
  pointwise

theorem centre_apply (R : Fin 16384) (C : Fin 4096) :
    val_main_v43 (F := Ideal) x tok g u d ys w mods (ix2 R C)
      = (preRow x tok g u d ys w mods gain bias R C
          - mean (preRow x tok g u d ys w mods gain bias R) : EReal) := by
  rw [val_main_v43_apply, val_main_v42_apply, pre_apply x tok g u d ys w mods gain bias,
    show idx_main_v42 (ix2 R C) = ix2 R 0 from
      funext fun a => by match a with | ⟨0, _⟩ => rfl | ⟨1, _⟩ => rfl,
    mean_apply x tok g u d ys w mods gain bias]
  rfl

theorem spread_apply (R : Fin 16384) (q : Fin 1) :
    val_main_v48 (F := Ideal) x tok g u d ys w mods (ix2 R q)
      = mean (fun k => (preRow x tok g u d ys w mods gain bias R k
          - mean (preRow x tok g u d ys w mods gain bias R))
        * (preRow x tok g u d ys w mods gain bias R k
          - mean (preRow x tok g u d ys w mods gain bias R))) := by
  simp only [← centre_apply x tok g u d ys w mods gain bias]
  unfold val_main_v48 val_main_v47 val_main_v46 val_main_v45 val_main_v44 val_main_cst_6
    val_main_cst_7 mean
  generalize val_main_v43 (F := Ideal) x tok g u d ys w mods = y
  pointwise

/-- A row of the reference's result. -/
theorem out_apply (R : Fin 16384) (C : Fin 4096) :
    val_main_v61 (F := Ideal) x tok g u d ys w mods gain bias (ix2 R C)
      = out (weights g u d gain bias) (row x tok ys w mods (up R)) C := by
  have hb : val_main_v60 (F := Ideal) bias (ix2 R C) = bias (ix1 C) := by
    unfold val_main_v60 val_main_v59
    pointwise
  have hg : val_main_v57 (F := Ideal) gain (ix2 R C) = gain (ix1 C) := by
    unfold val_main_v57 val_main_v56
    pointwise
  rw [val_main_v61_apply, val_main_v58_apply, val_main_v55_apply, hb, hg, val_main_v54_apply,
    val_main_v53_apply, val_main_v52_apply, val_main_v51_apply, val_main_cst_8_apply,
    show idx_main_v54 (ix2 R C) = ix2 R 0 from
      funext fun a => by match a with | ⟨0, _⟩ => rfl | ⟨1, _⟩ => rfl,
    spread_apply x tok g u d ys w mods gain bias,
    show val_main_v50 (F := Ideal) x tok g u d ys w mods (ix2 R C)
      = val_main_v43 (F := Ideal) x tok g u d ys w mods (ix2 R C) from rfl,
    centre_apply x tok g u d ys w mods gain bias]
  rfl

end Cert.Proof.CombineLastRef

end

end
-- ==== Proof.CombineLast.lean ====
module

public import proofs.«01_k».proof.Proof.Combine
public import proofs.«01_k».proof.Proof.CombineLastRef
public import proofs.«01_k».proof.Proof.Gen.CombineLastIdeal.Value
public import proofs.«01_k».proof.Proof.Gen.CombineLastReferenceIdeal.Run

@[expose] public section

set_option backward.proofsInPublic true

/-!
The last layer's combination of the experts: every grid point writes its block of latent rows.
-/

noncomputable section

namespace Cert.Proof.CombineLast

open Idealize.ShloMosaic Idealize.ShloMosaic.TcCoe Idealize.ShloMosaic.Tactic
open Idealize.SL.Sem
open Cert.CombineLastIdeal Cert.CombineLastIdeal.Gen
open Cert.Proof.Moe
open Cert.Proof.Combine (weights_of row_of joined joined_left joined_right)

variable (m : (ℓ : Loc nD τ sig) → Buf (Elt Ideal) ℓ)

/-- The arguments of a device. -/
abbrev argX (c : Dev nD) : Vec Ideal S16640x4096 .f32 := m ((c : Thread nD τ).loc main_arg0)
abbrev argT (c : Dev nD) : Vec Ideal S16640x2048 .i32 := m ((c : Thread nD τ).loc main_arg1)
abbrev argG (c : Dev nD) : Vec Ideal S4096x384 .f32 := m ((c : Thread nD τ).loc main_arg2)
abbrev argU (c : Dev nD) : Vec Ideal S4096x384 .f32 := m ((c : Thread nD τ).loc main_arg3)
abbrev argD (c : Dev nD) : Vec Ideal S384x4096 .f32 := m ((c : Thread nD τ).loc main_arg4)
abbrev argY (c : Dev nD) : Vec Ideal S67072x2048 .i32 := m ((c : Thread nD τ).loc main_arg5)
abbrev argW (c : Dev nD) : Vec Ideal S16640x4 .f32 := m ((c : Thread nD τ).loc main_arg6)
abbrev argM (c : Dev nD) : Vec Ideal S2x6x1x4096 .f32 := m ((c : Thread nD τ).loc main_arg7)
abbrev argGain (c : Dev nD) : Vec Ideal S4096 .f32 := m ((c : Thread nD τ).loc main_arg8)
abbrev argBias (c : Dev nD) : Vec Ideal S4096 .f32 := m ((c : Thread nD τ).loc main_arg9)

theorem idx0 (t : Fin cfg0.N) : win0_0.index t = ![(grid0.coords t 0).val, 0] := by
  revert t; decide +kernel
theorem idx1 (t : Fin cfg0.N) : win0_1.index t = ![(grid0.coords t 0).val, 0] := by
  revert t; decide +kernel
theorem idx2 (t : Fin cfg0.N) : win0_2.index t = ![0, 0] := by
  revert t; decide +kernel
theorem idx3 (t : Fin cfg0.N) : win0_3.index t = ![0, 0] := by
  revert t; decide +kernel
theorem idx4 (t : Fin cfg0.N) : win0_4.index t = ![(grid0.coords t 0).val, 0] := by
  revert t; decide +kernel
theorem idx5 (t : Fin cfg0.N) : win0_5.index t = ![130 + (grid0.coords t 0).val, 0] := by
  revert t; decide +kernel
theorem idx6 (t : Fin cfg0.N) : win0_6.index t = ![260 + (grid0.coords t 0).val, 0] := by
  revert t; decide +kernel
theorem idx7 (t : Fin cfg0.N) : win0_7.index t = ![390 + (grid0.coords t 0).val, 0] := by
  revert t; decide +kernel
theorem idx8 (t : Fin cfg0.N) : win0_8.index t = ![(grid0.coords t 0).val, 0] := by
  revert t; decide +kernel
theorem idx9 (t : Fin cfg0.N) : win0_9.index t = ![0, 5, 0, 0] := by
  revert t; decide +kernel
theorem idx10 (t : Fin cfg0.N) : win0_10.index t = ![0, 0] := by
  revert t; decide +kernel
theorem idx11 (t : Fin cfg0.N) : win0_11.index t = ![0, 0] := by
  revert t; decide +kernel
theorem idx12 (t : Fin cfg0.N) : win0_12.index t = ![(grid0.coords t 0).val, 0] := by
  revert t; decide +kernel

/-- A grid point is below 128. -/
theorem point_lt (t : Fin cfg0.N) : (grid0.coords t 0).val < 128 := (grid0.coords t 0).isLt

/-- The latent row that a row of a grid point's blocks is. -/
def at_last (t : Fin cfg0.N) (r : Fin 128) : Fin 16384 :=
  ⟨128 * (grid0.coords t 0).val + r.val, by have := point_lt t; omega⟩

/-- The row of the arguments that a row of a grid point's blocks is. -/
abbrev at_row (t : Fin cfg0.N) (r : Fin 128) : Fin 16640 := CombineLastRef.up (at_last t r)

theorem x_block (c : Dev nD) (t : Fin cfg0.N) (r : Fin 128) (k : Fin 4096) :
    iblk m c 0 t (ix2 r k) = argX m c (ix2 (at_row t r) k) := by
  unfold at_row CombineLastRef.up at_last
  blk_ext [iblk, V_main_arg0, idx0 t]

theorem tok_block (c : Dev nD) (t : Fin cfg0.N) (r : Fin 128) (k : Fin 2048) :
    iblk m c 1 t (ix2 r k) = argT m c (ix2 (at_row t r) k) := by
  unfold at_row CombineLastRef.up at_last
  blk_ext [iblk, V_main_arg1, idx1 t]

theorem V_joined (c : Dev nD) : V m c main_v1 = joined (argG m c) (argU m c) := by
  rfl

theorem joined_block (c : Dev nD) (t : Fin cfg0.N) (k : Fin 4096) (j : Fin 768) :
    iblk m c 2 t (ix2 k j) = joined (argG m c) (argU m c) (ix2 k j) := by
  blk_ext [iblk, V_joined, idx2 t]

theorem g_block (c : Dev nD) (t : Fin cfg0.N) (k : Fin 4096) (j : Fin 384) :
    iblk m c 2 t (ix2 k (⟨j.val, by omega⟩ : Fin 768)) = (argG m c (ix2 k j) : EReal) :=
  (joined_block m c t k ⟨j.val, by omega⟩).trans (joined_left _ _ k j)

theorem u_block (c : Dev nD) (t : Fin cfg0.N) (k : Fin 4096) (j : Fin 384) :
    iblk m c 2 t (ix2 k (⟨384 + j.val, by omega⟩ : Fin 768)) = (argU m c (ix2 k j) : EReal) :=
  (joined_block m c t k ⟨384 + j.val, by omega⟩).trans (joined_right _ _ k j)

theorem d_block (c : Dev nD) (t : Fin cfg0.N) (j : Fin 384) (k : Fin 4096) :
    iblk m c 3 t (ix2 j k) = (argD m c (ix2 j k) : EReal) := by
  blk_ext! [iblk, V, idx3 t]

theorem y0_block (c : Dev nD) (t : Fin cfg0.N) (r : Fin 128) (k : Fin 2048) :
    iblk m c 4 t (ix2 r k) = argY m c (ix2 ⟨(at_row t r).val, by omega⟩ k) := by
  unfold at_row CombineLastRef.up at_last
  blk_ext [iblk, V_main_arg5, idx4 t]

theorem y1_block (c : Dev nD) (t : Fin cfg0.N) (r : Fin 128) (k : Fin 2048) :
    iblk m c 5 t (ix2 r k) = argY m c (ix2 ⟨16640 + (at_row t r).val, by omega⟩ k) := by
  unfold at_row CombineLastRef.up at_last
  blk_ext [iblk, V_main_arg5, idx5 t]

theorem y2_block (c : Dev nD) (t : Fin cfg0.N) (r : Fin 128) (k : Fin 2048) :
    iblk m c 6 t (ix2 r k) = argY m c (ix2 ⟨33280 + (at_row t r).val, by omega⟩ k) := by
  unfold at_row CombineLastRef.up at_last
  blk_ext [iblk, V_main_arg5, idx6 t]

theorem y3_block (c : Dev nD) (t : Fin cfg0.N) (r : Fin 128) (k : Fin 2048) :
    iblk m c 7 t (ix2 r k) = argY m c (ix2 ⟨49920 + (at_row t r).val, by omega⟩ k) := by
  unfold at_row CombineLastRef.up at_last
  blk_ext [iblk, V_main_arg5, idx7 t]

theorem w_block (c : Dev nD) (t : Fin cfg0.N) (r : Fin 128) (k : Fin 4) :
    iblk m c 8 t (ix2 r k) = argW m c (ix2 (at_row t r) k) := by
  unfold at_row CombineLastRef.up at_last
  blk_ext [iblk, V_main_arg6, idx8 t]

theorem gate_block (c : Dev nD) (t : Fin cfg0.N) (k : Fin 4096) :
    iblk m c 9 t (ix4 0 0 0 k) = argM m c (ix4 0 5 0 k) := by
  blk_ext [iblk, V_main_arg7, idx9 t]

theorem gain_block (c : Dev nD) (t : Fin cfg0.N) (k : Fin 4096) :
    iblk m c 10 t (ix2 0 k) = argGain m c (ix1 k) := by
  blk_ext! [iblk, V, idx10 t]

theorem bias_block (c : Dev nD) (t : Fin cfg0.N) (k : Fin 4096) :
    iblk m c 11 t (ix2 0 k) = argBias m c (ix1 k) := by
  blk_ext! [iblk, V, idx11 t]

/-- The weights a grid point reads are the reference's. -/
theorem weights_eq (c : Dev nD) (t : Fin cfg0.N) :
    Moe.weights (iblk m c 2 t) (iblk m c 3 t) (iblk m c 10 t) (iblk m c 11 t)
      = CombineRef.weights (argG m c) (argU m c) (argD m c) (argGain m c) (argBias m c) :=
  weights_of _ _ _ _ _ _ _ _ _ (g_block m c t) (u_block m c t) (d_block m c t) (gain_block m c t)
    (bias_block m c t)

/-- A row of a grid point's blocks is the reference's. -/
theorem row_eq (c : Dev nD) (t : Fin cfg0.N) (r : Fin 128) :
    Moe.row (iblk m c 0 t) (iblk m c 1 t) (iblk m c 4 t) (iblk m c 5 t) (iblk m c 6 t)
        (iblk m c 7 t) (iblk m c 8 t) (iblk m c 9 t) r
      = CombineRef.row (argX m c) (argT m c) (argY m c) (argW m c) (argM m c) (at_row t r) :=
  row_of _ _ _ _ _ _ _ _ _ _ _ _ _ r (at_row t r) (x_block m c t r) (tok_block m c t r)
    (y0_block m c t r) (y1_block m c t r) (y2_block m c t r) (y3_block m c t r) (w_block m c t r)
    fun k => by
      rw [show CombineRef.half (at_row t r) = 0 from Fin.ext (by
        show (at_last t r).val / 16384 = 0
        omega)]
      exact gate_block m c t k

/-- The reference's result at a device's arguments. -/
def result (c : Dev nD) : Vec Ideal S16384x4096 .f32 :=
  Cert.CombineLastReferenceIdeal.Read.val_main_v61 (F := Ideal) (argX m c) (argT m c) (argG m c)
    (argU m c) (argD m c) (argY m c) (argW m c) (argM m c) (argGain m c) (argBias m c)

/-- What a grid point stores. -/
theorem stored (x0 : Vec Ideal S128x4096 .f32) (x1 : Vec Ideal S128x2048 .i32)
    (x2 : Vec Ideal S4096x768 .bf16) (x3 : Vec Ideal S384x4096 .bf16)
    (x4 x5 x6 x7 : Vec Ideal S128x2048 .i32) (x8 : Vec Ideal S128x4 .f32)
    (x9 : Vec Ideal S1x1x1x4096 .f32) (x10 x11 : Vec Ideal S1x4096 .f32) (r : Fin 128)
    (C : Fin 4096) :
    out0_12 (F := Ideal) x0 x1 x2 x3 x4 x5 x6 x7 x8 x9 x10 x11 (ix2 r C)
      = out (Moe.weights x2 x3 x10 x11) (Moe.row x0 x1 x4 x5 x6 x7 x8 x9 r) C :=
  (congrFun (show out0_12 (F := Ideal) x0 x1 x2 x3 x4 x5 x6 x7 x8 x9 x10 x11
      = Cert.CombineIdeal.Gen.out0_14 (F := Ideal) x0 x1 x2 x3 x4 x5 x6 x7 x8 x9 x10 x11 x9 x9 from
    rfl) _).trans (stored_out x0 x1 x2 x3 x4 x5 x6 x7 x8 x9 x10 x11 x9 x9 r C)

/-- Every grid point writes its block of the result. -/
theorem block (c : Dev nD) (t : Fin cfg0.N) (r : Fin 128) (k : Fin 4096) :
    out0_12 (F := Ideal) (iblk m c 0 t) (iblk m c 1 t) (iblk m c 2 t) (iblk m c 3 t) (iblk m c 4 t)
        (iblk m c 5 t) (iblk m c 6 t) (iblk m c 7 t) (iblk m c 8 t) (iblk m c 9 t) (iblk m c 10 t)
        (iblk m c 11 t) (ix2 r k)
      = result m c (ix2 (at_last t r) k) := by
  refine (stored _ _ _ _ _ _ _ _ _ _ _ _ r k).trans ?_
  rw [weights_eq, row_eq]
  exact (CombineLastRef.out_apply _ _ _ _ _ _ _ _ _ _ (at_last t r) k).symm

/-- The array the program leaves is the reference's result. -/
theorem arr (c : Dev nD) : (dats m 0 c).arrAt 12 (cfgs 0).N = result m c := by
  refine (dats m 0 c).arrAt_eq_of_covers 12 _ (by decide +kernel) fun t hf y => ?_
  blk_simp
  rw [after0_12]
  refine ((congrArg (out0_12 _ _ _ _ _ _ _ _ _ _ _ _) (Combine.at_coords y)).trans
    (block m c t (y 0) (y 1))).trans ?_
  generalize result m c = G
  unfold at_last
  blk_ext [idx12 t]

theorem frame_ri : Cert.quiescent_CombineLastReferenceIdeal := fun m ρ _ =>
  (θ_run Cert.CombineLastReferenceIdeal.defs _ _).mono (fun r h => ⟨fun c => (h c).2,
      Idealize.ShloMosaic.sem_eq_zero_of_no_sems (by decide) r.2⟩)
    (Cert.CombineLastReferenceIdeal.Value.run (F := Ideal) m ρ)

theorem algebraic : Cert.algebraic_CombineLastIdeal_CombineLastReferenceIdeal := by
  intro m ρ m' ρ' _ hagree
  refine ⟨fun c => result m c, ?_, ?_⟩
  · exact (θ_run Cert.CombineLastIdeal.defs _ _).mono
      (fun _ h c => ⟨(h c).1.trans (arr m c), (h c).2⟩)
      (Cert.CombineLastIdeal.Value.run_blocks (F := Ideal) m ρ)
  · refine (θ_run Cert.CombineLastReferenceIdeal.defs _ _).mono
      (fun _ h c => ⟨(h c).1.trans ?_, (h c).2⟩)
      (Cert.CombineLastReferenceIdeal.Value.run (F := Ideal) m' ρ')
    obtain ⟨h0, h1, h2, h3, h4, h5, h6, h7, h8, h9⟩ := hagree c
    rw [Cert.CombineLastReferenceIdeal.Read.val_main_v61_eq, h0, h1, h2, h3, h4, h5, h6, h7, h8, h9]
    rfl

end Cert.Proof.CombineLast

end

end
-- ==== Proof.lean ====
module

public import proofs.«01_k».proof.Defs
public import proofs.«01_k».proof.Proof.Claims
public import proofs.«01_k».proof.Proof.GmlpIn
public import proofs.«01_k».proof.Proof.Gen.GmlpIn.Frame
public import proofs.«01_k».proof.Proof.NaQkv
public import proofs.«01_k».proof.Proof.Gen.NaQkv.Frame
public import proofs.«01_k».proof.Proof.GaQkv
public import proofs.«01_k».proof.Proof.Gen.GaQkv.Frame
public import proofs.«01_k».proof.Proof.OutProj
public import proofs.«01_k».proof.Proof.Gen.OutProj.Frame
public import proofs.«01_k».proof.Proof.Combine
public import proofs.«01_k».proof.Proof.Gen.Combine.Frame
public import proofs.«01_k».proof.Proof.CombineLast
public import proofs.«01_k».proof.Proof.Gen.CombineLast.Frame
public import proofs.«01_k».proof.Proof.Gen.GmlpInIdeal.Frame
public import proofs.«01_k».proof.Proof.Gen.GmlpInIdeal.Value
public import proofs.«01_k».proof.Proof.Gen.GmlpInReferenceIdeal.Run
public import proofs.«01_k».proof.Proof.Gen.GmlpInReferenceIdeal.Read
public import proofs.«01_k».proof.Proof.Gen.NaQkvIdeal.Frame
public import proofs.«01_k».proof.Proof.Gen.NaQkvIdeal.Value
public import proofs.«01_k».proof.Proof.Gen.NaQkvReferenceIdeal.Run
public import proofs.«01_k».proof.Proof.Gen.NaQkvReferenceIdeal.Read
public import proofs.«01_k».proof.Proof.Gen.GaQkvIdeal.Frame
public import proofs.«01_k».proof.Proof.Gen.GaQkvIdeal.Value
public import proofs.«01_k».proof.Proof.Gen.GaQkvReferenceIdeal.Run
public import proofs.«01_k».proof.Proof.Gen.GaQkvReferenceIdeal.Read
public import proofs.«01_k».proof.Proof.Gen.OutProjIdeal.Frame
public import proofs.«01_k».proof.Proof.Gen.OutProjIdeal.Value
public import proofs.«01_k».proof.Proof.Gen.OutProjReferenceIdeal.Run
public import proofs.«01_k».proof.Proof.Gen.OutProjReferenceIdeal.Read
public import proofs.«01_k».proof.Proof.Gen.CombineIdeal.Frame
public import proofs.«01_k».proof.Proof.Gen.CombineIdeal.Value
public import proofs.«01_k».proof.Proof.Gen.CombineReferenceIdeal.Run
public import proofs.«01_k».proof.Proof.Gen.CombineReferenceIdeal.Read
public import proofs.«01_k».proof.Proof.Gen.CombineLastIdeal.Frame
public import proofs.«01_k».proof.Proof.Gen.CombineLastIdeal.Value
public import proofs.«01_k».proof.Proof.Gen.CombineLastReferenceIdeal.Run
public import proofs.«01_k».proof.Proof.Gen.CombineLastReferenceIdeal.Read

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.GmlpIn.Gen.facts, Cert.GmlpInIdeal.Gen.facts, Cert.GmlpInReferenceIdeal.Gen.facts,
    Cert.NaQkv.Gen.facts, Cert.NaQkvIdeal.Gen.facts, Cert.NaQkvReferenceIdeal.Gen.facts,
    Cert.GaQkv.Gen.facts, Cert.GaQkvIdeal.Gen.facts, Cert.GaQkvReferenceIdeal.Gen.facts,
    Cert.OutProj.Gen.facts, Cert.OutProjIdeal.Gen.facts, Cert.OutProjReferenceIdeal.Gen.facts,
    Cert.Combine.Gen.facts, Cert.CombineIdeal.Gen.facts, Cert.CombineReferenceIdeal.Gen.facts,
    Cert.CombineLast.Gen.facts, Cert.CombineLastIdeal.Gen.facts,
    Cert.CombineLastReferenceIdeal.Gen.facts,
    finiteFacts,
    frame_p,
    frame_pi,
    frame_pi_finite,
    frame_ri,
    frame_ri_finite,
    fun m ρ _ => Cert.GmlpIn.Gen.frame m ρ,
    fun m ρ _ => Cert.GmlpInIdeal.Gen.frame m ρ,
    GmlpIn.frame_ri,
    fun m ρ _ => Cert.NaQkv.Gen.frame m ρ,
    fun m ρ _ => Cert.NaQkvIdeal.Gen.frame m ρ,
    NaQkv.frame_ri,
    fun m ρ _ => Cert.GaQkv.Gen.frame m ρ,
    fun m ρ _ => Cert.GaQkvIdeal.Gen.frame m ρ,
    GaQkv.frame_ri,
    fun m ρ _ => Cert.OutProj.Gen.frame m ρ,
    fun m ρ _ => Cert.OutProjIdeal.Gen.frame m ρ,
    OutProj.frame_ri,
    fun m ρ _ => Cert.Combine.Gen.frame m ρ,
    fun m ρ _ => Cert.CombineIdeal.Gen.frame m ρ,
    Combine.frame_ri,
    fun m ρ _ => Cert.CombineLast.Gen.frame m ρ,
    fun m ρ _ => Cert.CombineLastIdeal.Gen.frame m ρ,
    CombineLast.frame_ri,
    preserves, algebraic, trivial, GmlpIn.algebraic, trivial, NaQkv.algebraic, trivial,
    GaQkv.algebraic, trivial, OutProj.algebraic, trivial, Combine.algebraic, trivial,
    CombineLast.algebraic⟩

end Cert.Proof

end
